-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v38_0)) (v1 : (c : Dev Cert.Kernel4Ideal.nD) → Buf (Elt Ideal) ((c.tc : Thread Cert.Kernel4Ideal.nD Cert.Kernel4Ideal.τ).loc Cert.Kernel4Ideal.main_v38_1)) (v2 : (c : Dev Cert.Kernel4Ideal.nD) → Buf (Elt Ideal) ((c.tc : Thread Cert.Kernel4Ideal.nD Cert.Kernel4Ideal.τ).loc Cert.Kernel4Ideal.main_v38_2)) (v3 : (c : Dev Cert.Kernel4Ideal.nD) → Buf (Elt Ideal) ((c.tc : Thread Cert.Kernel4Ideal.nD Cert.Kernel4Ideal.τ).loc Cert.Kernel4Ideal.main_v38_3)) (v4 : (c : Dev Cert.Kernel4Ideal.nD) → Buf (Elt Ideal) ((c.tc : Thread Cert.Kernel4Ideal.nD Cert.Kernel4Ideal.τ).loc Cert.Kernel4Ideal.main_v38_4)) (v5 : (c : Dev Cert.Kernel4Ideal.nD) → Buf (Elt Ideal) ((c.tc : Thread Cert.Kernel4Ideal.nD Cert.Kernel4Ideal.τ).loc Cert.Kernel4Ideal.main_v38_5)) (v6 : (c : Dev Cert.Kernel4Ideal.nD) → Buf (Elt Ideal) ((c.tc : Thread Cert.Kernel4Ideal.nD Cert.Kernel4Ideal.τ).loc Cert.Kernel4Ideal.main_v38_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v38_0) = v0 c
          ∧ r.2.mem ((c.tc : Thread Cert.Kernel4Ideal.nD Cert.Kernel4Ideal.τ).loc Cert.Kernel4Ideal.main_v38_1) = v1 c
          ∧ r.2.mem ((c.tc : Thread Cert.Kernel4Ideal.nD Cert.Kernel4Ideal.τ).loc Cert.Kernel4Ideal.main_v38_2) = v2 c
          ∧ r.2.mem ((c.tc : Thread Cert.Kernel4Ideal.nD Cert.Kernel4Ideal.τ).loc Cert.Kernel4Ideal.main_v38_3) = v3 c
          ∧ r.2.mem ((c.tc : Thread Cert.Kernel4Ideal.nD Cert.Kernel4Ideal.τ).loc Cert.Kernel4Ideal.main_v38_4) = v4 c
          ∧ r.2.mem ((c.tc : Thread Cert.Kernel4Ideal.nD Cert.Kernel4Ideal.τ).loc Cert.Kernel4Ideal.main_v38_5) = v5 c
          ∧ r.2.mem ((c.tc : Thread Cert.Kernel4Ideal.nD Cert.Kernel4Ideal.τ).loc Cert.Kernel4Ideal.main_v38_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v82) = v0 c
          ∧ r.2.mem ((c.tc : Thread Cert.Reference4Ideal.nD Cert.Reference4Ideal.τ).loc Cert.Reference4Ideal.main_v84) = v1 c
          ∧ r.2.mem ((c.tc : Thread Cert.Reference4Ideal.nD Cert.Reference4Ideal.τ).loc Cert.Reference4Ideal.main_v85) = v2 c
          ∧ r.2.mem ((c.tc : Thread Cert.Reference4Ideal.nD Cert.Reference4Ideal.τ).loc Cert.Reference4Ideal.main_v86) = v3 c
          ∧ r.2.mem ((c.tc : Thread Cert.Reference4Ideal.nD Cert.Reference4Ideal.τ).loc Cert.Reference4Ideal.main_v88) = v4 c
          ∧ r.2.mem ((c.tc : Thread Cert.Reference4Ideal.nD Cert.Reference4Ideal.τ).loc Cert.Reference4Ideal.main_v90) = v5 c
          ∧ r.2.mem ((c.tc : Thread Cert.Reference4Ideal.nD Cert.Reference4Ideal.τ).loc Cert.Reference4Ideal.main_v93) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_inputs.lean ====
abbrev S4x8192x1024 : Shape := ⟨3, ![4, 8192, 1024]⟩
abbrev S4x64 : Shape := ⟨2, ![4, 64]⟩
abbrev S128 : Shape := ⟨1, ![128]⟩
abbrev S_ : Shape := ⟨0, ![]⟩

class Facts : Prop where
  bcast_S_S4x8192x1024 : S_.BroadcastsInDim S4x8192x1024 (![] : Fin 0 → Fin S4x8192x1024.rank)
  bcast_S_S4x64 : S_.BroadcastsInDim S4x64 (![] : Fin 0 → Fin S4x64.rank)

variable [Facts]

def fn {F : FTy → Type} [FloatOps F] (main_arg0 : FVec F S4x8192x1024 .f32) (main_arg1 : FVec F S4x8192x1024 .f32) (main_arg2 : FVec F S4x8192x1024 .f32) (main_arg3 : FVec F S4x8192x1024 .f32) (main_arg4 : FVec F S4x64 .f32) (main_arg5 : FVec F S128 .f32) : IVec S4x8192x1024 1 × IVec S4x8192x1024 1 × IVec S4x8192x1024 1 × IVec S4x64 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S4x8192x1024 .f32 := Host.absf main_arg1
  let main_cst_0 : FVec F S_ .f32 := constant S_ .f32 0x7F800000#32
  let main_v4 : FVec F S4x8192x1024 .f32 := broadcastInDim S4x8192x1024 ![] bcast_S_S4x8192x1024 main_cst_0
  let main_v5 : IVec S4x8192x1024 1 := cmpf .olt main_v3 main_v4
  let main_v6 : FVec F S4x8192x1024 .f32 := Host.absf main_arg2
  let main_cst_1 : FVec F S_ .f32 := constant S_ .f32 0x7F800000#32
  let main_v7 : FVec F S4x8192x1024 .f32 := broadcastInDim S4x8192x1024 ![] bcast_S_S4x8192x1024 main_cst_1
  let main_v8 : IVec S4x8192x1024 1 := cmpf .olt main_v6 main_v7
  let main_v9 : FVec F S4x64 .f32 := Host.absf main_arg4
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  (main_v2, main_v5, main_v8, main_v11)
-- ==== Kernel.lean ====
abbrev S4x8192x1024 : Shape := ⟨3, ![4, 8192, 1024]⟩
abbrev S4x64 : Shape := ⟨2, ![4, 64]⟩
abbrev S128 : Shape := ⟨1, ![128]⟩
abbrev S_ : Shape := ⟨0, ![]⟩
abbrev S1x128 : Shape := ⟨2, ![1, 128]⟩
abbrev S1x1024x128 : Shape := ⟨3, ![1, 1024, 128]⟩
abbrev S1x8192x128 : Shape := ⟨3, ![1, 8192, 128]⟩
abbrev S2x1024x128 : Shape := ⟨3, ![2, 1024, 128]⟩
abbrev S2x1024x1024 : Shape := ⟨3, ![2, 1024, 1024]⟩
abbrev S2x1x1024 : Shape := ⟨3, ![2, 1, 1024]⟩
abbrev S2x128x1024 : Shape := ⟨3, ![2, 128, 1024]⟩
abbrev S1024x128 : Shape := ⟨2, ![1024, 128]⟩
abbrev S1024x1024 : Shape := ⟨2, ![1024, 1024]⟩
abbrev S1x1024x1024 : Shape := ⟨3, ![1, 1024, 1024]⟩
abbrev S1024 : Shape := ⟨1, ![1024]⟩
abbrev S1x1024 : Shape := ⟨2, ![1, 1024]⟩
abbrev S1x1x1024 : Shape := ⟨3, ![1, 1, 1024]⟩
abbrev S128x1024 : Shape := ⟨2, ![128, 1024]⟩
abbrev S16x1024 : Shape := ⟨2, ![16, 1024]⟩
abbrev S144x1024 : Shape := ⟨2, ![144, 1024]⟩
abbrev S1x128x1024 : Shape := ⟨3, ![1, 128, 1024]⟩
abbrev S1x64 : Shape := ⟨2, ![1, 64]⟩
abbrev S1 : Shape := ⟨1, ![1]⟩
abbrev S1x1 : Shape := ⟨2, ![1, 1]⟩
abbrev S1024x1 : Shape := ⟨2, ![1024, 1]⟩

abbrev nBuf : Space → Nat
  | .hbm => 20
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S4x64, .f32⟩
  | .hbm, ⟨5, _⟩ => ⟨S128, .f32⟩
  | .hbm, ⟨6, _⟩ => ⟨S4x8192x1024, .bf16⟩
  | .hbm, ⟨7, _⟩ => ⟨S4x8192x1024, .bf16⟩
  | .hbm, ⟨8, _⟩ => ⟨S4x8192x1024, .f32⟩
  | .hbm, ⟨9, _⟩ => ⟨S4x8192x1024, .f32⟩
  | .hbm, ⟨10, _⟩ => ⟨S_, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .bf16⟩
  | .hbm, ⟨18, _⟩ => ⟨S1x128, .f32⟩
  | .hbm, ⟨19, _⟩ => ⟨S4x8192x1024, .bf16⟩
  | .local _ .vmem, ⟨0, _⟩ => ⟨S4x64, .f32⟩
  | .local _ .vmem, ⟨1, _⟩ => ⟨S1x1024x128, .f32⟩
  | .local _ .vmem, ⟨2, _⟩ => ⟨S1x1024x128, .f32⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x128, .f32⟩
  | .local _ .vmem, ⟨10, _⟩ => ⟨S1x1024x128, .bf16⟩
  | .local _ .vmem, ⟨11, _⟩ => ⟨S1x1024x128, .bf16⟩
  | .local _ .vmem, ⟨12, _⟩ => ⟨S2x1024x128, .bf16⟩
  | .local _ .vmem, ⟨13, _⟩ => ⟨S2x1024x1024, .f32⟩
  | .local _ .vmem, ⟨14, _⟩ => ⟨S2x1024x1024, .f32⟩
  | .local _ .vmem, ⟨15, _⟩ => ⟨S2x1x1024, .f32⟩
  | .local _ .vmem, ⟨16, _⟩ => ⟨S2x1x1024, .f32⟩
  | .local _ .vmem, ⟨17, _⟩ => ⟨S2x1x1024, .f32⟩
  | .local _ .vmem, ⟨18, _⟩ => ⟨S2x1x1024, .f32⟩
  | .local _ .vmem, ⟨19, _⟩ => ⟨S2x128x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v31 : BitVec 32 := Scalar.muli arg2 c1024_i32
  v31
def k0_off1 (i : grid0.Coords) : Fin 3 → Nat :=
  let c0_21 : Index := 0#32
  let arg2 : BitVec 32 := BitVec.ofNat 32 (i 2).val
  let c1024_i32 : BitVec 32 := 1024#32
  let v31 : BitVec 32 := Scalar.muli arg2 c1024_i32
  let v32 : BitVec 32 := v31
  let v33 : Index := Scalar.indexCast v32
  let c0_22 : Index := 0#32
  ![0, v33.toNat, 0]
@[reducible] def k0_t1_loop (i : grid0.Coords) : Scf.Loop 32 :=
  let c0_i32_52 : BitVec 32 := 0#32
  let arg2 : BitVec 32 := BitVec.ofNat 32 (i 2).val
  let c0_i32 : BitVec 32 := 0#32
  let v69 : BitVec 1 := Scalar.cmpi .sgt arg2 c0_i32
  let v70 : BitVec 32 := Scalar.extui v69
  let c0_i32_47 : BitVec 32 := 0#32
  let v71 : BitVec 1 := Scalar.cmpi .slt arg2 c0_i32_47
  let v72 : BitVec 32 := Scalar.extui v71
  let v73 : BitVec 32 := Scalar.subi v70 v72
  let c2_i32 : BitVec 32 := 2#32
  let c0_i32_48 : BitVec 32 := 0#32
  let v74 : BitVec 1 := Scalar.cmpi .sgt c2_i32 c0_i32_48
  let v75 : BitVec 32 := Scalar.extui v74
  let c0_i32_49 : BitVec 32 := 0#32
  let v76 : BitVec 1 := Scalar.cmpi .slt c2_i32 c0_i32_49
  let v77 : BitVec 32 := Scalar.extui v76
  let v78 : BitVec 32 := Scalar.subi v75 v77
  let v79 : BitVec 1 := Scalar.cmpi .ne v73 v78
  let v80 : BitVec 32 := Scalar.remsi arg2 c2_i32
  let c0_i32_50 : BitVec 32 := 0#32
  let v81 : BitVec 1 := Scalar.cmpi .ne v80 c0_i32_50
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_52
  let c1_i32_53 : BitVec 32 := 1#32
  let v87 : BitVec 32 := Scalar.divsi v85 c1_i32_53
  let v88 : BitVec 32 := Scalar.muli v87 c1_i32_53
  let v89 : BitVec 32 := Scalar.addi c0_i32_52 v88
  let c1_i32_54 : BitVec 32 := 1#32
  ⟨c0_i32_52, v89, c1_i32_54⟩
def k0_mult2 (i : grid0.Coords) (k0_t1 : Fin (k0_t1_loop i).trips) : BitVec 32 :=
  let c2_i32_104 : BitVec 32 := 2#32
  let c0_i32_52 : BitVec 32 := 0#32
  let c1_i32_54 : BitVec 32 := 1#32
  let arg18 : BitVec 32 := Scf.iv c0_i32_52 c1_i32_54 k0_t1
  let v176 : BitVec 32 := Scalar.muli c2_i32_104 arg18
  let c1024_i32_105 : BitVec 32 := 1024#32
  let v177 : BitVec 32 := Scalar.muli v176 c1024_i32_105
  v177
def k0_off2 (i : grid0.Coords) (k0_t1 : Fin (k0_t1_loop i).trips) : Fin 3 → Nat :=
  let c0_106 : Index := 0#32
  let c2_i32_104 : BitVec 32 := 2#32
  let c0_i32_52 : BitVec 32 := 0#32
  let c1_i32_54 : BitVec 32 := 1#32
  let arg18 : BitVec 32 := Scf.iv c0_i32_52 c1_i32_54 k0_t1
  let v176 : BitVec 32 := Scalar.muli c2_i32_104 arg18
  let c1024_i32_105 : BitVec 32 := 1024#32
  let v177 : BitVec 32 := Scalar.muli v176 c1024_i32_105
  let v178 : BitVec 32 := v177
  let v179 : Index := Scalar.indexCast v178
  let c0_107 : Index := 0#32
  ![0, v179.toNat, 0]
def k0_mult3 (i : grid0.Coords) (k0_t1 : Fin (k0_t1_loop i).trips) : BitVec 32 :=
  let c0_i32_52 : BitVec 32 := 0#32
  let c1_i32_54 : BitVec 32 := 1#32
  let arg18 : BitVec 32 := Scf.iv c0_i32_52 c1_i32_54 k0_t1
  let c0_i32_130 : BitVec 32 := 0#32
  let v204 : BitVec 1 := Scalar.cmpi .eq arg18 c0_i32_130
  let arg2 : BitVec 32 := BitVec.ofNat 32 (i 2).val
  let c2_i32_104 : BitVec 32 := 2#32
  let v176 : BitVec 32 := Scalar.muli c2_i32_104 arg18
  let c1_i32_131 : BitVec 32 := 1#32
  let v205 : BitVec 32 := Scalar.subi v176 c1_i32_131
  let v206 : BitVec 32 := Scalar.select v204 arg2 v205
  let c1024_i32_132 : BitVec 32 := 1024#32
  let v207 : BitVec 32 := Scalar.muli v206 c1024_i32_132
  v207
def k0_off3 (i : grid0.Coords) (k0_t1 : Fin (k0_t1_loop i).trips) : Fin 3 → Nat :=
  let c0_133 : Index := 0#32
  let c0_i32_52 : BitVec 32 := 0#32
  let c1_i32_54 : BitVec 32 := 1#32
  let arg18 : BitVec 32 := Scf.iv c0_i32_52 c1_i32_54 k0_t1
  let c0_i32_130 : BitVec 32 := 0#32
  let v204 : BitVec 1 := Scalar.cmpi .eq arg18 c0_i32_130
  let arg2 : BitVec 32 := BitVec.ofNat 32 (i 2).val
  let c2_i32_104 : BitVec 32 := 2#32
  let v176 : BitVec 32 := Scalar.muli c2_i32_104 arg18
  let c1_i32_131 : BitVec 32 := 1#32
  let v205 : BitVec 32 := Scalar.subi v176 c1_i32_131
  let v206 : BitVec 32 := Scalar.select v204 arg2 v205
  let c1024_i32_132 : BitVec 32 := 1024#32
  let v207 : BitVec 32 := Scalar.muli v206 c1024_i32_132
  let v208 : BitVec 32 := v207
  let v209 : Index := Scalar.indexCast v208
  let c0_134 : Index := 0#32
  ![0, v209.toNat, 0]
def k0_mult4 (i : grid0.Coords) (k0_t1 : Fin (k0_t1_loop i).trips) : BitVec 32 :=
  let c2_i32_104 : BitVec 32 := 2#32
  let c0_i32_52 : BitVec 32 := 0#32
  let c1_i32_54 : BitVec 32 := 1#32
  let arg18 : BitVec 32 := Scf.iv c0_i32_52 c1_i32_54 k0_t1
  let v176 : BitVec 32 := Scalar.muli c2_i32_104 arg18
  let c1_i32_186 : BitVec 32 := 1#32
  let v283 : BitVec 32 := Scalar.addi v176 c1_i32_186
  let c1024_i32_187 : BitVec 32 := 1024#32
  let v284 : BitVec 32 := Scalar.muli v283 c1024_i32_187
  v284
def k0_off4 (i : grid0.Coords) (k0_t1 : Fin (k0_t1_loop i).trips) : Fin 3 → Nat :=
  let c0_188 : Index := 0#32
  let c2_i32_104 : BitVec 32 := 2#32
  let c0_i32_52 : BitVec 32 := 0#32
  let c1_i32_54 : BitVec 32 := 1#32
  let arg18 : BitVec 32 := Scf.iv c0_i32_52 c1_i32_54 k0_t1
  let v176 : BitVec 32 := Scalar.muli c2_i32_104 arg18
  let c1_i32_186 : BitVec 32 := 1#32
  let v283 : BitVec 32 := Scalar.addi v176 c1_i32_186
  let c1024_i32_187 : BitVec 32 := 1024#32
  let v284 : BitVec 32 := Scalar.muli v283 c1024_i32_187
  let v285 : BitVec 32 := v284
  let v286 : Index := Scalar.indexCast v285
  let c0_189 : Index := 0#32
  ![0, v286.toNat, 0]
def k0_mult5 (i : grid0.Coords) (k0_t1 : Fin (k0_t1_loop i).trips) : BitVec 32 :=
  let c2_i32_104 : BitVec 32 := 2#32
  let c0_i32_52 : BitVec 32 := 0#32
  let c1_i32_54 : BitVec 32 := 1#32
  let arg18 : BitVec 32 := Scf.iv c0_i32_52 c1_i32_54 k0_t1
  let v176 : BitVec 32 := Scalar.muli c2_i32_104 arg18
  let c1024_i32_212 : BitVec 32 := 1024#32
  let v311 : BitVec 32 := Scalar.muli v176 c1024_i32_212
  v311
@[reducible] def k0_t2_loop (i : grid0.Coords) : Scf.Loop 32 :=
  let c0_i32_52 : BitVec 32 := 0#32
  let arg2 : BitVec 32 := BitVec.ofNat 32 (i 2).val
  let c0_i32 : BitVec 32 := 0#32
  let v69 : BitVec 1 := Scalar.cmpi .sgt arg2 c0_i32
  let v70 : BitVec 32 := Scalar.extui v69
  let c0_i32_47 : BitVec 32 := 0#32
  let v71 : BitVec 1 := Scalar.cmpi .slt arg2 c0_i32_47
  let v72 : BitVec 32 := Scalar.extui v71
  let v73 : BitVec 32 := Scalar.subi v70 v72
  let c2_i32 : BitVec 32 := 2#32
  let c0_i32_48 : BitVec 32 := 0#32
  let v74 : BitVec 1 := Scalar.cmpi .sgt c2_i32 c0_i32_48
  let v75 : BitVec 32 := Scalar.extui v74
  let c0_i32_49 : BitVec 32 := 0#32
  let v76 : BitVec 1 := Scalar.cmpi .slt c2_i32 c0_i32_49
  let v77 : BitVec 32 := Scalar.extui v76
  let v78 : BitVec 32 := Scalar.subi v75 v77
  let v79 : BitVec 1 := Scalar.cmpi .ne v73 v78
  let v80 : BitVec 32 := Scalar.remsi arg2 c2_i32
  let c0_i32_50 : BitVec 32 := 0#32
  let v81 : BitVec 1 := Scalar.cmpi .ne v80 c0_i32_50
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_52
  let c1_i32_53 : BitVec 32 := 1#32
  let v87 : BitVec 32 := Scalar.divsi v85 c1_i32_53
  let v88 : BitVec 32 := Scalar.muli v87 c1_i32_53
  let v89 : BitVec 32 := Scalar.addi c0_i32_52 v88
  let v86 : BitVec 32 := Scalar.addi c0_i32_52 v85
  let c1_i32_55 : BitVec 32 := 1#32
  ⟨v89, v86, c1_i32_55⟩
def k0_mult6 (i : grid0.Coords) (k0_t2 : Fin (k0_t2_loop i).trips) : BitVec 32 :=
  let c2_i32_104 : BitVec 32 := 2#32
  let c0_i32_52 : BitVec 32 := 0#32
  let arg2 : BitVec 32 := BitVec.ofNat 32 (i 2).val
  let c0_i32 : BitVec 32 := 0#32
  let v69 : BitVec 1 := Scalar.cmpi .sgt arg2 c0_i32
  let v70 : BitVec 32 := Scalar.extui v69
  let c0_i32_47 : BitVec 32 := 0#32
  let v71 : BitVec 1 := Scalar.cmpi .slt arg2 c0_i32_47
  let v72 : BitVec 32 := Scalar.extui v71
  let v73 : BitVec 32 := Scalar.subi v70 v72
  let c2_i32 : BitVec 32 := 2#32
  let c0_i32_48 : BitVec 32 := 0#32
  let v74 : BitVec 1 := Scalar.cmpi .sgt c2_i32 c0_i32_48
  let v75 : BitVec 32 := Scalar.extui v74
  let c0_i32_49 : BitVec 32 := 0#32
  let v76 : BitVec 1 := Scalar.cmpi .slt c2_i32 c0_i32_49
  let v77 : BitVec 32 := Scalar.extui v76
  let v78 : BitVec 32 := Scalar.subi v75 v77
  let v79 : BitVec 1 := Scalar.cmpi .ne v73 v78
  let v80 : BitVec 32 := Scalar.remsi arg2 c2_i32
  let c0_i32_50 : BitVec 32 := 0#32
  let v81 : BitVec 1 := Scalar.cmpi .ne v80 c0_i32_50
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_52
  let c1_i32_53 : BitVec 32 := 1#32
  let v87 : BitVec 32 := Scalar.divsi v85 c1_i32_53
  let v88 : BitVec 32 := Scalar.muli v87 c1_i32_53
  let v89 : BitVec 32 := Scalar.addi c0_i32_52 v88
  let c1_i32_55 : BitVec 32 := 1#32
  let arg18 : BitVec 32 := Scf.iv v89 c1_i32_55 k0_t2
  let v176 : BitVec 32 := Scalar.muli c2_i32_104 arg18
  let c1024_i32_105 : BitVec 32 := 1024#32
  let v177 : BitVec 32 := Scalar.muli v176 c1024_i32_105
  v177
def k0_off5 (i : grid0.Coords) (k0_t2 : Fin (k0_t2_loop i).trips) : Fin 3 → Nat :=
  let c0_106 : Index := 0#32
  let c2_i32_104 : BitVec 32 := 2#32
  let c0_i32_52 : BitVec 32 := 0#32
  let arg2 : BitVec 32 := BitVec.ofNat 32 (i 2).val
  let c0_i32 : BitVec 32 := 0#32
  let v69 : BitVec 1 := Scalar.cmpi .sgt arg2 c0_i32
  let v70 : BitVec 32 := Scalar.extui v69
  let c0_i32_47 : BitVec 32 := 0#32
  let v71 : BitVec 1 := Scalar.cmpi .slt arg2 c0_i32_47
  let v72 : BitVec 32 := Scalar.extui v71
  let v73 : BitVec 32 := Scalar.subi v70 v72
  let c2_i32 : BitVec 32 := 2#32
  let c0_i32_48 : BitVec 32 := 0#32
  let v74 : BitVec 1 := Scalar.cmpi .sgt c2_i32 c0_i32_48
  let v75 : BitVec 32 := Scalar.extui v74
  let c0_i32_49 : BitVec 32 := 0#32
  let v76 : BitVec 1 := Scalar.cmpi .slt c2_i32 c0_i32_49
  let v77 : BitVec 32 := Scalar.extui v76
  let v78 : BitVec 32 := Scalar.subi v75 v77
  let v79 : BitVec 1 := Scalar.cmpi .ne v73 v78
  let v80 : BitVec 32 := Scalar.remsi arg2 c2_i32
  let c0_i32_50 : BitVec 32 := 0#32
  let v81 : BitVec 1 := Scalar.cmpi .ne v80 c0_i32_50
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_52
  let c1_i32_53 : BitVec 32 := 1#32
  let v87 : BitVec 32 := Scalar.divsi v85 c1_i32_53
  let v88 : BitVec 32 := Scalar.muli v87 c1_i32_53
  let v89 : BitVec 32 := Scalar.addi c0_i32_52 v88
  let c1_i32_55 : BitVec 32 := 1#32
  let arg18 : BitVec 32 := Scf.iv v89 c1_i32_55 k0_t2
  let v176 : BitVec 32 := Scalar.muli c2_i32_104 arg18
  let c1024_i32_105 : BitVec 32 := 1024#32
  let v177 : BitVec 32 := Scalar.muli v176 c1024_i32_105
  let v178 : BitVec 32 := v177
  let v179 : Index := Scalar.indexCast v178
  let c0_107 : Index := 0#32
  ![0, v179.toNat, 0]
def k0_mult7 (i : grid0.Coords) (k0_t2 : Fin (k0_t2_loop i).trips) : BitVec 32 :=
  let c0_i32_52 : BitVec 32 := 0#32
  let arg2 : BitVec 32 := BitVec.ofNat 32 (i 2).val
  let c0_i32 : BitVec 32 := 0#32
  let v69 : BitVec 1 := Scalar.cmpi .sgt arg2 c0_i32
  let v70 : BitVec 32 := Scalar.extui v69
  let c0_i32_47 : BitVec 32 := 0#32
  let v71 : BitVec 1 := Scalar.cmpi .slt arg2 c0_i32_47
  let v72 : BitVec 32 := Scalar.extui v71
  let v73 : BitVec 32 := Scalar.subi v70 v72
  let c2_i32 : BitVec 32 := 2#32
  let c0_i32_48 : BitVec 32 := 0#32
  let v74 : BitVec 1 := Scalar.cmpi .sgt c2_i32 c0_i32_48
  let v75 : BitVec 32 := Scalar.extui v74
  let c0_i32_49 : BitVec 32 := 0#32
  let v76 : BitVec 1 := Scalar.cmpi .slt c2_i32 c0_i32_49
  let v77 : BitVec 32 := Scalar.extui v76
  let v78 : BitVec 32 := Scalar.subi v75 v77
  let v79 : BitVec 1 := Scalar.cmpi .ne v73 v78
  let v80 : BitVec 32 := Scalar.remsi arg2 c2_i32
  let c0_i32_50 : BitVec 32 := 0#32
  let v81 : BitVec 1 := Scalar.cmpi .ne v80 c0_i32_50
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_52
  let c1_i32_53 : BitVec 32 := 1#32
  let v87 : BitVec 32 := Scalar.divsi v85 c1_i32_53
  let v88 : BitVec 32 := Scalar.muli v87 c1_i32_53
  let v89 : BitVec 32 := Scalar.addi c0_i32_52 v88
  let c1_i32_55 : BitVec 32 := 1#32
  let arg18 : BitVec 32 := Scf.iv v89 c1_i32_55 k0_t2
  let c0_i32_130 : BitVec 32 := 0#32
  let v204 : BitVec 1 := Scalar.cmpi .eq arg18 c0_i32_130
  let c2_i32_104 : BitVec 32 := 2#32
  let v176 : BitVec 32 := Scalar.muli c2_i32_104 arg18
  let c1_i32_131 : BitVec 32 := 1#32
  let v205 : BitVec 32 := Scalar.subi v176 c1_i32_131
  let v206 : BitVec 32 := Scalar.select v204 arg2 v205
  let c1024_i32_132 : BitVec 32 := 1024#32
  let v207 : BitVec 32 := Scalar.muli v206 c1024_i32_132
  v207
def k0_off6 (i : grid0.Coords) (k0_t2 : Fin (k0_t2_loop i).trips) : Fin 3 → Nat :=
  let c0_133 : Index := 0#32
  let c0_i32_52 : BitVec 32 := 0#32
  let arg2 : BitVec 32 := BitVec.ofNat 32 (i 2).val
  let c0_i32 : BitVec 32 := 0#32
  let v69 : BitVec 1 := Scalar.cmpi .sgt arg2 c0_i32
  let v70 : BitVec 32 := Scalar.extui v69
  let c0_i32_47 : BitVec 32 := 0#32
  let v71 : BitVec 1 := Scalar.cmpi .slt arg2 c0_i32_47
  let v72 : BitVec 32 := Scalar.extui v71
  let v73 : BitVec 32 := Scalar.subi v70 v72
  let c2_i32 : BitVec 32 := 2#32
  let c0_i32_48 : BitVec 32 := 0#32
  let v74 : BitVec 1 := Scalar.cmpi .sgt c2_i32 c0_i32_48
  let v75 : BitVec 32 := Scalar.extui v74
  let c0_i32_49 : BitVec 32 := 0#32
  let v76 : BitVec 1 := Scalar.cmpi .slt c2_i32 c0_i32_49
  let v77 : BitVec 32 := Scalar.extui v76
  let v78 : BitVec 32 := Scalar.subi v75 v77
  let v79 : BitVec 1 := Scalar.cmpi .ne v73 v78
  let v80 : BitVec 32 := Scalar.remsi arg2 c2_i32
  let c0_i32_50 : BitVec 32 := 0#32
  let v81 : BitVec 1 := Scalar.cmpi .ne v80 c0_i32_50
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_52
  let c1_i32_53 : BitVec 32 := 1#32
  let v87 : BitVec 32 := Scalar.divsi v85 c1_i32_53
  let v88 : BitVec 32 := Scalar.muli v87 c1_i32_53
  let v89 : BitVec 32 := Scalar.addi c0_i32_52 v88
  let c1_i32_55 : BitVec 32 := 1#32
  let arg18 : BitVec 32 := Scf.iv v89 c1_i32_55 k0_t2
  let c0_i32_130 : BitVec 32 := 0#32
  let v204 : BitVec 1 := Scalar.cmpi .eq arg18 c0_i32_130
  let c2_i32_104 : BitVec 32 := 2#32
  let v176 : BitVec 32 := Scalar.muli c2_i32_104 arg18
  let c1_i32_131 : BitVec 32 := 1#32
  let v205 : BitVec 32 := Scalar.subi v176 c1_i32_131
  let v206 : BitVec 32 := Scalar.select v204 arg2 v205
  let c1024_i32_132 : BitVec 32 := 1024#32
  let v207 : BitVec 32 := Scalar.muli v206 c1024_i32_132
  let v208 : BitVec 32 := v207
  let v209 : Index := Scalar.indexCast v208
  let c0_134 : Index := 0#32
  ![0, v209.toNat, 0]
def k0_mult8 (i : grid0.Coords) (k0_t2 : Fin (k0_t2_loop i).trips) : BitVec 32 :=
  let c2_i32_104 : BitVec 32 := 2#32
  let c0_i32_52 : BitVec 32 := 0#32
  let arg2 : BitVec 32 := BitVec.ofNat 32 (i 2).val
  let c0_i32 : BitVec 32 := 0#32
  let v69 : BitVec 1 := Scalar.cmpi .sgt arg2 c0_i32
  let v70 : BitVec 32 := Scalar.extui v69
  let c0_i32_47 : BitVec 32 := 0#32
  let v71 : BitVec 1 := Scalar.cmpi .slt arg2 c0_i32_47
  let v72 : BitVec 32 := Scalar.extui v71
  let v73 : BitVec 32 := Scalar.subi v70 v72
  let c2_i32 : BitVec 32 := 2#32
  let c0_i32_48 : BitVec 32 := 0#32
  let v74 : BitVec 1 := Scalar.cmpi .sgt c2_i32 c0_i32_48
  let v75 : BitVec 32 := Scalar.extui v74
  let c0_i32_49 : BitVec 32 := 0#32
  let v76 : BitVec 1 := Scalar.cmpi .slt c2_i32 c0_i32_49
  let v77 : BitVec 32 := Scalar.extui v76
  let v78 : BitVec 32 := Scalar.subi v75 v77
  let v79 : BitVec 1 := Scalar.cmpi .ne v73 v78
  let v80 : BitVec 32 := Scalar.remsi arg2 c2_i32
  let c0_i32_50 : BitVec 32 := 0#32
  let v81 : BitVec 1 := Scalar.cmpi .ne v80 c0_i32_50
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_52
  let c1_i32_53 : BitVec 32 := 1#32
  let v87 : BitVec 32 := Scalar.divsi v85 c1_i32_53
  let v88 : BitVec 32 := Scalar.muli v87 c1_i32_53
  let v89 : BitVec 32 := Scalar.addi c0_i32_52 v88
  let c1_i32_55 : BitVec 32 := 1#32
  let arg18 : BitVec 32 := Scf.iv v89 c1_i32_55 k0_t2
  let v176 : BitVec 32 := Scalar.muli c2_i32_104 arg18
  let c1_i32_186 : BitVec 32 := 1#32
  let v283 : BitVec 32 := Scalar.addi v176 c1_i32_186
  let c1024_i32_187 : BitVec 32 := 1024#32
  let v284 : BitVec 32 := Scalar.muli v283 c1024_i32_187
  v284
def k0_off7 (i : grid0.Coords) (k0_t2 : Fin (k0_t2_loop i).trips) : Fin 3 → Nat :=
  let c0_188 : Index := 0#32
  let c2_i32_104 : BitVec 32 := 2#32
  let c0_i32_52 : BitVec 32 := 0#32
  let arg2 : BitVec 32 := BitVec.ofNat 32 (i 2).val
  let c0_i32 : BitVec 32 := 0#32
  let v69 : BitVec 1 := Scalar.cmpi .sgt arg2 c0_i32
  let v70 : BitVec 32 := Scalar.extui v69
  let c0_i32_47 : BitVec 32 := 0#32
  let v71 : BitVec 1 := Scalar.cmpi .slt arg2 c0_i32_47
  let v72 : BitVec 32 := Scalar.extui v71
  let v73 : BitVec 32 := Scalar.subi v70 v72
  let c2_i32 : BitVec 32 := 2#32
  let c0_i32_48 : BitVec 32 := 0#32
  let v74 : BitVec 1 := Scalar.cmpi .sgt c2_i32 c0_i32_48
  let v75 : BitVec 32 := Scalar.extui v74
  let c0_i32_49 : BitVec 32 := 0#32
  let v76 : BitVec 1 := Scalar.cmpi .slt c2_i32 c0_i32_49
  let v77 : BitVec 32 := Scalar.extui v76
  let v78 : BitVec 32 := Scalar.subi v75 v77
  let v79 : BitVec 1 := Scalar.cmpi .ne v73 v78
  let v80 : BitVec 32 := Scalar.remsi arg2 c2_i32
  let c0_i32_50 : BitVec 32 := 0#32
  let v81 : BitVec 1 := Scalar.cmpi .ne v80 c0_i32_50
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_52
  let c1_i32_53 : BitVec 32 := 1#32
  let v87 : BitVec 32 := Scalar.divsi v85 c1_i32_53
  let v88 : BitVec 32 := Scalar.muli v87 c1_i32_53
  let v89 : BitVec 32 := Scalar.addi c0_i32_52 v88
  let c1_i32_55 : BitVec 32 := 1#32
  let arg18 : BitVec 32 := Scf.iv v89 c1_i32_55 k0_t2
  let v176 : BitVec 32 := Scalar.muli c2_i32_104 arg18
  let c1_i32_186 : BitVec 32 := 1#32
  let v283 : BitVec 32 := Scalar.addi v176 c1_i32_186
  let c1024_i32_187 : BitVec 32 := 1024#32
  let v284 : BitVec 32 := Scalar.muli v283 c1024_i32_187
  let v285 : BitVec 32 := v284
  let v286 : Index := Scalar.indexCast v285
  let c0_189 : Index := 0#32
  ![0, v286.toNat, 0]
def k0_mult9 (i : grid0.Coords) (k0_t2 : Fin (k0_t2_loop i).trips) : BitVec 32 :=
  let c2_i32_104 : BitVec 32 := 2#32
  let c0_i32_52 : BitVec 32 := 0#32
  let arg2 : BitVec 32 := BitVec.ofNat 32 (i 2).val
  let c0_i32 : BitVec 32 := 0#32
  let v69 : BitVec 1 := Scalar.cmpi .sgt arg2 c0_i32
  let v70 : BitVec 32 := Scalar.extui v69
  let c0_i32_47 : BitVec 32 := 0#32
  let v71 : BitVec 1 := Scalar.cmpi .slt arg2 c0_i32_47
  let v72 : BitVec 32 := Scalar.extui v71
  let v73 : BitVec 32 := Scalar.subi v70 v72
  let c2_i32 : BitVec 32 := 2#32
  let c0_i32_48 : BitVec 32 := 0#32
  let v74 : BitVec 1 := Scalar.cmpi .sgt c2_i32 c0_i32_48
  let v75 : BitVec 32 := Scalar.extui v74
  let c0_i32_49 : BitVec 32 := 0#32
  let v76 : BitVec 1 := Scalar.cmpi .slt c2_i32 c0_i32_49
  let v77 : BitVec 32 := Scalar.extui v76
  let v78 : BitVec 32 := Scalar.subi v75 v77
  let v79 : BitVec 1 := Scalar.cmpi .ne v73 v78
  let v80 : BitVec 32 := Scalar.remsi arg2 c2_i32
  let c0_i32_50 : BitVec 32 := 0#32
  let v81 : BitVec 1 := Scalar.cmpi .ne v80 c0_i32_50
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_52
  let c1_i32_53 : BitVec 32 := 1#32
  let v87 : BitVec 32 := Scalar.divsi v85 c1_i32_53
  let v88 : BitVec 32 := Scalar.muli v87 c1_i32_53
  let v89 : BitVec 32 := Scalar.addi c0_i32_52 v88
  let c1_i32_55 : BitVec 32 := 1#32
  let arg18 : BitVec 32 := Scf.iv v89 c1_i32_55 k0_t2
  let v176 : BitVec 32 := Scalar.muli c2_i32_104 arg18
  let c1024_i32_212 : BitVec 32 := 1024#32
  let v311 : BitVec 32 := Scalar.muli v176 c1024_i32_212
  v311
def k0_cond1 (i : grid0.Coords) : BitVec 1 :=
  let arg2 : BitVec 32 := BitVec.ofNat 32 (i 2).val
  let c2_i32_59 : BitVec 32 := 2#32
  let c0_i32_60 : BitVec 32 := 0#32
  let v94 : BitVec 1 := Scalar.cmpi .eq c2_i32_59 c0_i32_60
  let c1_i32_61 : BitVec 32 := 1#32
  let v95 : BitVec 32 := Scalar.select v94 c1_i32_61 c2_i32_59
  let v96 : BitVec 32 := Scalar.remsi arg2 v95
  let c0_i32_63 : BitVec 32 := 0#32
  let v98 : BitVec 1 := Scalar.cmpi .slt v96 c0_i32_63
  let c0_i32_64 : BitVec 32 := 0#32
  let v99 : BitVec 1 := Scalar.cmpi .slt v95 c0_i32_64
  let v100 : BitVec 1 := Scalar.xori v98 v99
  let c0_i32_62 : BitVec 32 := 0#32
  let v97 : BitVec 1 := Scalar.cmpi .ne v96 c0_i32_62
  let v101 : BitVec 1 := Scalar.andi v100 v97
  let v102 : BitVec 32 := Scalar.addi v96 v95
  let v103 : BitVec 32 := Scalar.select v101 v102 v96
  let c0_i32_65 : BitVec 32 := 0#32
  let v104 : BitVec 1 := Scalar.cmpi .eq v103 c0_i32_65
  let v105 : BitVec 32 := Scalar.extui v104
  let c0_i32_66 : BitVec 32 := 0#32
  let v106 : BitVec 1 := Scalar.cmpi .ne v105 c0_i32_66
  v106

def k0_mult10 (i : grid0.Coords) : BitVec 32 :=
  let arg2 : BitVec 32 := BitVec.ofNat 32 (i 2).val
  let c0_i32 : BitVec 32 := 0#32
  let v69 : BitVec 1 := Scalar.cmpi .sgt arg2 c0_i32
  let v70 : BitVec 32 := Scalar.extui v69
  let c0_i32_47 : BitVec 32 := 0#32
  let v71 : BitVec 1 := Scalar.cmpi .slt arg2 c0_i32_47
  let v72 : BitVec 32 := Scalar.extui v71
  let v73 : BitVec 32 := Scalar.subi v70 v72
  let c2_i32 : BitVec 32 := 2#32
  let c0_i32_48 : BitVec 32 := 0#32
  let v74 : BitVec 1 := Scalar.cmpi .sgt c2_i32 c0_i32_48
  let v75 : BitVec 32 := Scalar.extui v74
  let c0_i32_49 : BitVec 32 := 0#32
  let v76 : BitVec 1 := Scalar.cmpi .slt c2_i32 c0_i32_49
  let v77 : BitVec 32 := Scalar.extui v76
  let v78 : BitVec 32 := Scalar.subi v75 v77
  let v79 : BitVec 1 := Scalar.cmpi .ne v73 v78
  let v80 : BitVec 32 := Scalar.remsi arg2 c2_i32
  let c0_i32_50 : BitVec 32 := 0#32
  let v81 : BitVec 1 := Scalar.cmpi .ne v80 c0_i32_50
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let c0_i32_56 : BitVec 32 := 0#32
  let v90 : BitVec 1 := Scalar.cmpi .eq v84 c0_i32_56
  let c2_i32_57 : BitVec 32 := 2#32
  let v91 : BitVec 32 := Scalar.muli c2_i32_57 v84
  let c1_i32_58 : BitVec 32 := 1#32
  let v92 : BitVec 32 := Scalar.subi v91 c1_i32_58
  let v93 : BitVec 32 := Scalar.select v90 arg2 v92
  let c1024_i32_104 : BitVec 32 := 1024#32
  let v176 : BitVec 32 := Scalar.muli v93 c1024_i32_104
  v176
def k0_off8 (i : grid0.Coords) : Fin 3 → Nat :=
  let c0_105 : Index := 0#32
  let arg2 : BitVec 32 := BitVec.ofNat 32 (i 2).val
  let c0_i32 : BitVec 32 := 0#32
  let v69 : BitVec 1 := Scalar.cmpi .sgt arg2 c0_i32
  let v70 : BitVec 32 := Scalar.extui v69
  let c0_i32_47 : BitVec 32 := 0#32
  let v71 : BitVec 1 := Scalar.cmpi .slt arg2 c0_i32_47
  let v72 : BitVec 32 := Scalar.extui v71
  let v73 : BitVec 32 := Scalar.subi v70 v72
  let c2_i32 : BitVec 32 := 2#32
  let c0_i32_48 : BitVec 32 := 0#32
  let v74 : BitVec 1 := Scalar.cmpi .sgt c2_i32 c0_i32_48
  let v75 : BitVec 32 := Scalar.extui v74
  let c0_i32_49 : BitVec 32 := 0#32
  let v76 : BitVec 1 := Scalar.cmpi .slt c2_i32 c0_i32_49
  let v77 : BitVec 32 := Scalar.extui v76
  let v78 : BitVec 32 := Scalar.subi v75 v77
  let v79 : BitVec 1 := Scalar.cmpi .ne v73 v78
  let v80 : BitVec 32 := Scalar.remsi arg2 c2_i32
  let c0_i32_50 : BitVec 32 := 0#32
  let v81 : BitVec 1 := Scalar.cmpi .ne v80 c0_i32_50
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let c0_i32_56 : BitVec 32 := 0#32
  let v90 : BitVec 1 := Scalar.cmpi .eq v84 c0_i32_56
  let c2_i32_57 : BitVec 32 := 2#32
  let v91 : BitVec 32 := Scalar.muli c2_i32_57 v84
  let c1_i32_58 : BitVec 32 := 1#32
  let v92 : BitVec 32 := Scalar.subi v91 c1_i32_58
  let v93 : BitVec 32 := Scalar.select v90 arg2 v92
  let c1024_i32_104 : BitVec 32 := 1024#32
  let v176 : BitVec 32 := Scalar.muli v93 c1024_i32_104
  let v177 : BitVec 32 := v176
  let v178 : Index := Scalar.indexCast v177
  let c0_106 : Index := 0#32
  ![0, v178.toNat, 0]
def k0_cond2 (i : grid0.Coords) : BitVec 1 :=
  let arg2 : BitVec 32 := BitVec.ofNat 32 (i 2).val
  let c2_i32_67 : BitVec 32 := 2#32
  let c0_i32_68 : BitVec 32 := 0#32
  let v107 : BitVec 1 := Scalar.cmpi .eq c2_i32_67 c0_i32_68
  let c1_i32_69 : BitVec 32 := 1#32
  let v108 : BitVec 32 := Scalar.select v107 c1_i32_69 c2_i32_67
  let v109 : BitVec 32 := Scalar.remsi arg2 v108
  let c0_i32_71 : BitVec 32 := 0#32
  let v111 : BitVec 1 := Scalar.cmpi .slt v109 c0_i32_71
  let c0_i32_72 : BitVec 32 := 0#32
  let v112 : BitVec 1 := Scalar.cmpi .slt v108 c0_i32_72
  let v113 : BitVec 1 := Scalar.xori v111 v112
  let c0_i32_70 : BitVec 32 := 0#32
  let v110 : BitVec 1 := Scalar.cmpi .ne v109 c0_i32_70
  let v114 : BitVec 1 := Scalar.andi v113 v110
  let v115 : BitVec 32 := Scalar.addi v109 v108
  let v116 : BitVec 32 := Scalar.select v114 v115 v109
  let c1_i32_73 : BitVec 32 := 1#32
  let v117 : BitVec 1 := Scalar.cmpi .eq v116 c1_i32_73
  let v118 : BitVec 32 := Scalar.extui v117
  let c0_i32_74 : BitVec 32 := 0#32
  let v119 : BitVec 1 := Scalar.cmpi .ne v118 c0_i32_74
  v119

def k0_mult11 (i : grid0.Coords) : BitVec 32 :=
  let arg2 : BitVec 32 := BitVec.ofNat 32 (i 2).val
  let c1_i32_104 : BitVec 32 := 1#32
  let v176 : BitVec 32 := Scalar.subi arg2 c1_i32_104
  let c1024_i32_105 : BitVec 32 := 1024#32
  let v177 : BitVec 32 := Scalar.muli v176 c1024_i32_105
  v177
def k0_off9 (i : grid0.Coords) : Fin 3 → Nat :=
  let c0_106 : Index := 0#32
  let arg2 : BitVec 32 := BitVec.ofNat 32 (i 2).val
  let c1_i32_104 : BitVec 32 := 1#32
  let v176 : BitVec 32 := Scalar.subi arg2 c1_i32_104
  let c1024_i32_105 : BitVec 32 := 1024#32
  let v177 : BitVec 32 := Scalar.muli v176 c1024_i32_105
  let v178 : BitVec 32 := v177
  let v179 : Index := Scalar.indexCast v178
  let c0_107 : Index := 0#32
  ![0, v179.toNat, 0]
def k0_mult12 (i : grid0.Coords) : BitVec 32 :=
  let arg2 : BitVec 32 := BitVec.ofNat 32 (i 2).val
  let c0_i32 : BitVec 32 := 0#32
  let v69 : BitVec 1 := Scalar.cmpi .sgt arg2 c0_i32
  let v70 : BitVec 32 := Scalar.extui v69
  let c0_i32_47 : BitVec 32 := 0#32
  let v71 : BitVec 1 := Scalar.cmpi .slt arg2 c0_i32_47
  let v72 : BitVec 32 := Scalar.extui v71
  let v73 : BitVec 32 := Scalar.subi v70 v72
  let c2_i32 : BitVec 32 := 2#32
  let c0_i32_48 : BitVec 32 := 0#32
  let v74 : BitVec 1 := Scalar.cmpi .sgt c2_i32 c0_i32_48
  let v75 : BitVec 32 := Scalar.extui v74
  let c0_i32_49 : BitVec 32 := 0#32
  let v76 : BitVec 1 := Scalar.cmpi .slt c2_i32 c0_i32_49
  let v77 : BitVec 32 := Scalar.extui v76
  let v78 : BitVec 32 := Scalar.subi v75 v77
  let v79 : BitVec 1 := Scalar.cmpi .ne v73 v78
  let v80 : BitVec 32 := Scalar.remsi arg2 c2_i32
  let c0_i32_50 : BitVec 32 := 0#32
  let v81 : BitVec 1 := Scalar.cmpi .ne v80 c0_i32_50
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let c0_i32_56 : BitVec 32 := 0#32
  let v90 : BitVec 1 := Scalar.cmpi .eq v84 c0_i32_56
  let c2_i32_57 : BitVec 32 := 2#32
  let v91 : BitVec 32 := Scalar.muli c2_i32_57 v84
  let c1_i32_58 : BitVec 32 := 1#32
  let v92 : BitVec 32 := Scalar.subi v91 c1_i32_58
  let v93 : BitVec 32 := Scalar.select v90 arg2 v92
  let c1024_i32_130 : BitVec 32 := 1024#32
  let v204 : BitVec 32 := Scalar.muli v93 c1024_i32_130
  v204
def k0_off10 (i : grid0.Coords) : Fin 3 → Nat :=
  let c0_131 : Index := 0#32
  let arg2 : BitVec 32 := BitVec.ofNat 32 (i 2).val
  let c0_i32 : BitVec 32 := 0#32
  let v69 : BitVec 1 := Scalar.cmpi .sgt arg2 c0_i32
  let v70 : BitVec 32 := Scalar.extui v69
  let c0_i32_47 : BitVec 32 := 0#32
  let v71 : BitVec 1 := Scalar.cmpi .slt arg2 c0_i32_47
  let v72 : BitVec 32 := Scalar.extui v71
  let v73 : BitVec 32 := Scalar.subi v70 v72
  let c2_i32 : BitVec 32 := 2#32
  let c0_i32_48 : BitVec 32 := 0#32
  let v74 : BitVec 1 := Scalar.cmpi .sgt c2_i32 c0_i32_48
  let v75 : BitVec 32 := Scalar.extui v74
  let c0_i32_49 : BitVec 32 := 0#32
  let v76 : BitVec 1 := Scalar.cmpi .slt c2_i32 c0_i32_49
  let v77 : BitVec 32 := Scalar.extui v76
  let v78 : BitVec 32 := Scalar.subi v75 v77
  let v79 : BitVec 1 := Scalar.cmpi .ne v73 v78
  let v80 : BitVec 32 := Scalar.remsi arg2 c2_i32
  let c0_i32_50 : BitVec 32 := 0#32
  let v81 : BitVec 1 := Scalar.cmpi .ne v80 c0_i32_50
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let c0_i32_56 : BitVec 32 := 0#32
  let v90 : BitVec 1 := Scalar.cmpi .eq v84 c0_i32_56
  let c2_i32_57 : BitVec 32 := 2#32
  let v91 : BitVec 32 := Scalar.muli c2_i32_57 v84
  let c1_i32_58 : BitVec 32 := 1#32
  let v92 : BitVec 32 := Scalar.subi v91 c1_i32_58
  let v93 : BitVec 32 := Scalar.select v90 arg2 v92
  let c1024_i32_130 : BitVec 32 := 1024#32
  let v204 : BitVec 32 := Scalar.muli v93 c1024_i32_130
  let v205 : BitVec 32 := v204
  let v206 : Index := Scalar.indexCast v205
  let c0_132 : Index := 0#32
  ![0, v206.toNat, 0]
def k0_mult13 (i : grid0.Coords) : BitVec 32 :=
  let arg2 : BitVec 32 := BitVec.ofNat 32 (i 2).val
  let c1_i32_184 : BitVec 32 := 1#32
  let v280 : BitVec 32 := Scalar.subi arg2 c1_i32_184
  let c1024_i32_185 : BitVec 32 := 1024#32
  let v281 : BitVec 32 := Scalar.muli v280 c1024_i32_185
  v281
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | "q_scale" => some (((1 / 8) * (Real.log 2)⁻¹ : ℝ) : EReal)
  | _ => none
-- ==== ReferenceIdeal.lean ====
abbrev S4x8192x1024 : Shape := ⟨3, ![4, 8192, 1024]⟩
abbrev S4x64 : Shape := ⟨2, ![4, 64]⟩
abbrev S128 : Shape := ⟨1, ![128]⟩
abbrev S4x8192x8x2x64 : Shape := ⟨5, ![4, 8192, 8, 2, 64]⟩
abbrev S4x8192x8x128 : Shape := ⟨4, ![4, 8192, 8, 128]⟩
abbrev S1x64 : Shape := ⟨2, ![1, 64]⟩
abbrev S64 : Shape := ⟨1, ![64]⟩
abbrev S_ : Shape := ⟨0, ![]⟩
abbrev S4x8x2x8192x8192 : Shape := ⟨5, ![4, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x2x8192 : Shape := ⟨4, ![4, 8, 2, 8192]⟩
abbrev S4x8x2x8192x1 : Shape := ⟨5, ![4, 8, 2, 8192, 1]⟩
abbrev S4x8x1x8192x8192 : Shape := ⟨5, ![4, 8, 1, 8192, 8192]⟩
abbrev S4x8x8192x8192 : Shape := ⟨4, ![4, 8, 8192, 8192]⟩
abbrev S4x8x128x8192 : Shape := ⟨4, ![4, 8, 128, 8192]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩

abbrev nBuf : Space → Nat
  | .hbm => 97
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S4x64, .f32⟩
  | .hbm, ⟨5, _⟩ => ⟨S128, .f32⟩
  | .hbm, ⟨6, _⟩ => ⟨S4x8192x8x2x64, .f32⟩
  | .hbm, ⟨7, _⟩ => ⟨S4x8192x8x2x64, .f32⟩
  | .hbm, ⟨8, _⟩ => ⟨S4x8192x8x128, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x8x2x8192x8192, .f32⟩
  | .hbm, ⟨29, _⟩ => ⟨S_, .f32⟩
  | .hbm, ⟨30, _⟩ => ⟨S4x8x2x8192x8192, .f32⟩
  | .hbm, ⟨31, _⟩ => ⟨S4x8x2x8192x8192, .f32⟩
  | .hbm, ⟨32, _⟩ => ⟨S8192, .i32⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S4x8x2x8192x8192, .i1⟩
  | .hbm, ⟨41, _⟩ => ⟨S4x8x2x8192x8192, .f32⟩
  | .hbm, ⟨42, _⟩ => ⟨S4x8x2x8192x8192, .f32⟩
  | .hbm, ⟨43, _⟩ => ⟨S_, .f32⟩
  | .hbm, ⟨44, _⟩ => ⟨S4x8x2x8192, .f32⟩
  | .hbm, ⟨45, _⟩ => ⟨S_, .f32⟩
  | .hbm, ⟨46, _⟩ => ⟨S4x8x2x8192, .f32⟩
  | .hbm, ⟨47, _⟩ => ⟨S4x8x2x8192, .f32⟩
  | .hbm, ⟨48, _⟩ => ⟨S4x8x2x8192x1, .f32⟩
  | .hbm, ⟨49, _⟩ => ⟨S4x8x2x8192x8192, .f32⟩
  | .hbm, ⟨50, _⟩ => ⟨S4x8x2x8192x8192, .f32⟩
  | .hbm, ⟨51, _⟩ => ⟨S4x8x2x8192x8192, .f32⟩
  | .hbm, ⟨52, _⟩ => ⟨S_, .f32⟩
  | .hbm, ⟨53, _⟩ => ⟨S4x8x2x8192, .f32⟩
  | .hbm, ⟨54, _⟩ => ⟨S4x8x2x8192x1, .f32⟩
  | .hbm, ⟨55, _⟩ => ⟨S4x8x2x8192x8192, .f32⟩
  | .hbm, ⟨56, _⟩ => ⟨S4x8x2x8192x8192, .f32⟩
  | .hbm, ⟨57, _⟩ => ⟨S4x8x1x8192x8192, .f32⟩
  | .hbm, ⟨58, _⟩ => ⟨S4x8x8192x8192, .f32⟩
  | .hbm, ⟨59, _⟩ => ⟨S4x8x1x8192x8192, .f32⟩
  | .hbm, ⟨60, _⟩ => ⟨S4x8x8192x8192, .f32⟩
  | .hbm, ⟨61, _⟩ => ⟨S4x8x8192x8192, .f32⟩
  | .hbm, ⟨62, _⟩ => ⟨S4x8x8192x8192, .f32⟩
  | .hbm, ⟨63, _⟩ => ⟨S4x8x8192x8192, .f32⟩
  | .hbm, ⟨64, _⟩ => ⟨S4x8x128x8192, .f32⟩
  | .hbm, ⟨65, _⟩ => ⟨S4x8192x8x128, .f32⟩
  | .hbm, ⟨66, _⟩ => ⟨S4x8192x8x128, .f32⟩
  | .hbm, ⟨67, _⟩ => ⟨S_, .f32⟩
  | .hbm, ⟨68, _⟩ => ⟨S4x8192x8, .f32⟩
  | .hbm, ⟨69, _⟩ => ⟨S4x8192x8x1, .f32⟩
  | .hbm, ⟨70, _⟩ => ⟨S_, .f32⟩
  | .hbm, ⟨71, _⟩ => ⟨S4x8192x8x1, .f32⟩
  | .hbm, ⟨72, _⟩ => ⟨S4x8192x8x1, .f32⟩
  | .hbm, ⟨73, _⟩ => ⟨S_, .f32⟩
  | .hbm, ⟨74, _⟩ => ⟨S4x8192x8x1, .f32⟩
  | .hbm, ⟨75, _⟩ => ⟨S4x8192x8x1, .f32⟩
  | .hbm, ⟨76, _⟩ => ⟨S4x8192x8x1, .f32⟩
  | .hbm, ⟨77, _⟩ => ⟨S4x8192x8x128, .f32⟩
  | .hbm, ⟨78, _⟩ => ⟨S4x8192x8x128, .f32⟩
  | .hbm, ⟨79, _⟩ => ⟨S1x1x1x128, .f32⟩
  | .hbm, ⟨80, _⟩ => ⟨S4x8192x8x128, .f32⟩
  | .hbm, ⟨81, _⟩ => ⟨S4x8192x8x128, .f32⟩
  | .hbm, ⟨82, _⟩ => ⟨S_, .f32⟩
  | .hbm, ⟨83, _⟩ => ⟨S4x8192x8x128, .f32⟩
  | .hbm, ⟨84, _⟩ => ⟨S4x8192x8x128, .f32⟩
  | .hbm, ⟨85, _⟩ => ⟨S4x8192x1024, .f32⟩
  | .hbm, ⟨86, _⟩ => ⟨S4x8192x1024, .f32⟩
  | .hbm, ⟨87, _⟩ => ⟨S4x8192x1024, .f32⟩
  | .hbm, ⟨88, _⟩ => ⟨S_, .f32⟩
  | .hbm, ⟨89, _⟩ => ⟨S4x8192x1024, .f32⟩
  | .hbm, ⟨90, _⟩ => ⟨S4x8192x1024, .f32⟩
  | .hbm, ⟨91, _⟩ => ⟨S_, .f32⟩
  | .hbm, ⟨92, _⟩ => ⟨S4x8192x1024, .f32⟩
  | .hbm, ⟨93, _⟩ => ⟨S4x8192x1024, .f32⟩
  | .hbm, ⟨94, _⟩ => ⟨S4x8192x1024, .f32⟩
  | .hbm, ⟨95, _⟩ => ⟨S4x8192x1024, .f32⟩
  | .hbm, ⟨96, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x6144 : Shape := ⟨2, ![1024, 6144]⟩
abbrev S32768x1024 : Shape := ⟨2, ![32768, 1024]⟩
abbrev S1x1024 : Shape := ⟨2, ![1, 1024]⟩
abbrev S1024x2048 : Shape := ⟨2, ![1024, 2048]⟩
abbrev S32768x2048 : Shape := ⟨2, ![32768, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6144, .f32⟩
  | .hbm, ⟨3, _⟩ => ⟨S1024x6144, .bf16⟩
  | .hbm, ⟨4, _⟩ => ⟨S32768x1024, .f32⟩
  | .hbm, ⟨5, _⟩ => ⟨S1x1024, .f32⟩
  | .hbm, ⟨6, _⟩ => ⟨S1024x2048, .bf16⟩
  | .hbm, ⟨7, _⟩ => ⟨S1024x2048, .bf16⟩
  | .hbm, ⟨8, _⟩ => ⟨S1024x2048, .bf16⟩
  | .hbm, ⟨9, _⟩ => ⟨S32768x2048, .bf16⟩
  | .hbm, ⟨10, _⟩ => ⟨S32768x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4x8192x1024 : Shape := ⟨3, ![4, 8192, 1024]⟩
abbrev S1024 : Shape := ⟨1, ![1024]⟩
abbrev S1024x6144 : Shape := ⟨2, ![1024, 6144]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6144 : Shape := ⟨3, ![4, 8192, 6144]⟩
abbrev S4x8192x2048 : Shape := ⟨3, ![4, 8192, 2048]⟩
abbrev S32768x2048 : Shape := ⟨2, ![32768, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6144, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x6144, .f32⟩
  | .hbm, ⟨20, _⟩ => ⟨S4x8192x2048, .f32⟩
  | .hbm, ⟨21, _⟩ => ⟨S4x8192x2048, .f32⟩
  | .hbm, ⟨22, _⟩ => ⟨S4x8192x2048, .f32⟩
  | .hbm, ⟨23, _⟩ => ⟨S4x8192x2048, .f32⟩
  | .hbm, ⟨24, _⟩ => ⟨S4x8192x2048, .f32⟩
  | .hbm, ⟨25, _⟩ => ⟨S_, .f32⟩
  | .hbm, ⟨26, _⟩ => ⟨S4x8192x2048, .f32⟩
  | .hbm, ⟨27, _⟩ => ⟨S4x8192x2048, .f32⟩
  | .hbm, ⟨28, _⟩ => ⟨S_, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S4x8192x2048, .f32⟩
  | .hbm, ⟨33, _⟩ => ⟨S4x8192x2048, .f32⟩
  | .hbm, ⟨34, _⟩ => ⟨S_, .f32⟩
  | .hbm, ⟨35, _⟩ => ⟨S4x8192x2048, .f32⟩
  | .hbm, ⟨36, _⟩ => ⟨S4x8192x2048, .f32⟩
  | .hbm, ⟨37, _⟩ => ⟨S_, .f32⟩
  | .hbm, ⟨38, _⟩ => ⟨S4x8192x2048, .f32⟩
  | .hbm, ⟨39, _⟩ => ⟨S4x8192x2048, .f32⟩
  | .hbm, ⟨40, _⟩ => ⟨S4x8192x2048, .f32⟩
  | .hbm, ⟨41, _⟩ => ⟨S4x8192x2048, .bf16⟩
  | .hbm, ⟨42, _⟩ => ⟨S32768x2048, .bf16⟩
  | .hbm, ⟨43, _⟩ => ⟨S4x8192x2048, .bf16⟩
  | .hbm, ⟨44, _⟩ => ⟨S32768x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x256 : Shape := ⟨3, ![4, 8192, 256]⟩
abbrev S2048x1024 : Shape := ⟨2, ![2048, 1024]⟩
abbrev S256x1024 : Shape := ⟨2, ![256, 1024]⟩
abbrev S1024x1024 : Shape := ⟨2, ![1024, 1024]⟩
abbrev S32768x1024 : Shape := ⟨2, ![32768, 1024]⟩
abbrev S32768x256 : Shape := ⟨2, ![32768, 256]⟩
abbrev S512x1024 : Shape := ⟨2, ![512, 1024]⟩
abbrev S512x256 : Shape := ⟨2, ![512, 256]⟩

abbrev nBuf : Space → Nat
  | .hbm => 19
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x256, .f32⟩
  | .hbm, ⟨4, _⟩ => ⟨S2048x1024, .f32⟩
  | .hbm, ⟨5, _⟩ => ⟨S256x1024, .f32⟩
  | .hbm, ⟨6, _⟩ => ⟨S1024x1024, .f32⟩
  | .hbm, ⟨7, _⟩ => ⟨S2048x1024, .bf16⟩
  | .hbm, ⟨8, _⟩ => ⟨S4x8192x1024, .bf16⟩
  | .hbm, ⟨9, _⟩ => ⟨S32768x1024, .bf16⟩
  | .hbm, ⟨10, _⟩ => ⟨S4x8192x1024, .bf16⟩
  | .hbm, ⟨11, _⟩ => ⟨S32768x1024, .bf16⟩
  | .hbm, ⟨12, _⟩ => ⟨S32768x1024, .f32⟩
  | .hbm, ⟨13, _⟩ => ⟨S32768x256, .f32⟩
  | .hbm, ⟨14, _⟩ => ⟨S1024x1024, .bf16⟩
  | .hbm, ⟨15, _⟩ => ⟨S1024x1024, .bf16⟩
  | .hbm, ⟨16, _⟩ => ⟨S256x1024, .bf16⟩
  | .hbm, ⟨17, _⟩ => ⟨S1024x1024, .bf16⟩
  | .hbm, ⟨18, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x256, .f32⟩
  | .local _ .vmem, ⟨7, _⟩ => ⟨S512x256, .f32⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x8192x1024 : Shape := ⟨3, ![4, 8192, 1024]⟩
abbrev S4x8192x256 : Shape := ⟨3, ![4, 8192, 256]⟩
abbrev S2048x1024 : Shape := ⟨2, ![2048, 1024]⟩
abbrev S256x1024 : Shape := ⟨2, ![256, 1024]⟩
abbrev S1024x1024 : Shape := ⟨2, ![1024, 1024]⟩
abbrev S4x8192x2048 : Shape := ⟨3, ![4, 8192, 2048]⟩
abbrev S_ : Shape := ⟨0, ![]⟩
abbrev S32768x1024 : Shape := ⟨2, ![32768, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x256, .f32⟩
  | .hbm, ⟨4, _⟩ => ⟨S2048x1024, .f32⟩
  | .hbm, ⟨5, _⟩ => ⟨S256x1024, .f32⟩
  | .hbm, ⟨6, _⟩ => ⟨S1024x1024, .f32⟩
  | .hbm, ⟨7, _⟩ => ⟨S4x8192x2048, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S_, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024 : Shape := ⟨1, ![1024]⟩
abbrev S1024x6672 : Shape := ⟨2, ![1024, 6672]⟩
abbrev S1024x16 : Shape := ⟨2, ![1024, 16]⟩
abbrev S_ : Shape := ⟨0, ![]⟩
abbrev S1024x128 : Shape := ⟨2, ![1024, 128]⟩
abbrev S1024x1024 : Shape := ⟨2, ![1024, 1024]⟩
abbrev S1024x1536 : Shape := ⟨2, ![1024, 1536]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S32768x1024 : Shape := ⟨2, ![32768, 1024]⟩
abbrev S1x1024 : Shape := ⟨2, ![1, 1024]⟩
abbrev S32768x1536 : Shape := ⟨2, ![32768, 1536]⟩
abbrev S32768x128 : Shape := ⟨2, ![32768, 128]⟩
abbrev S512x1024 : Shape := ⟨2, ![512, 1024]⟩
abbrev S512x128 : Shape := ⟨2, ![512, 128]⟩
abbrev S512x1536 : Shape := ⟨2, ![512, 1536]⟩
abbrev S512 : Shape := ⟨1, ![512]⟩
abbrev S512x1 : Shape := ⟨2, ![512, 1]⟩

abbrev nBuf : Space → Nat
  | .hbm => 54
  | .vmem => 28
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6672, .f32⟩
  | .hbm, ⟨3, _⟩ => ⟨S1024x6672, .bf16⟩
  | .hbm, ⟨4, _⟩ => ⟨S1024x16, .bf16⟩
  | .hbm, ⟨5, _⟩ => ⟨S_, .i32⟩
  | .hbm, ⟨6, _⟩ => ⟨S_, .bf16⟩
  | .hbm, ⟨7, _⟩ => ⟨S1024x128, .bf16⟩
  | .hbm, ⟨8, _⟩ => ⟨S1024x1024, .bf16⟩
  | .hbm, ⟨9, _⟩ => ⟨S1024x1536, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S8192, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S8192x1, .f32⟩
  | .hbm, ⟨30, _⟩ => ⟨S1x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x64, .f32⟩
  | .hbm, ⟨37, _⟩ => ⟨S1x8192x1x64, .f32⟩
  | .hbm, ⟨38, _⟩ => ⟨S1x8192x2x64, .f32⟩
  | .hbm, ⟨39, _⟩ => ⟨S8192x128, .f32⟩
  | .hbm, ⟨40, _⟩ => ⟨S8192x32, .f32⟩
  | .hbm, ⟨41, _⟩ => ⟨S8192x64, .f32⟩
  | .hbm, ⟨42, _⟩ => ⟨S1x8192x1x64, .f32⟩
  | .hbm, ⟨43, _⟩ => ⟨S1x8192x2x64, .f32⟩
  | .hbm, ⟨44, _⟩ => ⟨S8192x128, .f32⟩
  | .hbm, ⟨45, _⟩ => ⟨S32768x1024, .f32⟩
  | .hbm, ⟨46, _⟩ => ⟨S1x1024, .f32⟩
  | .hbm, ⟨47, _⟩ => ⟨S32768x1024, .bf16⟩
  | .hbm, ⟨48, _⟩ => ⟨S32768x1536, .bf16⟩
  | .hbm, ⟨49, _⟩ => ⟨S32768x128, .f32⟩
  | .hbm, ⟨50, _⟩ => ⟨S32768x1024, .f32⟩
  | .hbm, ⟨51, _⟩ => ⟨S32768x1024, .bf16⟩
  | .hbm, ⟨52, _⟩ => ⟨S32768x1024, .bf16⟩
  | .hbm, ⟨53, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1024x1024, .bf16⟩
  | .local _ .vmem, ⟨8, _⟩ => ⟨S1024x1536, .bf16⟩
  | .local _ .vmem, ⟨9, _⟩ => ⟨S1024x128, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1536, .bf16⟩
  | .local _ .vmem, ⟨17, _⟩ => ⟨S512x1536, .bf16⟩
  | .local _ .vmem, ⟨18, _⟩ => ⟨S512x128, .f32⟩
  | .local _ .vmem, ⟨19, _⟩ => ⟨S512x128, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38_0 : Ref sig .tc := ⟨.hbm, 47, rfl⟩
abbrev main_v38_1 : Ref sig .tc := ⟨.hbm, 48, rfl⟩
abbrev main_v38_2 : Ref sig .tc := ⟨.hbm, 49, rfl⟩
abbrev main_v38_3 : Ref sig .tc := ⟨.hbm, 50, rfl⟩
abbrev main_v38_4 : Ref sig .tc := ⟨.hbm, 51, rfl⟩
abbrev main_v38_5 : Ref sig .tc := ⟨.hbm, 52, rfl⟩
abbrev main_v38_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S4x8192x1024 : Shape := ⟨3, ![4, 8192, 1024]⟩
abbrev S1024 : Shape := ⟨1, ![1024]⟩
abbrev S1024x6672 : Shape := ⟨2, ![1024, 6672]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6672 : Shape := ⟨3, ![4, 8192, 6672]⟩
abbrev S4x8192x1536 : Shape := ⟨3, ![4, 8192, 1536]⟩
abbrev S4x8192x16 : Shape := ⟨3, ![4, 8192, 16]⟩
abbrev S4x8192x8x2x64 : Shape := ⟨5, ![4, 8192, 8, 2, 64]⟩
abbrev S8192x1x1x32 : Shape := ⟨4, ![8192, 1, 1, 32]⟩
abbrev S4x8192x8x2x32 : Shape := ⟨5, ![4, 8192, 8, 2, 32]⟩
abbrev S1x8192x1x1x32 : Shape := ⟨5, ![1, 8192, 1, 1, 32]⟩
abbrev S4x8192x128 : Shape := ⟨3, ![4, 8192, 128]⟩
abbrev S32768x1024 : Shape := ⟨2, ![32768, 1024]⟩
abbrev S32768x1536 : Shape := ⟨2, ![32768, 1536]⟩
abbrev S32768x128 : Shape := ⟨2, ![32768, 128]⟩

abbrev nBuf : Space → Nat
  | .hbm => 122
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6672, .f32⟩
  | .hbm, ⟨3, _⟩ => ⟨S8192, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S4x8192x1024, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S4x8192x1, .f32⟩
  | .hbm, ⟨36, _⟩ => ⟨S4x8192x1024, .f32⟩
  | .hbm, ⟨37, _⟩ => ⟨S4x8192x1024, .f32⟩
  | .hbm, ⟨38, _⟩ => ⟨S1x1x1024, .f32⟩
  | .hbm, ⟨39, _⟩ => ⟨S4x8192x1024, .f32⟩
  | .hbm, ⟨40, _⟩ => ⟨S4x8192x1024, .f32⟩
  | .hbm, ⟨41, _⟩ => ⟨S4x8192x6672, .f32⟩
  | .hbm, ⟨42, _⟩ => ⟨S4x8192x1024, .f32⟩
  | .hbm, ⟨43, _⟩ => ⟨S4x8192x1536, .f32⟩
  | .hbm, ⟨44, _⟩ => ⟨S4x8192x16, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S4x8192x8x2x64, .f32⟩
  | .hbm, ⟨50, _⟩ => ⟨S8192x1x1x32, .f32⟩
  | .hbm, ⟨51, _⟩ => ⟨S8192x1x1x32, .f32⟩
  | .hbm, ⟨52, _⟩ => ⟨S4x8192x8x2x32, .f32⟩
  | .hbm, ⟨53, _⟩ => ⟨S4x8192x8x2x32, .f32⟩
  | .hbm, ⟨54, _⟩ => ⟨S1x8192x1x1x32, .f32⟩
  | .hbm, ⟨55, _⟩ => ⟨S4x8192x8x2x32, .f32⟩
  | .hbm, ⟨56, _⟩ => ⟨S4x8192x8x2x32, .f32⟩
  | .hbm, ⟨57, _⟩ => ⟨S1x8192x1x1x32, .f32⟩
  | .hbm, ⟨58, _⟩ => ⟨S4x8192x8x2x32, .f32⟩
  | .hbm, ⟨59, _⟩ => ⟨S4x8192x8x2x32, .f32⟩
  | .hbm, ⟨60, _⟩ => ⟨S4x8192x8x2x32, .f32⟩
  | .hbm, ⟨61, _⟩ => ⟨S1x8192x1x1x32, .f32⟩
  | .hbm, ⟨62, _⟩ => ⟨S4x8192x8x2x32, .f32⟩
  | .hbm, ⟨63, _⟩ => ⟨S4x8192x8x2x32, .f32⟩
  | .hbm, ⟨64, _⟩ => ⟨S1x8192x1x1x32, .f32⟩
  | .hbm, ⟨65, _⟩ => ⟨S4x8192x8x2x32, .f32⟩
  | .hbm, ⟨66, _⟩ => ⟨S4x8192x8x2x32, .f32⟩
  | .hbm, ⟨67, _⟩ => ⟨S4x8192x8x2x32, .f32⟩
  | .hbm, ⟨68, _⟩ => ⟨S4x8192x8x2x64, .f32⟩
  | .hbm, ⟨69, _⟩ => ⟨S4x8192x8x2x64, .f32⟩
  | .hbm, ⟨70, _⟩ => ⟨S8192x1x1x32, .f32⟩
  | .hbm, ⟨71, _⟩ => ⟨S8192x1x1x32, .f32⟩
  | .hbm, ⟨72, _⟩ => ⟨S4x8192x8x2x32, .f32⟩
  | .hbm, ⟨73, _⟩ => ⟨S4x8192x8x2x32, .f32⟩
  | .hbm, ⟨74, _⟩ => ⟨S1x8192x1x1x32, .f32⟩
  | .hbm, ⟨75, _⟩ => ⟨S4x8192x8x2x32, .f32⟩
  | .hbm, ⟨76, _⟩ => ⟨S4x8192x8x2x32, .f32⟩
  | .hbm, ⟨77, _⟩ => ⟨S1x8192x1x1x32, .f32⟩
  | .hbm, ⟨78, _⟩ => ⟨S4x8192x8x2x32, .f32⟩
  | .hbm, ⟨79, _⟩ => ⟨S4x8192x8x2x32, .f32⟩
  | .hbm, ⟨80, _⟩ => ⟨S4x8192x8x2x32, .f32⟩
  | .hbm, ⟨81, _⟩ => ⟨S1x8192x1x1x32, .f32⟩
  | .hbm, ⟨82, _⟩ => ⟨S4x8192x8x2x32, .f32⟩
  | .hbm, ⟨83, _⟩ => ⟨S4x8192x8x2x32, .f32⟩
  | .hbm, ⟨84, _⟩ => ⟨S1x8192x1x1x32, .f32⟩
  | .hbm, ⟨85, _⟩ => ⟨S4x8192x8x2x32, .f32⟩
  | .hbm, ⟨86, _⟩ => ⟨S4x8192x8x2x32, .f32⟩
  | .hbm, ⟨87, _⟩ => ⟨S4x8192x8x2x32, .f32⟩
  | .hbm, ⟨88, _⟩ => ⟨S4x8192x8x2x64, .f32⟩
  | .hbm, ⟨89, _⟩ => ⟨S_, .i32⟩
  | .hbm, ⟨90, _⟩ => ⟨S_, .f32⟩
  | .hbm, ⟨91, _⟩ => ⟨S4x8192x128, .f32⟩
  | .hbm, ⟨92, _⟩ => ⟨S4x8192x1024, .f32⟩
  | .hbm, ⟨93, _⟩ => ⟨S4x8192x1024, .f32⟩
  | .hbm, ⟨94, _⟩ => ⟨S_, .f32⟩
  | .hbm, ⟨95, _⟩ => ⟨S4x8192x1024, .f32⟩
  | .hbm, ⟨96, _⟩ => ⟨S4x8192x1024, .f32⟩
  | .hbm, ⟨97, _⟩ => ⟨S_, .f32⟩
  | .hbm, ⟨98, _⟩ => ⟨S4x8192x1024, .f32⟩
  | .hbm, ⟨99, _⟩ => ⟨S4x8192x1024, .f32⟩
  | .hbm, ⟨100, _⟩ => ⟨S4x8192x1024, .f32⟩
  | .hbm, ⟨101, _⟩ => ⟨S4x8192x1024, .bf16⟩
  | .hbm, ⟨102, _⟩ => ⟨S32768x1024, .bf16⟩
  | .hbm, ⟨103, _⟩ => ⟨S4x8192x1536, .bf16⟩
  | .hbm, ⟨104, _⟩ => ⟨S32768x1536, .bf16⟩
  | .hbm, ⟨105, _⟩ => ⟨S32768x128, .f32⟩
  | .hbm, ⟨106, _⟩ => ⟨S32768x1024, .f32⟩
  | .hbm, ⟨107, _⟩ => ⟨S4x8192x8x2x64, .bf16⟩
  | .hbm, ⟨108, _⟩ => ⟨S32768x1024, .bf16⟩
  | .hbm, ⟨109, _⟩ => ⟨S4x8192x1024, .bf16⟩
  | .hbm, ⟨110, _⟩ => ⟨S32768x1024, .bf16⟩
  | .hbm, ⟨111, _⟩ => ⟨S4x8192x1024, .f32⟩
  | .hbm, ⟨112, _⟩ => ⟨S4x8192x1024, .f32⟩
  | .hbm, ⟨113, _⟩ => ⟨S_, .f32⟩
  | .hbm, ⟨114, _⟩ => ⟨S4x8192x1024, .f32⟩
  | .hbm, ⟨115, _⟩ => ⟨S4x8192x1024, .f32⟩
  | .hbm, ⟨116, _⟩ => ⟨S_, .f32⟩
  | .hbm, ⟨117, _⟩ => ⟨S4x8192x1024, .f32⟩
  | .hbm, ⟨118, _⟩ => ⟨S4x8192x1024, .f32⟩
  | .hbm, ⟨119, _⟩ => ⟨S4x8192x1024, .f32⟩
  | .hbm, ⟨120, _⟩ => ⟨S4x8192x1024, .bf16⟩
  | .hbm, ⟨121, _⟩ => ⟨S32768x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_c : Ref sig .tc := ⟨.hbm, 89, rfl⟩
abbrev main_call0_v0 : Ref sig .tc := ⟨.hbm, 90, rfl⟩
abbrev main_v79 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_call1_v5 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_call2_v0 : Ref sig .tc := ⟨.hbm, 111, rfl⟩
abbrev main_call2_v1 : Ref sig .tc := ⟨.hbm, 112, rfl⟩
abbrev main_call2_cst : Ref sig .tc := ⟨.hbm, 113, rfl⟩
abbrev main_call2_v2 : Ref sig .tc := ⟨.hbm, 114, rfl⟩
abbrev main_call2_v3 : Ref sig .tc := ⟨.hbm, 115, rfl⟩
abbrev main_call2_cst_0 : Ref sig .tc := ⟨.hbm, 116, rfl⟩
abbrev main_call2_v4 : Ref sig .tc := ⟨.hbm, 117, rfl⟩
abbrev main_call2_v5 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩

abbrev nD : Nat := 1
abbrev τ : Topo := Topo.v7x

variable {F : FTy → Type} [FloatOps F]
-- ==== Proof.Trip.lean ====
module

public import proofs.«01_k».proof.Proof.Gen.KernelIdeal
public import proofs.«01_k».proof.Proof.Gen.KernelIdeal.Loops
public import proofs.«01_k».proof.Proof.Gen.KernelIdeal.Frame
public import Idealize.ShloMosaic.Lib.LoopRemainder

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A memref's buffer, owned whole on core `c` at contents `f`. -/
abbrev bufP {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

/-- The block of 1024 rows of a key or value array that begins at offset `o`, as the body loads it. -/
abbrev kvRect (o : Fin 3 → ℕ) (h : ∀ a, o a + S1x1024x128.size a ≤ S1x8192x128.size a) : Rect S1x8192x128 := Rect.unit (s := S1x8192x128) o S1x1024x128.size h

/-- What one of the two maps keeps between two key tiles: the scores of the tile last computed, the
    maximum of each of their columns, and the running maximum, sum and weighted sum. -/
structure Sl (F : FTy → Type) where
  s : Vec F S1x1024x1024 .f32
  x : Vec F S1x1x1024 .f32
  m : Vec F S1x1x1024 .f32
  l : Vec F S1x1x1024 .f32
  a : Vec F S1x128x1024 .f32

/-- One tile of scores `s` with column maxima `x` taken into the running state, against the tile's values. -/
def Sl.consume (vb : Vec F S1x1024x128 .bf16) (s : Vec F S1x1024x1024 .f32) (x : Vec F S1x1x1024 .f32) (z : Sl F) : Sl F where
  s := z.s
  x := z.x
  m := k0_pay17 (k0_pay11 z.m x)
  l := k0_pay14 vb z.m x s z.l
  a := k0_pay16 (k0_pay12 z.m x) (k0_pay13 vb z.m x s) (k0_pay15 z.a)

/-- The pending tile replaced by the scores of the key block `kb`. -/
def Sl.score (kb qm : Vec F S1x1024x128 .bf16) (z : Sl F) : Sl F where
  s := k0_pay4 kb qm
  x := k0_pay5 kb qm
  m := z.m
  l := z.l
  a := z.a

/-- One trip of the loop on one map: the pending tile is consumed, then the tile of `kA`; the tile of `kB` is left pending. -/
def Sl.trip (kA kB vA vB qm : Vec F S1x1024x128 .bf16) (z : Sl F) : Sl F :=
  ((z.consume vA z.s z.x).consume vB (k0_pay4 kA qm) (k0_pay5 kA qm)).score kB qm

section Reads
variable {sig : RefSig} {κ : Kind} {sp : Space} {s : Shape} {e : EltTy} {Val : EltTy → Type} [∀ e, Nonempty (Val e)]

/-- A load through the last write's own rectangle reads what was written. -/
theorem readAt_hit (v : View sig κ sp s e) (f : v.ty.Contents Val) (r : Rect s) (w : r.shape.Idx → Val e) (L : List (View.Piece Val s e)) :
    v.readAt Val r.toLoadRect (v.writes Val f (⟨r, w⟩ :: L)) = w :=
  (View.readAt_writes_of_cover v f _ _ fun j => ⟨_, List.mem_cons_self, r.toLoadRect.idx_mem j⟩).trans (View.readCov_cons_toLoadRect v r w L)

/-- A load apart from the last write reads the writes before it. -/
theorem readAt_miss (v : View sig κ sp s e) (f : v.ty.Contents Val) (r : Rect s) (w : r.shape.Idx → Val e) (L : List (View.Piece Val s e)) (B : LoadRect s)
    (h : LoadRect.disj r B = true) : v.readAt Val B (v.writes Val f (⟨r, w⟩ :: L)) = v.readAt Val B (v.writes Val f L) :=
  View.readAt_writes_of_forall_not_mem v (v.writes Val f L) [⟨r, w⟩] B fun j p hp => by
    obtain rfl := List.mem_singleton.mp hp
    exact LoadRect.idx_not_mem_of_disj h j

theorem readCov_miss (v : View sig κ sp s e) (r : Rect s) (w : r.shape.Idx → Val e) (L : List (View.Piece Val s e)) (B : LoadRect s)
    (h : LoadRect.disj r B = true) : v.readCov (⟨r, w⟩ :: L) B = v.readCov L B := readAt_miss v _ r w L B h

end Reads

section Trip
variable (c : Dev nD) (i : grid0.Coords) (arg3 : Memref sig .tc .vmem S4x64 .f32) (harg3 : arg3.IsWhole) (arg4 : Memref sig .tc .vmem S1x1024x128 .f32) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S2x1024x128 .bf16) (harg10 : arg10.IsWhole) (arg11 : Memref sig .tc .vmem S2x1024x1024 .f32) (harg11 : arg11.IsWhole) (arg12 : Memref sig .tc .vmem S2x1024x1024 .f32) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x1x1024 .f32) (harg15 : arg15.IsWhole) (arg16 : Memref sig .tc .vmem S2x1x1024 .f32) (harg16 : arg16.IsWhole) (arg17 : Memref sig .tc .vmem S2x128x1024 .f32) (harg17 : arg17.IsWhole)

/-- The buffers' slot `0` reads as the state `z`. -/
structure Holds0 (f11 : Buf (Elt F) (arg11.view.loc (c : Thread nD τ)))
    (f13 : Buf (Elt F) (arg13.view.loc (c : Thread nD τ)))
    (f15 : Buf (Elt F) (arg15.view.loc (c : Thread nD τ)))
    (f16 : Buf (Elt F) (arg16.view.loc (c : Thread nD τ)))
    (f17 : Buf (Elt F) (arg17.view.loc (c : Thread nD τ))) (z : Sl F) : Prop where
  s : arg11.view.readAt (Elt F) (Rect.unit (s := S2x1024x1024) ![0, 0, 0] S1x1024x1024.size inb_S2x1024x1024_S1x1024x1024_0_0_0).toLoadRect f11 = z.s
  x : arg13.view.readAt (Elt F) (Rect.unit (s := S2x1x1024) ![0, 0, 0] S1x1x1024.size inb_S2x1x1024_S1x1x1024_0_0_0).toLoadRect f13 = z.x
  m : arg15.view.readAt (Elt F) (Rect.unit (s := S2x1x1024) ![0, 0, 0] S1x1x1024.size inb_S2x1x1024_S1x1x1024_0_0_0).toLoadRect f15 = z.m
  l : arg16.view.readAt (Elt F) (Rect.unit (s := S2x1x1024) ![0, 0, 0] S1x1x1024.size inb_S2x1x1024_S1x1x1024_0_0_0).toLoadRect f16 = z.l
  a : arg17.view.readAt (Elt F) (Rect.unit (s := S2x128x1024) ![0, 0, 0] S1x128x1024.size inb_S2x128x1024_S1x128x1024_0_0_0).toLoadRect f17 = z.a

/-- The buffers' slot `1` reads as the state `z`. -/
structure Holds1 (f11 : Buf (Elt F) (arg11.view.loc (c : Thread nD τ)))
    (f13 : Buf (Elt F) (arg13.view.loc (c : Thread nD τ)))
    (f15 : Buf (Elt F) (arg15.view.loc (c : Thread nD τ)))
    (f16 : Buf (Elt F) (arg16.view.loc (c : Thread nD τ)))
    (f17 : Buf (Elt F) (arg17.view.loc (c : Thread nD τ))) (z : Sl F) : Prop where
  s : arg11.view.readAt (Elt F) (Rect.unit (s := S2x1024x1024) ![1, 0, 0] S1x1024x1024.size inb_S2x1024x1024_S1x1024x1024_1_0_0).toLoadRect f11 = z.s
  x : arg13.view.readAt (Elt F) (Rect.unit (s := S2x1x1024) ![1, 0, 0] S1x1x1024.size inb_S2x1x1024_S1x1x1024_1_0_0).toLoadRect f13 = z.x
  m : arg15.view.readAt (Elt F) (Rect.unit (s := S2x1x1024) ![1, 0, 0] S1x1x1024.size inb_S2x1x1024_S1x1x1024_1_0_0).toLoadRect f15 = z.m
  l : arg16.view.readAt (Elt F) (Rect.unit (s := S2x1x1024) ![1, 0, 0] S1x1x1024.size inb_S2x1x1024_S1x1x1024_1_0_0).toLoadRect f16 = z.l
  a : arg17.view.readAt (Elt F) (Rect.unit (s := S2x128x1024) ![1, 0, 0] S1x128x1024.size inb_S2x128x1024_S1x128x1024_1_0_0).toLoadRect f17 = z.a

/-- The ten buffers of the loop, owned whole: keys, values and queries as given, the working buffers
    holding the states `z0` and `z1`. -/
def St (f5 : Buf (Elt F) (arg5.view.loc (c : Thread nD τ))) (f6 : Buf (Elt F) (arg6.view.loc (c : Thread nD τ)))
    (f10 : Buf (Elt F) (arg10.view.loc (c : Thread nD τ))) (z0 z1 : Sl F) : sProp 𝕄 :=
  iprop(bufP c arg5 f5 ∗ bufP c arg6 f6 ∗ bufP c arg10 f10 ∗ ∃ f11 f12 f13 f14 f15 f16 f17, bufP c arg11 f11 ∗ bufP c arg12 f12 ∗ bufP c arg13 f13 ∗ bufP c arg14 f14
    ∗ bufP c arg15 f15 ∗ bufP c arg16 f16 ∗ bufP c arg17 f17
    ∗ ⌜Holds0 c arg11 arg13 arg15 arg16 arg17 f11 f13 f15 f16 f17 z0 ∧ Holds1 c arg11 arg13 arg15 arg16 arg17 f11 f13 f15 f16 f17 z1⌝)

theorem trip (arg2 : BitVec 32) (v59 : FVec F S1024x1024 .f32) (k : Fin (k0_t1_loop i).trips)
    (f5 : Buf (Elt F) (arg5.view.loc (c : Thread nD τ))) (f6 : Buf (Elt F) (arg6.view.loc (c : Thread nD τ)))
    (f10 : Buf (Elt F) (arg10.view.loc (c : Thread nD τ)))
    (kwin vwin : (Fin 3 → ℕ) → Vec F S1x1024x128 .bf16) (qm0 qm1 : Vec F S1x1024x128 .bf16)
    (hk : ∀ o h, arg5.view.readAt (Elt F) (Rect.unit (s := S1x8192x128) o S1x1024x128.size h).toLoadRect f5 = kwin o)
    (hv : ∀ o h, arg6.view.readAt (Elt F) (Rect.unit (s := S1x8192x128) o S1x1024x128.size h).toLoadRect f6 = vwin o)
    (hq0 : arg10.view.readAt (Elt F) (Rect.unit (s := S2x1024x128) ![0, 0, 0] S1x1024x128.size inb_S2x1024x128_S1x1024x128_0_0_0).toLoadRect f10 = qm0)
    (hq1 : arg10.view.readAt (Elt F) (Rect.unit (s := S2x1024x128) ![1, 0, 0] S1x1024x128.size inb_S2x1024x128_S1x1024x128_1_0_0).toLoadRect f10 = qm1)
    (z0 z1 : Sl F) :
    St c arg5 arg6 arg10 arg11 arg12 arg13 arg14 arg15 arg16 arg17 f5 f6 f10 z0 z1 ⊢
    wp frame (wpE (defs₀ (F := F)) Variants.none (c : Thread nD τ) none) Set.univ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v59 k ())
      (fun _ => St c arg5 arg6 arg10 arg11 arg12 arg13 arg14 arg15 arg16 arg17 f5 f6 f10
        (z0.trip (kwin (k0_off2 i k)) (kwin (k0_off4 i k)) (vwin (k0_off3 i k)) (vwin (k0_off2 i k)) qm0)
        (z1.trip (kwin (k0_off2 i k)) (kwin (k0_off4 i k)) (vwin (k0_off3 i k)) (vwin (k0_off2 i k)) qm1)) := by
  unfold St
  iintro ⟨H5, H6, H10, %f11, %f12, %f13, %f14, %f15, %f16, %f17, H11, H12, H13, H14, H15, H16, H17, %hz⟩
  obtain ⟨⟨h0s, h0x, h0m, h0l, h0a⟩, ⟨h1s, h1x, h1m, h1l, h1a⟩⟩ := hz
  unfold k0_t1_body
  sl_exec
  sl_step
  isplitl [H5]; · iexact H5
  isplitl [H6]; · iexact H6
  isplitl [H10]; · iexact H10
  iexists _, _, _, _, _, _, _
  isplitl [H11]; · iexact H11
  isplitl [H12]; · iexact H12
  isplitl [H13]; · iexact H13
  isplitl [H14]; · iexact H14
  isplitl [H15]; · iexact H15
  isplitl [H16]; · iexact H16
  isplitl [H17]; · iexact H17
  ipureintro
  constructor <;> constructor
  all_goals
    delta trip.sl.v241 trip.sl.v206 trip.sl.v319 trip.sl.v330 trip.sl.v197 trip.sl.H17_2 trip.sl.v184 trip.sl.v327 trip.sl.v315 trip.sl.v307 trip.sl.v353 trip.sl.v318 trip.sl.v357
      trip.sl.v331 trip.sl.v288 trip.sl.v360 trip.sl.v310 trip.sl.v216 trip.sl.v189 trip.sl.v364 trip.sl.v365 trip.sl.v302 trip.sl.v205 trip.sl.v203 trip.sl.v183 trip.sl.v257
      trip.sl.v286 trip.sl.v336 trip.sl.v329 trip.sl.v248 trip.sl.v195 trip.sl.v275 trip.sl.H12_2 trip.sl.v335 trip.sl.v363 trip.sl.v349 trip.sl.v212 trip.sl.v367 trip.sl.v213
      trip.sl.v214 trip.sl.v341 trip.sl.v279 trip.sl.v296 trip.sl.H17_3 trip.sl.v328 trip.sl.v252 trip.sl.v332 trip.sl.v222 trip.sl.v322 trip.sl.v255 trip.sl.cst_111 trip.sl.v366
      trip.sl.cst_145 trip.sl.v233 trip.sl.v342 trip.sl.v191 trip.sl.cst_115 trip.sl.v340 trip.sl.v258 trip.sl.v259 trip.sl.v272 trip.sl.H16_3 trip.sl.v196 trip.sl.v192 trip.sl.v299
      trip.sl.H16_2 trip.sl.v316 trip.sl.v291 trip.sl.v320 trip.sl.v295 trip.sl.v226 trip.sl.v264 trip.sl.v294 trip.sl.v207 trip.sl.v305 trip.sl.v250 trip.sl.v188 trip.sl.v344
      trip.sl.v179 trip.sl.v267 trip.sl.v260 trip.sl.v187 trip.sl.v238 trip.sl.v283 trip.sl.v352 trip.sl.v236 trip.sl.v334 trip.sl.v201 trip.sl.v221 trip.sl.v211 trip.sl.v358
      trip.sl.v209 trip.sl.v284 trip.sl.v186 trip.sl.v265 trip.sl.v224 trip.sl.v202 trip.sl.v324 trip.sl.v223 trip.sl.v266 trip.sl.v200 trip.sl.v194 trip.sl.v239 trip.sl.v355
      trip.sl.H15_2 trip.sl.v176 trip.sl.v225 trip.sl.v219 trip.sl.v274 trip.sl.arg18 trip.sl.H15_3 trip.sl.v181 trip.sl.v218 trip.sl.v323 trip.sl.v321 trip.sl.v354 trip.sl.v273
      trip.sl.v343 trip.sl.v282 trip.sl.v242 trip.sl.v198 trip.sl.v337 trip.sl.v326 trip.sl.v362 trip.sl.v177 trip.sl.v361 trip.sl.v253 trip.sl.H14_2 trip.sl.v333 trip.sl.v375
      trip.sl.v232 trip.sl.v262 trip.sl.v199 trip.sl.v346 trip.sl.v325 trip.sl.v261 trip.sl.v359 trip.sl.cst_135 trip.sl.v256 trip.sl.v345 trip.sl.v245 trip.sl.v240 trip.sl.v204
      trip.sl.v230 trip.sl.v228 trip.sl.v227 trip.sl.v276 trip.sl.v306 trip.sl.v270 trip.sl.v231 trip.sl.v356
  all_goals simp (disch := decide) only [readAt_hit, readAt_miss, readCov_miss, View.readCov_cons_toLoadRect, h0s, h0x, h0m, h0l, h0a, h1s, h1x, h1m, h1l, h1a]
  all_goals dsimp only [Sl.trip, Sl.score, Sl.consume]
  all_goals rfl
end Trip

end Cert.KernelIdeal.Attn

end
-- ==== Proof.Offs.lean ====
module

public import proofs.«01_k».proof.Proof.Gen.KernelIdeal
public import proofs.«01_k».proof.Proof.Gen.KernelIdeal.Loops
public import proofs.«01_k».proof.Proof.Gen.KernelIdeal
public import Idealize.ShloMosaic.Lib.LoopRemainder

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! # The offsets, the trip count and the two branches in closed form -/

theorem trips_eq : ∀ i : grid0.Coords, (k0_t1_loop i).trips = (i 2).val / 2 := by decide +kernel
theorem off2_eq : ∀ (i : grid0.Coords) (k : Fin (k0_t1_loop i).trips), k0_off2 i k = ![0, 1024 * (2 * k.val), 0] := by decide +kernel
theorem off3_eq : ∀ (i : grid0.Coords) (k : Fin (k0_t1_loop i).trips),
    k0_off3 i k = ![0, 1024 * (if k.val = 0 then (i 2).val else 2 * k.val - 1), 0] := by decide +kernel
theorem off4_eq : ∀ (i : grid0.Coords) (k : Fin (k0_t1_loop i).trips), k0_off4 i k = ![0, 1024 * (2 * k.val + 1), 0] := by decide +kernel
theorem cond1_iff : ∀ i : grid0.Coords, k0_cond1 i = 1#1 ↔ (i 2).val % 2 = 0 := by decide +kernel
theorem cond2_iff : ∀ i : grid0.Coords, k0_cond2 i = 1#1 ↔ (i 2).val % 2 = 1 := by decide +kernel
theorem off8_eq : ∀ i : grid0.Coords, (i 2).val % 2 = 0 →
    k0_off8 i = ![0, 1024 * (if (i 2).val = 0 then 0 else (i 2).val - 1), 0] := by decide +kernel
theorem off9_eq : ∀ i : grid0.Coords, (i 2).val % 2 = 1 → k0_off9 i = ![0, 1024 * ((i 2).val - 1), 0] := by decide +kernel
theorem off10_eq : ∀ i : grid0.Coords, (i 2).val % 2 = 1 →
    k0_off10 i = ![0, 1024 * (if (i 2).val = 1 then 1 else (i 2).val - 2), 0] := by decide +kernel

end Cert.KernelIdeal.Attn

end
-- ==== Proof.Body.lean ====
module

public import proofs.«01_k».proof.Proof.Gen.KernelIdeal
public import proofs.«01_k».proof.Proof.Gen.KernelIdeal.Loops
public import proofs.«01_k».proof.Proof.Trip
public import proofs.«01_k».proof.Proof.Offs
public import Idealize.ShloMosaic.Lib.LoopRemainder
public import Idealize.ShloMosaic.Lib.VecWindow

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! # One grid point of the attention kernel

The kernel body at a grid point, from the blocks its windows hold to the block it stores. -/

section Reads
variable {sig : RefSig} {κ : Kind} {sp : Space} {s : Shape} {e : EltTy} {Val : EltTy → Type} [∀ e, Nonempty (Val e)]
-- {s : Shape} {e : EltTy} {Val : EltTy → Type} [∀ e, Nonempty (Val e)]

/-- A load inside the last write, which covers the whole buffer, reads the written value there. -/
theorem readAt_inside (v : View sig κ sp s e) (f : v.ty.Contents Val) {off : Fin s.rank → ℕ} (inb : ∀ a, off a + s.size a ≤ s.size a)
    (w : (Rect.unit off s.size inb).shape.Idx → Val e) (L : List (View.Piece Val s e)) (B : LoadRect s) :
    v.readAt Val B (v.writes Val f (⟨Rect.unit off s.size inb, w⟩ :: L)) = fun j => w (B.idx j) := by
  funext j
  exact congrFun (View.read_writes_full v f inb w L) (B.idx j)
end Reads

/-- The state of a map with `m`, `l` and `a` read from the slot of the freshly filled buffers. -/
def init0 (kb qm : Vec F S1x1024x128 .bf16) : Sl F where
  s := k0_pay153 kb qm
  x := k0_pay154 kb qm
  m := fun j => (k0_pay147 (F := F)) ((Rect.unit (s := S2x1x1024) ![0, 0, 0] S1x1x1024.size inb_S2x1x1024_S1x1x1024_0_0_0).toLoadRect.idx j)
  l := fun j => (k0_pay148 (F := F)) ((Rect.unit (s := S2x1x1024) ![0, 0, 0] S1x1x1024.size inb_S2x1x1024_S1x1x1024_0_0_0).toLoadRect.idx j)
  a := fun j => (k0_pay150 (k0_pay149 (F := F))) ((Rect.unit (s := S2x128x1024) ![0, 0, 0] S1x128x1024.size inb_S2x128x1024_S1x128x1024_0_0_0).toLoadRect.idx j)

/-- The same for the second map's slot. -/
def init1 (kb qm : Vec F S1x1024x128 .bf16) : Sl F where
  s := k0_pay156 (k0_pay155 kb qm)
  x := k0_pay157 (k0_pay155 kb qm)
  m := fun j => (k0_pay147 (F := F)) ((Rect.unit (s := S2x1x1024) ![1, 0, 0] S1x1x1024.size inb_S2x1x1024_S1x1x1024_1_0_0).toLoadRect.idx j)
  l := fun j => (k0_pay148 (F := F)) ((Rect.unit (s := S2x1x1024) ![1, 0, 0] S1x1x1024.size inb_S2x1x1024_S1x1x1024_1_0_0).toLoadRect.idx j)
  a := fun j => (k0_pay150 (k0_pay149 (F := F))) ((Rect.unit (s := S2x128x1024) ![1, 0, 0] S1x128x1024.size inb_S2x128x1024_S1x128x1024_1_0_0).toLoadRect.idx j)

/-- The state after `n` trips of the loop: `kb` and `vb` are the blocks of keys and values, `qi` the query tile. -/
def Sl.after (kb vb : ℕ → Vec F S1x1024x128 .bf16) (qi : ℕ) (qm : Vec F S1x1024x128 .bf16) (z : Sl F) : ℕ → Sl F
  | 0 => z
  | n + 1 => (Sl.after kb vb qi qm z n).trip (kb (2 * n)) (kb (2 * n + 1)) (vb (if n = 0 then qi else 2 * n - 1)) (vb (2 * n)) qm

/-- The end at an even query tile: the last scores are consumed. -/
def Sl.finE (vb : ℕ → Vec F S1x1024x128 .bf16) (qi : ℕ) (z : Sl F) : Sl F :=
  z.consume (vb (if qi = 0 then 0 else qi - 1)) z.s z.x

/-- The end at an odd query tile: the scores of the tile before are made, then both are consumed. -/
def Sl.finO (kb vb : ℕ → Vec F S1x1024x128 .bf16) (qi : ℕ) (qm : Vec F S1x1024x128 .bf16) (z : Sl F) : Sl F :=
  (z.consume (vb (if qi = 1 then 1 else qi - 2)) z.s z.x).consume (vb (qi - 1)) (k0_pay4 (kb (qi - 1)) qm) (k0_pay5 (kb (qi - 1)) qm)

/-- The final state of a map. -/
def Sl.fin (kb vb : ℕ → Vec F S1x1024x128 .bf16) (qi : ℕ) (qm : Vec F S1x1024x128 .bf16) (z : Sl F) : Sl F :=
  if qi % 2 = 0 then (Sl.after kb vb qi qm z (qi / 2)).finE vb qi else (Sl.after kb vb qi qm z (qi / 2)).finO kb vb qi qm

/-- The stored block, from the two final states, the lambdas, the norm's weights and the gate. -/
def outBlk (lam : Vec F S4x64 .f32) (z0 z1 : Sl F) (sub : Vec F S1x128 .f32) (g : Vec F S1x1024x128 .bf16) : Vec F S1x1024x128 .bf16 :=
  k0_pay1 (k0_pay170 (k0_pay169 lam) z0.a z0.l z1.a z1.l sub g)

section Whole
variable (c : Dev nD) (i : grid0.Coords) (arg3 : Memref sig .tc .vmem S4x64 .f32) (harg3 : arg3.IsWhole) (arg4 : Memref sig .tc .vmem S1x1024x128 .f32) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S2x1024x128 .bf16) (harg10 : arg10.IsWhole) (arg11 : Memref sig .tc .vmem S2x1024x1024 .f32) (harg11 : arg11.IsWhole) (arg12 : Memref sig .tc .vmem S2x1024x1024 .f32) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x1x1024 .f32) (harg15 : arg15.IsWhole) (arg16 : Memref sig .tc .vmem S2x1x1024 .f32) (harg16 : arg16.IsWhole) (arg17 : Memref sig .tc .vmem S2x128x1024 .f32) (harg17 : arg17.IsWhole)

/-- The loop's resources with the queries' buffer at any contents that hold both maps' queries. -/
def Inv (f5 : Buf (Elt F) (arg5.view.loc (c : Thread nD τ))) (f6 : Buf (Elt F) (arg6.view.loc (c : Thread nD τ)))
    (qm0 qm1 : Vec F S1x1024x128 .bf16) (z0 z1 : ℕ → Sl F) (n : ℕ) (_ : PUnit) : sProp 𝕄 :=
  iprop(∃ f10, ⌜arg10.view.readAt (Elt F) (Rect.unit (s := S2x1024x128) ![0, 0, 0] S1x1024x128.size inb_S2x1024x128_S1x1024x128_0_0_0).toLoadRect f10 = qm0
      ∧ arg10.view.readAt (Elt F) (Rect.unit (s := S2x1024x128) ![1, 0, 0] S1x1024x128.size inb_S2x1024x128_S1x1024x128_1_0_0).toLoadRect f10 = qm1⌝
    ∗ St c arg5 arg6 arg10 arg11 arg12 arg13 arg14 arg15 arg16 arg17 f5 f6 f10 (z0 n) (z1 n))

theorem inv_intro (f5 : Buf (Elt F) (arg5.view.loc (c : Thread nD τ))) (f6 : Buf (Elt F) (arg6.view.loc (c : Thread nD τ)))
    (qm0 qm1 : Vec F S1x1024x128 .bf16) (z0 z1 : ℕ → Sl F) (n : ℕ) (u : PUnit) (f10 : Buf (Elt F) (arg10.view.loc (c : Thread nD τ)))
    (h : arg10.view.readAt (Elt F) (Rect.unit (s := S2x1024x128) ![0, 0, 0] S1x1024x128.size inb_S2x1024x128_S1x1024x128_0_0_0).toLoadRect f10 = qm0
      ∧ arg10.view.readAt (Elt F) (Rect.unit (s := S2x1024x128) ![1, 0, 0] S1x1024x128.size inb_S2x1024x128_S1x1024x128_1_0_0).toLoadRect f10 = qm1) :
    St c arg5 arg6 arg10 arg11 arg12 arg13 arg14 arg15 arg16 arg17 f5 f6 f10 (z0 n) (z1 n)
      ⊢ Inv c arg5 arg6 arg10 arg11 arg12 arg13 arg14 arg15 arg16 arg17 f5 f6 qm0 qm1 z0 z1 n u := by
  unfold Inv
  iintro HS
  iexists f10
  isplitr; · ipureintro; exact h
  iexact HS

/-- The body at a grid point: it leaves its inputs, and its output window holds `outBlk` of the two final states. -/
theorem body
    (f3 : Buf (Elt F) (arg3.view.loc (c : Thread nD τ)))
    (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ)))
    (f8 : Buf (Elt F) (arg8.view.loc (c : Thread nD τ)))
    (lam : Vec F S4x64 .f32) (q : Vec F S1x1024x128 .f32) (g : Vec F S1x1024x128 .bf16) (sub : Vec F S1x128 .f32)
    (kwin vwin : (Fin 3 → ℕ) → Vec F S1x1024x128 .bf16)
    (h3 : arg3.view.readAt (Elt F) (Rect.unit (s := S4x64) ![0, 0] S4x64.size inb_S4x64_S4x64_0_0).toLoadRect f3 = lam)
    (h4 : arg4.view.readAt (Elt F) (Rect.unit (s := S1x1024x128) ![0, 0, 0] S1x1024x128.size inb_S1x1024x128_S1x1024x128_0_0_0).toLoadRect f4 = q)
    (h7 : arg7.view.readAt (Elt F) (Rect.unit (s := S1x1024x128) ![0, 0, 0] S1x1024x128.size inb_S1x1024x128_S1x1024x128_0_0_0).toLoadRect f7 = g)
    (h8 : arg8.view.readAt (Elt F) (Rect.unit (s := S1x128) ![0, 0] S1x128.size inb_S1x128_S1x128_0_0).toLoadRect f8 = sub)
    (hk : ∀ o h, arg5.view.readAt (Elt F) (Rect.unit (s := S1x8192x128) o S1x1024x128.size h).toLoadRect f5 = kwin o)
    (hv : ∀ o h, arg6.view.readAt (Elt F) (Rect.unit (s := S1x8192x128) o S1x1024x128.size h).toLoadRect f6 = vwin o)
    (Q : PUnit → sProp 𝕄) :
    iprop(bufP c arg3 f3 ∗ bufP c arg4 f4 ∗ bufP c arg5 f5 ∗ bufP c arg6 f6 ∗ bufP c arg7 f7 ∗ bufP c arg8 f8 ∗ (∃ f, bufP c arg9 f) ∗ (∃ f, bufP c arg10 f) ∗ (∃ f, bufP c arg11 f) ∗ (∃ f, bufP c arg12 f) ∗ (∃ f, bufP c arg13 f) ∗ (∃ f, bufP c arg14 f)
      ∗ (∃ f, bufP c arg15 f) ∗ (∃ f, bufP c arg16 f) ∗ (∃ f, bufP c arg17 f)
      ∗ ((bufP c arg3 f3 ∗ bufP c arg4 f4 ∗ bufP c arg5 f5 ∗ bufP c arg6 f6 ∗ bufP c arg7 f7 ∗ bufP c arg8 f8
        ∗ (∃ f, ⌜arg9.view.read (Elt F) f = outBlk lam
            ((init0 (kwin ![0, 1024 * (i 2).val, 0]) (k0_pay145 q)).fin (fun n => kwin ![0, 1024 * n, 0]) (fun n => vwin ![0, 1024 * n, 0]) (i 2).val (k0_pay145 q))
            ((init1 (kwin ![0, 1024 * (i 2).val, 0]) (k0_pay146 q)).fin (fun n => kwin ![0, 1024 * n, 0]) (fun n => vwin ![0, 1024 * n, 0]) (i 2).val (k0_pay146 q)) sub g⌝ ∗ bufP c arg9 f)
        ∗ (∃ f, bufP c arg10 f) ∗ (∃ f, bufP c arg11 f) ∗ (∃ f, bufP c arg12 f) ∗ (∃ f, bufP c arg13 f) ∗ (∃ f, bufP c arg14 f)
        ∗ (∃ f, bufP c arg15 f) ∗ (∃ f, bufP c arg16 f) ∗ (∃ f, bufP c arg17 f)) -∗ Q ⟨⟩)) ⊢
    wp frame (wpE (defs₀ (F := F)) Variants.none (c : Thread nD τ) none) Set.univ (cc0_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, HQ⟩
  simp only [cc0_diff_attn_eq_skeleton]; unfold cc0_diff_attn_skel
  simp only [k0_part20_eq_skeleton, k0_part21_eq_skeleton, k0_part22_eq_skeleton, k0_part23_eq_skeleton, k0_part24_eq_skeleton]
  sl_exec
  sl_for (Inv c arg5 arg6 arg10 arg11 arg12 arg13 arg14 arg15 arg16 arg17 f5 f6 (k0_pay145 q) (k0_pay146 q)
    (Sl.after (fun n => kwin ![0, 1024 * n, 0]) (fun n => vwin ![0, 1024 * n, 0]) (i 2).val (k0_pay145 q) (init0 (kwin ![0, 1024 * (i 2).val, 0]) (k0_pay145 q)))
    (Sl.after (fun n => kwin ![0, 1024 * n, 0]) (fun n => vwin ![0, 1024 * n, 0]) (i 2).val (k0_pay146 q) (init1 (kwin ![0, 1024 * (i 2).val, 0]) (k0_pay146 q)))) $$ [H5 H6 H10 H11 H12 H13 H14 H15 H16 H17]
  case region =>
    intro k _
    unfold Inv
    iintro ⟨%g10, %hq, HS⟩
    have ht := trip c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (k0_pay155 (kwin (k0_off1 i)) (k0_pay146 q)) k f5 f6 g10 kwin vwin (k0_pay145 q) (k0_pay146 q) hk hv hq.1 hq.2
    rw [off2_eq, off3_eq, off4_eq] at ht
    iapply ((ht _ _).trans (wp_mono (Fr := _) _ _ fun u => inv_intro (z0 := Sl.after (fun n => kwin ![0, 1024 * n, 0]) (fun n => vwin ![0, 1024 * n, 0]) (i 2).val (k0_pay145 q) (init0 (kwin ![0, 1024 * (i 2).val, 0]) (k0_pay145 q)))
      (z1 := Sl.after (fun n => kwin ![0, 1024 * n, 0]) (fun n => vwin ![0, 1024 * n, 0]) (i 2).val (k0_pay146 q) (init1 (kwin ![0, 1024 * (i 2).val, 0]) (k0_pay146 q))) (n := k.val + 1) c arg5 arg6 arg10 arg11 arg12 arg13 arg14 arg15 arg16 arg17 f5 f6 (k0_pay145 q) (k0_pay146 q) (u := u) (f10 := g10) hq)) $$ [HS]
    iexact HS
  · unfold Inv
    iexists _
    isplitr; rotate_left
    · unfold St
      isplitl [H5]; · iexact H5
      isplitl [H6]; · iexact H6
      isplitl [H10]; · iexact H10
      iexists _, _, _, _, _, _, _
      isplitl [H11]; · iexact H11
      isplitl [H12]; · iexact H12
      isplitl [H13]; · iexact H13
      isplitl [H14]; · iexact H14
      isplitl [H15]; · iexact H15
      isplitl [H16]; · iexact H16
      isplitl [H17]; · iexact H17
      ipureintro
      constructor <;> constructor
      all_goals
        delta body.sl.v87 body.sl.H11_2 body.sl.v69 body.sl.v70 body.sl.v71 body.sl.H15_1 body.sl.v73 body.sl.v72 body.sl.H16_1 body.sl.v83 body.sl.v88 body.sl.v52
                body.sl.H10_2 body.sl.v81 body.sl.v89 body.sl.v85 body.sl.v68 body.sl.H17_1 body.sl.v82 body.sl.v80 body.sl.H13_2 body.sl.v84 body.sl.v79 body.sl.r
                body.sl.v36
      all_goals try simp (disch := decide) only [readAt_hit, readAt_miss, readAt_inside, readCov_miss, View.readCov_cons_toLoadRect]
      all_goals try simp only [k0_off1_eq]
      all_goals dsimp only [Sl.after, init0, init1]
      all_goals first | done | exact readAt_inside (s := S2x1x1024) _ _ _ _ _ _ | exact readAt_inside (s := S2x128x1024) _ _ _ _ _ _ | rfl
    · ipureintro
      constructor
      all_goals
        try delta body.sl.v87 body.sl.H11_2 body.sl.v69 body.sl.v70 body.sl.v71 body.sl.H15_1 body.sl.v73 body.sl.v72 body.sl.H16_1 body.sl.v83 body.sl.v88 body.sl.v52
                body.sl.H10_2 body.sl.v81 body.sl.v89 body.sl.v85 body.sl.v68 body.sl.H17_1 body.sl.v82 body.sl.v80 body.sl.H13_2 body.sl.v84 body.sl.v79 body.sl.r
                body.sl.v36
      all_goals simp (disch := decide) only [readAt_hit, readAt_miss, readAt_inside, View.readCov_cons_toLoadRect]
  unfold Inv St
  iintro %acc ⟨%g10, %hq, H5, H6, H10, %g11, %g12, %g13, %g14, %g15, %g16, %g17, H11, H12, H13, H14, H15, H16, H17, %hz⟩
  obtain ⟨hq0, hq1⟩ := hq
  rw [show Scf.trips (k0_t1_loop i).lb (k0_t1_loop i).ub (k0_t1_loop i).st = (i 2).val / 2 from trips_eq i] at hz
  obtain ⟨⟨h0s, h0x, h0m, h0l, h0a⟩, ⟨h1s, h1x, h1m, h1l, h1a⟩⟩ := hz
  obtain he | he : (i 2).val % 2 = 0 ∨ (i 2).val % 2 = 1 := by omega
  · have hc1 : k0_cond1 i = 1#1 := (cond1_iff i).2 he
    have hc2 : ¬ k0_cond2 i = 1#1 := fun h => by have := (cond2_iff i).1 h; omega
    sl_exec
    sl_step
    iapply HQ
    isplitl [H3]; · iexact H3
    isplitl [H4]; · iexact H4
    isplitl [H5]; · iexact H5
    isplitl [H6]; · iexact H6
    isplitl [H7]; · iexact H7
    isplitl [H8]; · iexact H8
    isplitl [H9]
    · iexists _
      isplitr; rotate_left
      · iexact H9
      ipureintro
      refine (View.read_writes_full _ _ _ _ _).trans ?_
      simp only [Sl.fin, he, if_true]
      delta body.sl.v243 body.sl.v87 body.sl.H11_2 body.sl.v69 body.sl.v205 body.sl.v199 body.sl.v91 body.sl.v229 body.sl.v70 body.sl.v227 body.sl.v228
                body.sl.v230 body.sl.v235 body.sl.v234 body.sl.v90 body.sl.v71 body.sl.v241 body.sl.v197 body.sl.v222 body.sl.v142 body.sl.v210 body.sl.H15_1
                body.sl.v191 body.sl.v226 body.sl.v185 body.sl.v183 body.sl.v195 body.sl.v73 body.sl.v187 body.sl.v188 body.sl.v72 body.sl.v214 body.sl.v93
                body.sl.H16_1 body.sl.v83 body.sl.v88 body.sl.v52 body.sl.v211 body.sl.v221 body.sl.v209 body.sl.v202 body.sl.v233 body.sl.v219 body.sl.H10_2
                body.sl.v136 body.sl.v181 body.sl.v225 body.sl.v196 body.sl.H16_2 body.sl.v192 body.sl.v217 body.sl.v92 body.sl.v81 body.sl.r_1 body.sl.v178
                body.sl.v207 body.sl.v144 body.sl.v89 body.sl.v68 body.sl.v180 body.sl.v85 body.sl.cst_107 body.sl.v201 body.sl.v208 body.sl.v236 body.sl.cst_117
                body.sl.v193 body.sl.v224 body.sl.v190 body.sl.v231 body.sl.H17_1 body.sl.v176 body.sl.v200 body.sl.v194 body.sl.v82 body.sl.v138 body.sl.v239
                body.sl.H17_2 body.sl.v80 body.sl.v182 body.sl.H13_2 body.sl.v84 body.sl.v79 body.sl.v36 body.sl.r body.sl.v242
      simp (disch := decide) only [readAt_hit, readAt_miss, readCov_miss, View.readCov_cons_toLoadRect, h0s, h0x, h0m, h0l, h0a, h1s, h1x, h1m, h1l, h1a]
      rw [off8_eq i he]
      dsimp only [outBlk, Sl.finE, Sl.consume]
      rfl
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17
  · have hc1 : ¬ k0_cond1 i = 1#1 := fun h => by have := (cond1_iff i).1 h; omega
    have hc2 : k0_cond2 i = 1#1 := (cond2_iff i).2 he
    sl_exec
    sl_step
    iapply HQ
    isplitl [H3]; · iexact H3
    isplitl [H4]; · iexact H4
    isplitl [H5]; · iexact H5
    isplitl [H6]; · iexact H6
    isplitl [H7]; · iexact H7
    isplitl [H8]; · iexact H8
    isplitl [H9]
    · iexists _
      isplitr; rotate_left
      · iexact H9
      ipureintro
      refine (View.read_writes_full _ _ _ _ _).trans ?_
      simp only [Sl.fin, he, one_ne_zero, if_false]
      delta body.sl.v243 body.sl.v203 body.sl.v87 body.sl.v302 body.sl.H11_2 body.sl.v289 body.sl.v69 body.sl.v205 body.sl.v199 body.sl.v261 body.sl.v262
                body.sl.v254 body.sl.v325 body.sl.v91 body.sl.v91_1 body.sl.H12_2 body.sl.v229 body.sl.v70 body.sl.v176_1 body.sl.v335 body.sl.v227 body.sl.v228
                body.sl.v304 body.sl.v300 body.sl.v303 body.sl.v204 body.sl.v136_1 body.sl.v306 body.sl.v276 body.sl.v230 body.sl.v235 body.sl.v234 body.sl.v90
                body.sl.v199_1 body.sl.v236_1 body.sl.v206 body.sl.v330 body.sl.v233_1 body.sl.v319 body.sl.v71 body.sl.v241 body.sl.v192_1 body.sl.v224_1
                body.sl.v292 body.sl.v197 body.sl.v312 body.sl.cst_111 body.sl.v322 body.sl.v332 body.sl.v201_1 body.sl.v285 body.sl.v222 body.sl.v328 body.sl.v252
                body.sl.v255 body.sl.v194_1 body.sl.v142 body.sl.v142_1 body.sl.v288 body.sl.v210 body.sl.v331 body.sl.v307 body.sl.H15_1 body.sl.v297 body.sl.v208_1
                body.sl.v210_1 body.sl.v230_1 body.sl.v259 body.sl.H16_3 body.sl.v138_1 body.sl.cst_115 body.sl.v191 body.sl.v258 body.sl.v298 body.sl.v272
                body.sl.v189 body.sl.v181_1 body.sl.v197_1 body.sl.cst_133 body.sl.v226 body.sl.v339 body.sl.v295 body.sl.v291 body.sl.v316 body.sl.v264 body.sl.v314
                body.sl.v286 body.sl.v329 body.sl.v239_1 body.sl.v313 body.sl.v185 body.sl.v336 body.sl.H17_4 body.sl.v183 body.sl.v195 body.sl.v257 body.sl.cst_143
                body.sl.v225_1 body.sl.v179 body.sl.v73 body.sl.v263 body.sl.v267 body.sl.v187 body.sl.v188 body.sl.v221_1 body.sl.v72 body.sl.v213 body.sl.v214
                body.sl.H16_2_1 body.sl.v93 body.sl.v220 body.sl.H16_1 body.sl.v338 body.sl.v92_1 body.sl.v219_1 body.sl.v83 body.sl.v88 body.sl.v52 body.sl.v196_1
                body.sl.v211 body.sl.v221 body.sl.v209 body.sl.v296 body.sl.H17_3 body.sl.v229_1 body.sl.v279 body.sl.v247 body.sl.v223 body.sl.v188_1 body.sl.v202
                body.sl.v324 body.sl.v233 body.sl.v219 body.sl.H15_3 body.sl.H10_2 body.sl.v136 body.sl.v181 body.sl.v225 body.sl.v323 body.sl.v218 body.sl.v196
                body.sl.H16_2 body.sl.v90_1 body.sl.v192 body.sl.v299 body.sl.v217 body.sl.v273 body.sl.v92 body.sl.v200_1 body.sl.v81 body.sl.r_1 body.sl.v305
                body.sl.v178 body.sl.v237 body.sl.v294 body.sl.v207 body.sl.v250 body.sl.v144 body.sl.H14_2 body.sl.v177 body.sl.v202_1 body.sl.v89 body.sl.v269
                body.sl.v253 body.sl.v293 body.sl.v211_1 body.sl.v337 body.sl.v326 body.sl.v333 body.sl.v144_1 body.sl.v68 body.sl.v180 body.sl.v85 body.sl.v271
                body.sl.cst_107 body.sl.v238 body.sl.v222_1 body.sl.v215 body.sl.v201 body.sl.v208 body.sl.v236 body.sl.v334 body.sl.cst_117 body.sl.v93_1
                body.sl.v245 body.sl.v256 body.sl.v193 body.sl.v345 body.sl.v187_1 body.sl.v224 body.sl.v195_1 body.sl.v186 body.sl.v290 body.sl.v227_1 body.sl.v190
                body.sl.v270 body.sl.v231 body.sl.H17_1 body.sl.v176 body.sl.v200 body.sl.v194 body.sl.v82 body.sl.H16_4 body.sl.v138 body.sl.v235_1 body.sl.H15_2
                body.sl.v239 body.sl.v327 body.sl.v184 body.sl.H17_2 body.sl.v315 body.sl.v191_1 body.sl.v80 body.sl.v311 body.sl.v183_1 body.sl.v182 body.sl.r_2
                body.sl.v310 body.sl.v84 body.sl.H13_2 body.sl.H17_2_1 body.sl.v216 body.sl.v79 body.sl.v198 body.sl.v301 body.sl.v36 body.sl.v228_1 body.sl.v209_1
                body.sl.r body.sl.v242 body.sl.v249 body.sl.v242_1
      simp (disch := decide) only [readAt_hit, readAt_miss, readCov_miss, View.readCov_cons_toLoadRect, h0s, h0x, h0m, h0l, h0a, h1s, h1x, h1m, h1l, h1a]
      rw [off9_eq i he, off10_eq i he]
      dsimp only [outBlk, Sl.finO, Sl.consume]
      rfl
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17
end Whole

end Cert.KernelIdeal.Attn

end
-- ==== Proof.Launch.lean ====
module

public import proofs.«01_k».proof.Proof.Gen.KernelIdeal
public import proofs.«01_k».proof.Proof.Gen.KernelIdeal.Loops
public import proofs.«01_k».proof.Proof.Body
public import proofs.«01_k».proof.Proof.Gen.KernelIdeal.Frame
public import Idealize.ShloMosaic.Lib.LoopRemainder

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! # The launch of the attention kernel

The pipeline's proof data (what every window's buffer holds after a grid point), the body's obligation at
every point, and the run of the whole program. -/

variable (m : (ℓ : Loc nD τ sig) → Buf (Elt F) ℓ) (ρ : Dev nD → PrngReg)

/-- The rows `o` of a head's keys or values, as one block. -/
def winOf (x : Vec F S1x8192x128 .bf16) (o : Fin 3 → ℕ) : Vec F S1x1024x128 .bf16 :=
  if h : ∀ a, o a + S1x1024x128.size a ≤ S1x8192x128.size a then
    fun j => x ((Rect.unit (s := S1x8192x128) o S1x1024x128.size h).toLoadRect.idx j)
  else fun _ => x (fun a => ⟨0, by revert a; decide⟩)

/-- The block stored at the query tile `qi`, from the six blocks that the windows hold. -/
def blockOut (qi : ℕ) (lam : Vec F S4x64 .f32) (q : Vec F S1x1024x128 .f32) (k v : Vec F S1x8192x128 .bf16) (g : Vec F S1x1024x128 .bf16)
    (sub : Vec F S1x128 .f32) : Vec F S1x1024x128 .bf16 :=
  outBlk lam
    ((init0 (winOf k ![0, 1024 * qi, 0]) (k0_pay145 q)).fin (fun n => winOf k ![0, 1024 * n, 0]) (fun n => winOf v ![0, 1024 * n, 0]) qi (k0_pay145 q))
    ((init1 (winOf k ![0, 1024 * qi, 0]) (k0_pay146 q)).fin (fun n => winOf k ![0, 1024 * n, 0]) (fun n => winOf v ![0, 1024 * n, 0]) qi (k0_pay146 q)) sub g

/-- What the body leaves in the output's buffer at point `t`. -/
def outAt (c : Dev nD) (t : Fin cfg0.N) : (cfg0.win 6).block.Idx → Elt F (cfg0.win 6).elt :=
  blockOut (grid0.coords t 2).val (iblk m c 0 t) (iblk m c 1 t) (iblk m c 2 t) (iblk m c 3 t) (iblk m c 4 t) (iblk m c 5 t)

/-- The proof data: every input's buffer keeps its block, the output's holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = outAt m c t := by dsimp only [dats]

theorem before_w0 (c : Dev nD) (t : Fin cfg0.N) (d) : (dats m 0 c).before 0 t d = iblk m c 0 t := before0_0_of m _ rfl (after_w0 m c) t d
theorem before_w1 (c : Dev nD) (t : Fin cfg0.N) (d) : (dats m 0 c).before 1 t d = iblk m c 1 t := before0_1_of m _ rfl (after_w1 m c) t d
theorem before_w2 (c : Dev nD) (t : Fin cfg0.N) (d) : (dats m 0 c).before 2 t d = iblk m c 2 t := before0_2_of m _ rfl (after_w2 m c) t d
theorem before_w3 (c : Dev nD) (t : Fin cfg0.N) (d) : (dats m 0 c).before 3 t d = iblk m c 3 t := before0_3_of m _ rfl (after_w3 m c) t d
theorem before_w4 (c : Dev nD) (t : Fin cfg0.N) (d) : (dats m 0 c).before 4 t d = iblk m c 4 t := before0_4_of m _ rfl (after_w4 m c) t d
theorem before_w5 (c : Dev nD) (t : Fin cfg0.N) (d) : (dats m 0 c).before 5 t d = iblk m c 5 t := before0_5_of m _ rfl (after_w5 m c) t d

/-- The table's row of the kernel is its body on the point's buffers. -/
theorem defs_row : (defs₀ (F := F)) .tc cfg0.body = fun a => cc0_diff_attn (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) := rfl
theorem prog_eq (t : Fin cfg0.N) : (defs₀ (F := F)) .tc cfg0.body (cfg0.bodyArgs t (cfg0.slots t)) = bodyAt0 t :=
  (congrFun defs_row _).trans rfl

/-- A load of one block out of a whole buffer. -/
theorem readAt_winOf (v : View sig .tc .vmem S1x8192x128 .bf16) (f : v.ty.Contents (Elt F)) (x : Vec F S1x8192x128 .bf16) (hx : v.read (Elt F) f = x)
    (o : Fin 3 → ℕ) (h : ∀ a, o a + S1x1024x128.size a ≤ S1x8192x128.size a) :
    v.readAt (Elt F) (Rect.unit (s := S1x8192x128) o S1x1024x128.size h).toLoadRect f = winOf x o := by
  subst hx
  unfold winOf
  rw [dif_pos h]
  rfl

/-- A scratch buffer's own points-to is that of its whole view. -/
theorem scratch_eq (c : Dev nD) (b : Ref sig .tc) (f : Buf (Elt F) ((c : Thread nD τ).loc b)) :
    iprop((c : Thread nD τ).loc b ↦[(View.whole b).set]{fullShare} f) = (iprop((c : Thread nD τ).loc b ↦{fullShare} f) : sProp 𝕄) := by
  rw [View.set_whole]

set_option backward.isDefEq.respectTransparency.types false in
theorem body_obligation (c : Dev nD) : BodyObligation (dats (F := F) m 0 c) (defs₀ (F := F)) Variants.none () Set.univ := fun t => by
  rw [bigSep_W0, bigSep_W0]
  dsimp only
  simp only [before_w0, before_w1, before_w2, before_w3, before_w4, before_w5, after_w0, after_w1, after_w2, after_w3, after_w4, after_w5, after_w6]
  rw [show (dats m 0 c).Φ t.castSucc = Pipeline.ΦA spec0 c from rfl, show (dats m 0 c).Φ t.succ = Pipeline.ΦA spec0 c from rfl]
  unfold Dat.owesAt Pipeline.owesWithin
  rw [show (dats m 0 c).owed t.castSucc = 0 from rfl, show (dats m 0 c).owed t.succ = 0 from rfl]
  unfold owns Pipeline.ΦA
  rw [scopedRest0_eq]
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩⟩, Hr⟩, HW, ⟨%d0, %f3, %e3, H3⟩, ⟨%d1, %f4, %e4, H4⟩, ⟨%d2, %f5, %e5, H5⟩, ⟨%d3, %f6, %e6, H6⟩, ⟨%d4, %f7, %e7, H7⟩, ⟨%d5, %f8, %e8, H8⟩, ⟨%d6, %f9, -, H9⟩⟩
  sl_rw [prog_eq t]
  iapply (body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    f3 f4 f5 f6 f7 f8 (iblk m c 0 t) (iblk m c 1 t) (iblk m c 4 t) (iblk m c 5 t) (winOf (iblk m c 2 t)) (winOf (iblk m c 3 t))
    ((View.readAt_full _ f3 inb_S4x64_S4x64_0_0).trans e3) ((View.readAt_full _ f4 inb_S1x1024x128_S1x1024x128_0_0_0).trans e4)
    ((View.readAt_full _ f7 inb_S1x1024x128_S1x1024x128_0_0_0).trans e7) ((View.readAt_full _ f8 inb_S1x128_S1x128_0_0).trans e8)
    (readAt_winOf _ f5 _ e5) (readAt_winOf _ f6 _ e6))
  isplitl [H3]; · iexact H3
  isplitl [H4]; · iexact H4
  isplitl [H5]; · iexact H5
  isplitl [H6]; · iexact H6
  isplitl [H7]; · iexact H7
  isplitl [H8]; · iexact H8
  isplitl [H9]; · iexists f9; iexact H9
  isplitl [H10]; · iexists f10; iapply (Entails.of_eq (scratch_eq c cc0_scratch0 f10).symm); iexact H10
  isplitl [H11]; · iexists f11; iapply (Entails.of_eq (scratch_eq c cc0_scratch1 f11).symm); iexact H11
  isplitl [H12]; · iexists f12; iapply (Entails.of_eq (scratch_eq c cc0_scratch2 f12).symm); iexact H12
  isplitl [H13]; · iexists f13; iapply (Entails.of_eq (scratch_eq c cc0_scratch3 f13).symm); iexact H13
  isplitl [H14]; · iexists f14; iapply (Entails.of_eq (scratch_eq c cc0_scratch4 f14).symm); iexact H14
  isplitl [H15]; · iexists f15; iapply (Entails.of_eq (scratch_eq c cc0_scratch5 f15).symm); iexact H15
  isplitl [H16]; · iexists f16; iapply (Entails.of_eq (scratch_eq c cc0_scratch6 f16).symm); iexact H16
  isplitl [H17]; · iexists f17; iapply (Entails.of_eq (scratch_eq c cc0_scratch7 f17).symm); iexact H17
  iintro ⟨H3, H4, H5, H6, H7, H8, ⟨%f9', %e9, H9⟩, ⟨%g10, H10⟩, ⟨%g11, H11⟩, ⟨%g12, H12⟩, ⟨%g13, H13⟩, ⟨%g14, H14⟩, ⟨%g15, H15⟩, ⟨%g16, H16⟩, ⟨%g17, H17⟩⟩
  isplitl [H10 H11 H12 H13 H14 H15 H16 H17 Hr]
  · isplitr [Hr]
    · isplitl [H10]; · iexists g10; iapply (Entails.of_eq (scratch_eq c cc0_scratch0 g10)); iexact H10
      isplitl [H11]; · iexists g11; iapply (Entails.of_eq (scratch_eq c cc0_scratch1 g11)); iexact H11
      isplitl [H12]; · iexists g12; iapply (Entails.of_eq (scratch_eq c cc0_scratch2 g12)); iexact H12
      isplitl [H13]; · iexists g13; iapply (Entails.of_eq (scratch_eq c cc0_scratch3 g13)); iexact H13
      isplitl [H14]; · iexists g14; iapply (Entails.of_eq (scratch_eq c cc0_scratch4 g14)); iexact H14
      isplitl [H15]; · iexists g15; iapply (Entails.of_eq (scratch_eq c cc0_scratch5 g15)); iexact H15
      isplitl [H16]; · iexists g16; iapply (Entails.of_eq (scratch_eq c cc0_scratch6 g16)); iexact H16
      iexists g17; iapply (Entails.of_eq (scratch_eq c cc0_scratch7 g17)); iexact H17
    · iexact Hr
  isplitl [HW]; · iexact HW
  isplitl [H3]
  · iexists f3
    isplitr
    · ipureintro; exact e3
    · iexact H3
  isplitl [H4]
  · iexists f4
    isplitr
    · ipureintro; exact e4
    · iexact H4
  isplitl [H5]
  · iexists f5
    isplitr
    · ipureintro; exact e5
    · iexact H5
  isplitl [H6]
  · iexists f6
    isplitr
    · ipureintro; exact e6
    · iexact H6
  isplitl [H7]
  · iexists f7
    isplitr
    · ipureintro; exact e7
    · iexact H7
  isplitl [H8]
  · iexists f8
    isplitr
    · ipureintro; exact e8
    · iexact H8
  iexists f9'
  isplitr
  · ipureintro; exact e9
  · iexact H9

set_option backward.isDefEq.respectTransparency.types false in
/-- The whole program runs, and ends with the arrays the proof data name and no semaphore held. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The arguments end as they began, and no semaphore is held. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 1).trans (((dats m 0 c).arrAt_in 1 rfl _).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 0).trans (((dats m 0 c).arrAt_in 0 rfl _).trans (V_main_arg4 m c)),
      ((h.1 c).2 main_arg5 (Pipeline.mem_restRefs_of main_arg5 (by decide) (by decide))).trans (V_main_arg5 m c)⟩, h.2⟩)
    (run_quiescent m ρ)

end Cert.KernelIdeal.Attn

end
-- ==== Proof.KBody.lean ====
module

public import proofs.«01_k».proof.Proof.Gen.Kernel
public import proofs.«01_k».proof.Proof.Gen.Kernel.Loops
public import proofs.«01_k».proof.Proof.KTrip
public import proofs.«01_k».proof.Proof.KOffs
public import Idealize.ShloMosaic.Lib.LoopRemainder
public import Idealize.ShloMosaic.Lib.VecWindow

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # One grid point of the attention kernel

The kernel body at a grid point, from the blocks its windows hold to the block it stores. -/

section Reads
variable {sig : RefSig} {κ : Kind} {sp : Space} {s : Shape} {e : EltTy} {Val : EltTy → Type} [∀ e, Nonempty (Val e)]
-- {s : Shape} {e : EltTy} {Val : EltTy → Type} [∀ e, Nonempty (Val e)]

/-- A load inside the last write, which covers the whole buffer, reads the written value there. -/
theorem readAt_inside (v : View sig κ sp s e) (f : v.ty.Contents Val) {off : Fin s.rank → ℕ} (inb : ∀ a, off a + s.size a ≤ s.size a)
    (w : (Rect.unit off s.size inb).shape.Idx → Val e) (L : List (View.Piece Val s e)) (B : LoadRect s) :
    v.readAt Val B (v.writes Val f (⟨Rect.unit off s.size inb, w⟩ :: L)) = fun j => w (B.idx j) := by
  funext j
  exact congrFun (View.read_writes_full v f inb w L) (B.idx j)
end Reads

/-- The state of a map with `m`, `l` and `a` read from the slot of the freshly filled buffers. -/
def init0 (kb qm : Vec F S1x1024x128 .bf16) : Sl F where
  s := k0_pay153 kb qm
  x := k0_pay154 kb qm
  m := fun j => (k0_pay147 (F := F)) ((Rect.unit (s := S2x1x1024) ![0, 0, 0] S1x1x1024.size inb_S2x1x1024_S1x1x1024_0_0_0).toLoadRect.idx j)
  l := fun j => (k0_pay148 (F := F)) ((Rect.unit (s := S2x1x1024) ![0, 0, 0] S1x1x1024.size inb_S2x1x1024_S1x1x1024_0_0_0).toLoadRect.idx j)
  a := fun j => (k0_pay150 (k0_pay149 (F := F))) ((Rect.unit (s := S2x128x1024) ![0, 0, 0] S1x128x1024.size inb_S2x128x1024_S1x128x1024_0_0_0).toLoadRect.idx j)

/-- The same for the second map's slot. -/
def init1 (kb qm : Vec F S1x1024x128 .bf16) : Sl F where
  s := k0_pay156 (k0_pay155 kb qm)
  x := k0_pay157 (k0_pay155 kb qm)
  m := fun j => (k0_pay147 (F := F)) ((Rect.unit (s := S2x1x1024) ![1, 0, 0] S1x1x1024.size inb_S2x1x1024_S1x1x1024_1_0_0).toLoadRect.idx j)
  l := fun j => (k0_pay148 (F := F)) ((Rect.unit (s := S2x1x1024) ![1, 0, 0] S1x1x1024.size inb_S2x1x1024_S1x1x1024_1_0_0).toLoadRect.idx j)
  a := fun j => (k0_pay150 (k0_pay149 (F := F))) ((Rect.unit (s := S2x128x1024) ![1, 0, 0] S1x128x1024.size inb_S2x128x1024_S1x128x1024_1_0_0).toLoadRect.idx j)

/-- The state after `n` trips of the loop: `kb` and `vb` are the blocks of keys and values, `qi` the query tile. -/
def Sl.after (kb vb : ℕ → Vec F S1x1024x128 .bf16) (qi : ℕ) (qm : Vec F S1x1024x128 .bf16) (z : Sl F) : ℕ → Sl F
  | 0 => z
  | n + 1 => (Sl.after kb vb qi qm z n).trip (kb (2 * n)) (kb (2 * n + 1)) (vb (if n = 0 then qi else 2 * n - 1)) (vb (2 * n)) qm

/-- The end at an even query tile: the last scores are consumed. -/
def Sl.finE (vb : ℕ → Vec F S1x1024x128 .bf16) (qi : ℕ) (z : Sl F) : Sl F :=
  z.consume (vb (if qi = 0 then 0 else qi - 1)) z.s z.x

/-- The end at an odd query tile: the scores of the tile before are made, then both are consumed. -/
def Sl.finO (kb vb : ℕ → Vec F S1x1024x128 .bf16) (qi : ℕ) (qm : Vec F S1x1024x128 .bf16) (z : Sl F) : Sl F :=
  (z.consume (vb (if qi = 1 then 1 else qi - 2)) z.s z.x).consume (vb (qi - 1)) (k0_pay4 (kb (qi - 1)) qm) (k0_pay5 (kb (qi - 1)) qm)

/-- The final state of a map. -/
def Sl.fin (kb vb : ℕ → Vec F S1x1024x128 .bf16) (qi : ℕ) (qm : Vec F S1x1024x128 .bf16) (z : Sl F) : Sl F :=
  if qi % 2 = 0 then (Sl.after kb vb qi qm z (qi / 2)).finE vb qi else (Sl.after kb vb qi qm z (qi / 2)).finO kb vb qi qm

/-- The stored block, from the two final states, the lambdas, the norm's weights and the gate. -/
def outBlk (lam : Vec F S4x64 .f32) (z0 z1 : Sl F) (sub : Vec F S1x128 .f32) (g : Vec F S1x1024x128 .bf16) : Vec F S1x1024x128 .bf16 :=
  k0_pay1 (k0_pay170 (k0_pay169 lam) z0.a z0.l z1.a z1.l sub g)

section Whole
variable (c : Dev nD) (i : grid0.Coords) (arg3 : Memref sig .tc .vmem S4x64 .f32) (harg3 : arg3.IsWhole) (arg4 : Memref sig .tc .vmem S1x1024x128 .f32) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x1024x128 .bf16) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S2x1024x128 .bf16) (harg10 : arg10.IsWhole) (arg11 : Memref sig .tc .vmem S2x1024x1024 .f32) (harg11 : arg11.IsWhole) (arg12 : Memref sig .tc .vmem S2x1024x1024 .f32) (harg12 : arg12.IsWhole) (arg13 : Memref sig .tc .vmem S2x1x1024 .f32) (harg13 : arg13.IsWhole) (arg14 : Memref sig .tc .vmem S2x1x1024 .f32) (harg14 : arg14.IsWhole) (arg15 : Memref sig .tc .vmem S2x1x1024 .f32) (harg15 : arg15.IsWhole) (arg16 : Memref sig .tc .vmem S2x1x1024 .f32) (harg16 : arg16.IsWhole) (arg17 : Memref sig .tc .vmem S2x128x1024 .f32) (harg17 : arg17.IsWhole)

/-- The loop's resources with the queries' buffer at any contents that hold both maps' queries. -/
def Inv (f5 : Buf (Elt F) (arg5.view.loc (c : Thread nD τ))) (f6 : Buf (Elt F) (arg6.view.loc (c : Thread nD τ)))
    (qm0 qm1 : Vec F S1x1024x128 .bf16) (z0 z1 : ℕ → Sl F) (n : ℕ) (_ : PUnit) : sProp 𝕄 :=
  iprop(∃ f10, ⌜arg10.view.readAt (Elt F) (Rect.unit (s := S2x1024x128) ![0, 0, 0] S1x1024x128.size inb_S2x1024x128_S1x1024x128_0_0_0).toLoadRect f10 = qm0
      ∧ arg10.view.readAt (Elt F) (Rect.unit (s := S2x1024x128) ![1, 0, 0] S1x1024x128.size inb_S2x1024x128_S1x1024x128_1_0_0).toLoadRect f10 = qm1⌝
    ∗ St c arg5 arg6 arg10 arg11 arg12 arg13 arg14 arg15 arg16 arg17 f5 f6 f10 (z0 n) (z1 n))

theorem inv_intro (f5 : Buf (Elt F) (arg5.view.loc (c : Thread nD τ))) (f6 : Buf (Elt F) (arg6.view.loc (c : Thread nD τ)))
    (qm0 qm1 : Vec F S1x1024x128 .bf16) (z0 z1 : ℕ → Sl F) (n : ℕ) (u : PUnit) (f10 : Buf (Elt F) (arg10.view.loc (c : Thread nD τ)))
    (h : arg10.view.readAt (Elt F) (Rect.unit (s := S2x1024x128) ![0, 0, 0] S1x1024x128.size inb_S2x1024x128_S1x1024x128_0_0_0).toLoadRect f10 = qm0
      ∧ arg10.view.readAt (Elt F) (Rect.unit (s := S2x1024x128) ![1, 0, 0] S1x1024x128.size inb_S2x1024x128_S1x1024x128_1_0_0).toLoadRect f10 = qm1) :
    St c arg5 arg6 arg10 arg11 arg12 arg13 arg14 arg15 arg16 arg17 f5 f6 f10 (z0 n) (z1 n)
      ⊢ Inv c arg5 arg6 arg10 arg11 arg12 arg13 arg14 arg15 arg16 arg17 f5 f6 qm0 qm1 z0 z1 n u := by
  unfold Inv
  iintro HS
  iexists f10
  isplitr; · ipureintro; exact h
  iexact HS

/-- The body at a grid point: it leaves its inputs, and its output window holds `outBlk` of the two final states. -/
theorem body
    (f3 : Buf (Elt F) (arg3.view.loc (c : Thread nD τ)))
    (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ)))
    (f8 : Buf (Elt F) (arg8.view.loc (c : Thread nD τ)))
    (lam : Vec F S4x64 .f32) (q : Vec F S1x1024x128 .f32) (g : Vec F S1x1024x128 .bf16) (sub : Vec F S1x128 .f32)
    (kwin vwin : (Fin 3 → ℕ) → Vec F S1x1024x128 .bf16)
    (h3 : arg3.view.readAt (Elt F) (Rect.unit (s := S4x64) ![0, 0] S4x64.size inb_S4x64_S4x64_0_0).toLoadRect f3 = lam)
    (h4 : arg4.view.readAt (Elt F) (Rect.unit (s := S1x1024x128) ![0, 0, 0] S1x1024x128.size inb_S1x1024x128_S1x1024x128_0_0_0).toLoadRect f4 = q)
    (h7 : arg7.view.readAt (Elt F) (Rect.unit (s := S1x1024x128) ![0, 0, 0] S1x1024x128.size inb_S1x1024x128_S1x1024x128_0_0_0).toLoadRect f7 = g)
    (h8 : arg8.view.readAt (Elt F) (Rect.unit (s := S1x128) ![0, 0] S1x128.size inb_S1x128_S1x128_0_0).toLoadRect f8 = sub)
    (hk : ∀ o h, arg5.view.readAt (Elt F) (Rect.unit (s := S1x8192x128) o S1x1024x128.size h).toLoadRect f5 = kwin o)
    (hv : ∀ o h, arg6.view.readAt (Elt F) (Rect.unit (s := S1x8192x128) o S1x1024x128.size h).toLoadRect f6 = vwin o)
    (Q : PUnit → sProp 𝕄) :
    iprop(bufP c arg3 f3 ∗ bufP c arg4 f4 ∗ bufP c arg5 f5 ∗ bufP c arg6 f6 ∗ bufP c arg7 f7 ∗ bufP c arg8 f8 ∗ (∃ f, bufP c arg9 f) ∗ (∃ f, bufP c arg10 f) ∗ (∃ f, bufP c arg11 f) ∗ (∃ f, bufP c arg12 f) ∗ (∃ f, bufP c arg13 f) ∗ (∃ f, bufP c arg14 f)
      ∗ (∃ f, bufP c arg15 f) ∗ (∃ f, bufP c arg16 f) ∗ (∃ f, bufP c arg17 f)
      ∗ ((bufP c arg3 f3 ∗ bufP c arg4 f4 ∗ bufP c arg5 f5 ∗ bufP c arg6 f6 ∗ bufP c arg7 f7 ∗ bufP c arg8 f8
        ∗ (∃ f, ⌜arg9.view.read (Elt F) f = outBlk lam
            ((init0 (kwin ![0, 1024 * (i 2).val, 0]) (k0_pay145 q)).fin (fun n => kwin ![0, 1024 * n, 0]) (fun n => vwin ![0, 1024 * n, 0]) (i 2).val (k0_pay145 q))
            ((init1 (kwin ![0, 1024 * (i 2).val, 0]) (k0_pay146 q)).fin (fun n => kwin ![0, 1024 * n, 0]) (fun n => vwin ![0, 1024 * n, 0]) (i 2).val (k0_pay146 q)) sub g⌝ ∗ bufP c arg9 f)
        ∗ (∃ f, bufP c arg10 f) ∗ (∃ f, bufP c arg11 f) ∗ (∃ f, bufP c arg12 f) ∗ (∃ f, bufP c arg13 f) ∗ (∃ f, bufP c arg14 f)
        ∗ (∃ f, bufP c arg15 f) ∗ (∃ f, bufP c arg16 f) ∗ (∃ f, bufP c arg17 f)) -∗ Q ⟨⟩)) ⊢
    wp frame (wpE (defs₀ (F := F)) Variants.none (c : Thread nD τ) none) Set.univ (cc0_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  iintro ⟨H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, HQ⟩
  simp only [cc0_diff_attn_eq_skeleton]; unfold cc0_diff_attn_skel
  simp only [k0_part20_eq_skeleton, k0_part21_eq_skeleton, k0_part22_eq_skeleton, k0_part23_eq_skeleton, k0_part24_eq_skeleton]
  sl_exec
  sl_for (Inv c arg5 arg6 arg10 arg11 arg12 arg13 arg14 arg15 arg16 arg17 f5 f6 (k0_pay145 q) (k0_pay146 q)
    (Sl.after (fun n => kwin ![0, 1024 * n, 0]) (fun n => vwin ![0, 1024 * n, 0]) (i 2).val (k0_pay145 q) (init0 (kwin ![0, 1024 * (i 2).val, 0]) (k0_pay145 q)))
    (Sl.after (fun n => kwin ![0, 1024 * n, 0]) (fun n => vwin ![0, 1024 * n, 0]) (i 2).val (k0_pay146 q) (init1 (kwin ![0, 1024 * (i 2).val, 0]) (k0_pay146 q)))) $$ [H5 H6 H10 H11 H12 H13 H14 H15 H16 H17]
  case region =>
    intro k _
    unfold Inv
    iintro ⟨%g10, %hq, HS⟩
    have ht := trip c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (k0_pay155 (kwin (k0_off1 i)) (k0_pay146 q)) k f5 f6 g10 kwin vwin (k0_pay145 q) (k0_pay146 q) hk hv hq.1 hq.2
    rw [off2_eq, off3_eq, off4_eq] at ht
    iapply ((ht _ _).trans (wp_mono (Fr := _) _ _ fun u => inv_intro (z0 := Sl.after (fun n => kwin ![0, 1024 * n, 0]) (fun n => vwin ![0, 1024 * n, 0]) (i 2).val (k0_pay145 q) (init0 (kwin ![0, 1024 * (i 2).val, 0]) (k0_pay145 q)))
      (z1 := Sl.after (fun n => kwin ![0, 1024 * n, 0]) (fun n => vwin ![0, 1024 * n, 0]) (i 2).val (k0_pay146 q) (init1 (kwin ![0, 1024 * (i 2).val, 0]) (k0_pay146 q))) (n := k.val + 1) c arg5 arg6 arg10 arg11 arg12 arg13 arg14 arg15 arg16 arg17 f5 f6 (k0_pay145 q) (k0_pay146 q) (u := u) (f10 := g10) hq)) $$ [HS]
    iexact HS
  · unfold Inv
    iexists _
    isplitr; rotate_left
    · unfold St
      isplitl [H5]; · iexact H5
      isplitl [H6]; · iexact H6
      isplitl [H10]; · iexact H10
      iexists _, _, _, _, _, _, _
      isplitl [H11]; · iexact H11
      isplitl [H12]; · iexact H12
      isplitl [H13]; · iexact H13
      isplitl [H14]; · iexact H14
      isplitl [H15]; · iexact H15
      isplitl [H16]; · iexact H16
      isplitl [H17]; · iexact H17
      ipureintro
      constructor <;> constructor
      all_goals
        delta body.sl.v88 body.sl.v83 body.sl.v52 body.sl.v73 body.sl.v72 body.sl.H10_2 body.sl.H16_1 body.sl.H15_1 body.sl.H13_2 body.sl.v84 body.sl.v71
                body.sl.v80 body.sl.v82 body.sl.v70 body.sl.v87 body.sl.H11_2 body.sl.v69 body.sl.v79 body.sl.r body.sl.v36 body.sl.v68 body.sl.v85 body.sl.v89
                body.sl.v81 body.sl.H17_1
      all_goals try simp (disch := decide) only [readAt_hit, readAt_miss, readAt_inside, readCov_miss, View.readCov_cons_toLoadRect]
      all_goals try simp only [k0_off1_eq]
      all_goals dsimp only [Sl.after, init0, init1]
      all_goals first | done | exact readAt_inside (s := S2x1x1024) _ _ _ _ _ _ | exact readAt_inside (s := S2x128x1024) _ _ _ _ _ _ | rfl
    · ipureintro
      constructor
      all_goals
        try delta body.sl.v83 body.sl.v88 body.sl.v52 body.sl.v73 body.sl.v72 body.sl.H10_2 body.sl.H16_1 body.sl.H15_1 body.sl.H13_2 body.sl.v84 body.sl.v71
                body.sl.v80 body.sl.v82 body.sl.v70 body.sl.H11_2 body.sl.v87 body.sl.v69 body.sl.v36 body.sl.r body.sl.v79 body.sl.v68 body.sl.v85 body.sl.v89
                body.sl.v81 body.sl.H17_1
      all_goals simp (disch := decide) only [readAt_hit, readAt_miss, readAt_inside, View.readCov_cons_toLoadRect]
  unfold Inv St
  iintro %acc ⟨%g10, %hq, H5, H6, H10, %g11, %g12, %g13, %g14, %g15, %g16, %g17, H11, H12, H13, H14, H15, H16, H17, %hz⟩
  obtain ⟨hq0, hq1⟩ := hq
  rw [show Scf.trips (k0_t1_loop i).lb (k0_t1_loop i).ub (k0_t1_loop i).st = (i 2).val / 2 from trips_eq i] at hz
  obtain ⟨⟨h0s, h0x, h0m, h0l, h0a⟩, ⟨h1s, h1x, h1m, h1l, h1a⟩⟩ := hz
  obtain he | he : (i 2).val % 2 = 0 ∨ (i 2).val % 2 = 1 := by omega
  · have hc1 : k0_cond1 i = 1#1 := (cond1_iff i).2 he
    have hc2 : ¬ k0_cond2 i = 1#1 := fun h => by have := (cond2_iff i).1 h; omega
    sl_exec
    sl_step
    iapply HQ
    isplitl [H3]; · iexact H3
    isplitl [H4]; · iexact H4
    isplitl [H5]; · iexact H5
    isplitl [H6]; · iexact H6
    isplitl [H7]; · iexact H7
    isplitl [H8]; · iexact H8
    isplitl [H9]
    · iexists _
      isplitr; rotate_left
      · iexact H9
      ipureintro
      refine (View.read_writes_full _ _ _ _ _).trans ?_
      simp only [Sl.fin, he, if_true]
      delta body.sl.v88 body.sl.v83 body.sl.v52 body.sl.v144 body.sl.v73 body.sl.v72 body.sl.H10_2 body.sl.v136 body.sl.r_3 body.sl.r_7 body.sl.v93 body.sl.H16_1
              body.sl.v90 body.sl.v91 body.sl.v142 body.sl.H15_1 body.sl.H13_2 body.sl.v84 body.sl.v71 body.sl.H17_2 body.sl.v80 body.sl.r_6 body.sl.v138
              body.sl.v82 body.sl.v70 body.sl.H11_2 body.sl.v87 body.sl.v69 body.sl.v36 body.sl.r_4 body.sl.r body.sl.v79 body.sl.v68 body.sl.v85 body.sl.v89
              body.sl.r_2 body.sl.r_1 body.sl.v92 body.sl.v81 body.sl.H16_2 body.sl.r_5 body.sl.H17_1
      simp (disch := decide) only [readAt_hit, readAt_miss, readCov_miss, View.readCov_cons_toLoadRect, h0s, h0x, h0m, h0l, h0a, h1s, h1x, h1m, h1l, h1a]
      rw [off8_eq i he]
      dsimp only [outBlk, Sl.finE, Sl.consume]
      rfl
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17
  · have hc1 : ¬ k0_cond1 i = 1#1 := fun h => by have := (cond1_iff i).1 h; omega
    have hc2 : k0_cond2 i = 1#1 := (cond2_iff i).2 he
    sl_exec
    sl_step
    iapply HQ
    isplitl [H3]; · iexact H3
    isplitl [H4]; · iexact H4
    isplitl [H5]; · iexact H5
    isplitl [H6]; · iexact H6
    isplitl [H7]; · iexact H7
    isplitl [H8]; · iexact H8
    isplitl [H9]
    · iexists _
      isplitr; rotate_left
      · iexact H9
      ipureintro
      refine (View.read_writes_full _ _ _ _ _).trans ?_
      simp only [Sl.fin, he, one_ne_zero, if_false]
      delta body.sl.v88 body.sl.v83 body.sl.v52 body.sl.v294 body.sl.v144 body.sl.v73 body.sl.v72 body.sl.r_10 body.sl.H17_4 body.sl.r_13 body.sl.H10_2
              body.sl.v136 body.sl.v323 body.sl.r_3 body.sl.H15_3 body.sl.r_7 body.sl.H17_3 body.sl.v328 body.sl.r_21 body.sl.H16_1 body.sl.v92_1 body.sl.H16_2_1
              body.sl.v93 body.sl.r_20 body.sl.v90 body.sl.v136_1 body.sl.v303 body.sl.v204 body.sl.v291 body.sl.v91_1 body.sl.r_14 body.sl.v325 body.sl.v91
              body.sl.v138_1 body.sl.H16_3 body.sl.v142_1 body.sl.v142 body.sl.H15_1 body.sl.v84 body.sl.H13_2 body.sl.H17_2_1 body.sl.r_8 body.sl.v71 body.sl.r_12
              body.sl.H17_2 body.sl.v80 body.sl.r_6 body.sl.H16_4 body.sl.v138 body.sl.H15_2 body.sl.v82 body.sl.v70 body.sl.r_15 body.sl.r_9 body.sl.r_17
              body.sl.H12_2 body.sl.r_16 body.sl.v87 body.sl.H11_2 body.sl.v289 body.sl.v69 body.sl.v36 body.sl.r_4 body.sl.r_19 body.sl.r body.sl.v79 body.sl.v337
              body.sl.v144_1 body.sl.v68 body.sl.v85 body.sl.H14_2 body.sl.v89 body.sl.v311 body.sl.r_2 body.sl.r_11 body.sl.v92 body.sl.v81 body.sl.r_1
              body.sl.H16_2 body.sl.v90_1 body.sl.r_5 body.sl.r_18 body.sl.H17_1 body.sl.r_22 body.sl.v345 body.sl.v93_1
      simp (disch := decide) only [readAt_hit, readAt_miss, readCov_miss, View.readCov_cons_toLoadRect, h0s, h0x, h0m, h0l, h0a, h1s, h1x, h1m, h1l, h1a]
      rw [off9_eq i he, off10_eq i he]
      dsimp only [outBlk, Sl.finO, Sl.consume]
      rfl
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17
end Whole

end Cert.Kernel.Attn

end
-- ==== Proof.Frames.lean ====
module

public import proofs.«01_k».proof.Defs
public import proofs.«01_k».proof.Proof.Launch
public import proofs.«01_k».proof.Proof.KLaunch
public import proofs.«01_k».proof.Proof.Gen.ReferenceIdeal
public import proofs.«01_k».proof.Proof.Gen.ReferenceIdeal.Run
public import Idealize.ShloMosaic.Adequacy
public import Idealize.ShloMosaic.Init
public import Idealize.ShloMosaic.PureOps.IdealRules

@[expose] public section

set_option maxRecDepth 16384

noncomputable section

namespace Cert.Proof.Attn

open Idealize.ShloMosaic Idealize.SL.Sem

/-- The kernel runs and leaves its arguments as they were. -/
theorem frame_kernel : Cert.quiescent_Kernel := fun m g _ => Cert.Kernel.Attn.run_frame m g

/-- So does the kernel over the reals. -/
theorem frame_ideal : Cert.quiescent_KernelIdeal := fun m g _ => Cert.KernelIdeal.Attn.run_frame m g

/-- So does the reference, which declares no semaphore. -/
theorem frame_reference : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The two named constants stand for what the table says. -/
theorem preserves : Cert.preserves_Kernel_KernelIdeal :=
  ⟨IdealRules.named_const.statement Cert.KernelIdeal.κ "q_scale" .f32 0x3E38AA3B#32 (((1 / 8) * (Real.log 2)⁻¹ : ℝ) : EReal) rfl,
    IdealRules.named_const.statement Cert.KernelIdeal.κ "mask" .f32 0xF149F2CA#32 ⊥ rfl⟩

end Cert.Proof.Attn

end
-- ==== Proof.Math.lean ====
/- The running softmax over the reals: a column's maximum, sum and weighted sums, and what one more tile of keys does to them. -/
module

public import Idealize.ShloMosaic.PureOps.Ideal.Laws
public import Idealize.ShloMosaic.Lib.IdealHost

@[expose] public section

noncomputable section

namespace Cert.Proof.Attn

open Idealize.ShloMosaic

/-- A finite sum of reals, read as an extended real. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The score `w` carries the weight `p`: two to its power, or none under the mask. -/
def Wt (w : EReal) (p : ℝ) : Prop := (∃ r : ℝ, w = r ∧ p = Real.rpow 2 r) ∨ (w = ⊥ ∧ p = 0)

theorem Wt.exp2 {w : EReal} {p : ℝ} (h : Wt w p) (X : ℝ) : Ideal.exp2 (w - X) = ((Real.rpow 2 (-X) * p : ℝ) : EReal) := by
  rcases h with ⟨r, rfl, rfl⟩ | ⟨rfl, rfl⟩
  · rw [← EReal.coe_sub, Ideal.exp2_coe]
    congr 1
    rw [sub_eq_neg_add]
    exact Real.rpow_add (by norm_num) _ _
  · rw [EReal.bot_sub, Ideal.exp2_bot]; simp

/-- The running maximum `m`, sum `l` and weighted sums `a` of a column stand for the total weight `S` and the weighted totals `N`. -/
def Col {ι : Type} (m l : EReal) (a : ι → EReal) (S : ℝ) (N : ι → ℝ) : Prop :=
  ∃ M : ℝ, m = M ∧ l = ((Real.rpow 2 (-M) * S : ℝ) : EReal) ∧ ∀ e, a e = ((Real.rpow 2 (-M) * N e : ℝ) : EReal)

section
variable {ι κ : Type} [Fintype κ] {m l x : EReal} {a : ι → EReal} {S : ℝ} {N : ι → ℝ} (w : κ → EReal) (p : κ → ℝ)
  (v : κ → ι → ℝ) (vv : κ → ι → EReal)

theorem sum_one (hw : ∀ k, Wt (w k) (p k)) (X : ℝ) :
    ∑ k, Ideal.exp2 (w k - X) = ((Real.rpow 2 (-X) * ∑ k, p k : ℝ) : EReal) := by
  rw [Finset.mul_sum, coe_sum]
  exact Finset.sum_congr rfl fun k _ => (hw k).exp2 _

theorem sum_val (hw : ∀ k, Wt (w k) (p k)) (hv : ∀ k e, vv k e = (v k e : ℝ)) (X : ℝ) (e : ι) :
    ∑ k, vv k e * Ideal.exp2 (w k - X) = ((Real.rpow 2 (-X) * ∑ k, v k e * p k : ℝ) : EReal) := by
  rw [Finset.mul_sum, coe_sum]
  refine Finset.sum_congr rfl fun k _ => ?_
  rw [hv, (hw k).exp2, ← EReal.coe_mul]
  congr 1; ring

/-- One more tile. -/
theorem Col.step (h : Col m l a S N) (hx : ∃ X : ℝ, x = X) (hw : ∀ k, Wt (w k) (p k)) (hv : ∀ k e, vv k e = (v k e : ℝ)) :
    Col (max m x) (Ideal.exp2 (m - max m x) * l + ∑ k, Ideal.exp2 (w k - max m x))
      (fun e => Ideal.exp2 (m - max m x) * a e + ∑ k, vv k e * Ideal.exp2 (w k - max m x))
      (S + ∑ k, p k) (fun e => N e + ∑ k, v k e * p k) := by
  obtain ⟨M, rfl, rfl, ha⟩ := h
  obtain ⟨X, rfl⟩ := hx
  have hm : max (M : EReal) (X : EReal) = ((max M X : ℝ) : EReal) := (EReal.coe_strictMono.monotone.map_max).symm
  have hr : ∀ T : ℝ, Ideal.exp2 ((M : EReal) - ((max M X : ℝ) : EReal)) * ((Real.rpow 2 (-M) * T : ℝ) : EReal)
      = ((Real.rpow 2 (-(max M X)) * T : ℝ) : EReal) := by
    intro T
    rw [← EReal.coe_sub, Ideal.exp2_coe, ← EReal.coe_mul, ← mul_assoc]
    congr 2
    exact (Real.rpow_add (by norm_num) _ _).symm.trans (congrArg (Real.rpow 2) (by ring))
  refine ⟨max M X, hm, ?_, fun e => ?_⟩
  · rw [hm, hr, sum_one w p hw, ← EReal.coe_add, ← mul_add]
  · show _ * a e + _ = _
    rw [hm, ha, hr, sum_val w p v vv hw hv, ← EReal.coe_add, ← mul_add]

/-- The first tile, into a state that has seen nothing. -/
theorem Col.first (hm : m = ⊥) (hl : l = 0) (ha : ∀ e, a e = 0) (hx : ∃ X : ℝ, x = X) (hw : ∀ k, Wt (w k) (p k)) (hv : ∀ k e, vv k e = (v k e : ℝ)) :
    Col (max m x) (Ideal.exp2 (m - max m x) * l + ∑ k, Ideal.exp2 (w k - max m x))
      (fun e => Ideal.exp2 (m - max m x) * a e + ∑ k, vv k e * Ideal.exp2 (w k - max m x))
      (∑ k, p k) (fun e => ∑ k, v k e * p k) := by
  obtain ⟨X, rfl⟩ := hx
  subst hm hl
  have hm : max (⊥ : EReal) (X : EReal) = X := max_eq_right bot_le
  refine ⟨X, hm, ?_, fun e => ?_⟩
  · rw [hm, mul_zero, zero_add, sum_one w p hw]
  · show _ * a e + _ = _
    rw [hm, ha, mul_zero, zero_add, sum_val w p v vv hw hv]
end

/-- Dividing the weighted sums by the sum takes the running scale out. -/
theorem Col.quot {ι : Type} {m l : EReal} {a : ι → EReal} {S : ℝ} {N : ι → ℝ} (h : Col m l a S N) (hS : 0 < S) (e : ι) :
    Ideal.div (a e) l = ((N e / S : ℝ) : EReal) := by
  obtain ⟨M, -, rfl, ha⟩ := h
  have hp : 0 < Real.rpow 2 (-M) := Real.rpow_pos_of_pos (by norm_num) _
  rw [ha, Ideal.div_coe (mul_pos hp hS).ne', ← EReal.coe_mul]
  congr 1
  field_simp

/-- The maximum of finitely many scores, none of them infinite upwards and one of them real, is real. -/
theorem fold_max_real {κ : Type} (s : Finset κ) (f : κ → EReal) (hf : ∀ k ∈ s, f k ≠ ⊤) (k₀ : κ) (hk : k₀ ∈ s) (h₀ : f k₀ ≠ ⊥) :
    ∃ X : ℝ, s.fold max ⊥ f = X := by
  have h1 : s.fold max ⊥ f ≠ ⊤ := by
    rw [← lt_top_iff_ne_top, Finset.fold_max_lt]
    exact ⟨bot_lt_top, fun k hk => lt_top_iff_ne_top.mpr (hf k hk)⟩
  have h2 : s.fold max ⊥ f ≠ ⊥ := by
    rw [← bot_lt_iff_ne_bot, Finset.lt_fold_max]
    exact Or.inr ⟨k₀, hk, bot_lt_iff_ne_bot.mpr h₀⟩
  exact ⟨_, (EReal.coe_toReal h1 h2).symm⟩

theorem Wt.ne_top {w : EReal} {p : ℝ} (h : Wt w p) : w ≠ ⊤ := by
  rcases h with ⟨r, rfl, -⟩ | ⟨rfl, -⟩
  · exact EReal.coe_ne_top _
  · exact bot_ne_top

/-- The score `w` carries the weight `p` of a softmax to the base e: its exponential, or none under the mask. -/
def WtE (w : EReal) (p : ℝ) : Prop := (∃ r : ℝ, w = r ∧ p = Real.exp r) ∨ (w = ⊥ ∧ p = 0)

theorem WtE.exp {w : EReal} {p : ℝ} (h : WtE w p) (X : ℝ) : Ideal.exp (w - X) = ((Real.exp (-X) * p : ℝ) : EReal) := by
  rcases h with ⟨r, rfl, rfl⟩ | ⟨rfl, rfl⟩
  · rw [← EReal.coe_sub, Ideal.exp_coe, sub_eq_neg_add, Real.exp_add]
  · rw [EReal.bot_sub, Ideal.exp_bot]; simp

theorem WtE.ne_top {w : EReal} {p : ℝ} (h : WtE w p) : w ≠ ⊤ := by
  rcases h with ⟨r, rfl, -⟩ | ⟨rfl, -⟩
  · exact EReal.coe_ne_top _
  · exact bot_ne_top

/-- A softmax that takes any real off its scores first gives each score its share of the weight. -/
theorem softmax {κ : Type} [Fintype κ] (w : κ → EReal) (p : κ → ℝ) (hw : ∀ k, WtE (w k) (p k)) (X : ℝ) (hS : 0 < ∑ k, p k) (k : κ) :
    Ideal.div (Ideal.exp (w k - X)) (∑ k, Ideal.exp (w k - X)) = ((p k / ∑ k, p k : ℝ) : EReal) := by
  have h : ∑ k, Ideal.exp (w k - X) = ((Real.exp (-X) * ∑ k, p k : ℝ) : EReal) := by
    rw [Finset.mul_sum, coe_sum]
    exact Finset.sum_congr rfl fun k _ => (hw k).exp X
  rw [h, (hw k).exp, Ideal.div_coe (mul_pos (Real.exp_pos _) hS).ne', ← EReal.coe_mul]
  congr 1
  have := Real.exp_pos (-X)
  field_simp

/-- The weight of the second map, from its four vectors. -/
def lamE (l : Fin 4 → Fin 64 → EReal) : EReal :=
  Ideal.exp (∑ d, l 0 d * l 1 d) - Ideal.exp (∑ d, l 2 d * l 3 d) + Ideal.ofBits .f32 0x3E4CCCCD#32

/-- It is real when the vectors are. -/
theorem lamE_real (l : Fin 4 → Fin 64 → EReal) (L : Fin 4 → Fin 64 → ℝ) (h : ∀ i d, l i d = (L i d : EReal)) : ∃ R : ℝ, lamE l = R := by
  have hc : ∃ R : ℝ, Ideal.ofBits .f32 0x3E4CCCCD#32 = R := by
    refine ⟨_, (EReal.coe_toReal ?_ ?_).symm⟩ <;> simp [Ideal.ofBits, Ideal.ieee, -EReal.coe_mul]
  obtain ⟨R, hR⟩ := hc
  refine ⟨Real.exp (∑ d, L 0 d * L 1 d) - Real.exp (∑ d, L 2 d * L 3 d) + R, ?_⟩
  unfold lamE
  simp only [h, hR, ← EReal.coe_mul, ← coe_sum, Ideal.exp_coe, ← EReal.coe_sub, ← EReal.coe_add]

/-- The norm over a head's lanes, its weight, the fixed factor and the gate. -/
def finish (o : Fin 128 → EReal) (sub g : EReal) (e : Fin 128) : EReal :=
  o e * Ideal.rsqrt (Ideal.div (∑ x, o x * o x) (Ideal.ofBits .f32 0x43000000#32) + Ideal.ofBits .f32 0x358637BD#32) * sub * Ideal.ofBits .f32 0x3F4CCCCD#32 * g

/-- The gate. -/
def silu (x : EReal) : EReal := x * Ideal.div 1 (1 + Ideal.exp (-x))

/-- Lane `d` of map `c` among the lanes of a head. -/
def half (c : Fin 2) (d : Fin 64) : Fin 128 := ⟨c.val * 64 + d.val, by omega⟩

/-- The product of a query row with key row `k`, over the lanes of map `c`. -/
def dotR (Q : Fin 128 → ℝ) (K : Fin 8192 → Fin 128 → ℝ) (c : Fin 2) (k : Fin 8192) : ℝ := ∑ d, Q (half c d) * K k (half c d)

/-- The weight of key `k` for query `i`. -/
def wgt (Q : Fin 128 → ℝ) (K : Fin 8192 → Fin 128 → ℝ) (c : Fin 2) (i k : Fin 8192) : ℝ :=
  if k.val ≤ i.val then Real.exp (dotR Q K c k * (1 / 8)) else 0

/-- One map's attention, for one query and one lane of the values. -/
def att (Q : Fin 128 → ℝ) (K : Fin 8192 → Fin 128 → ℝ) (V : Fin 8192 → ℝ) (c : Fin 2) (i : Fin 8192) : ℝ :=
  (∑ k, V k * wgt Q K c i k) / ∑ k, wgt Q K c i k

theorem wgt_sum_pos (Q : Fin 128 → ℝ) (K : Fin 8192 → Fin 128 → ℝ) (c : Fin 2) (i : Fin 8192) : 0 < ∑ k, wgt Q K c i k := by
  refine Finset.sum_pos' (fun k _ => ?_) ⟨i, Finset.mem_univ _, ?_⟩
  · unfold wgt; split
    · exact (Real.exp_pos _).le
    · exact le_rfl
  · unfold wgt; rw [if_pos le_rfl]; exact Real.exp_pos _

/-- The sum over the lanes of a head, with the other map's lanes at zero. -/
theorem sum_half0 (K Q : Fin 128 → ℝ) (s : ℝ) :
    ∑ d : Fin 128, (K d : EReal) * (if d.val < 64 then (Q d : EReal) * (s : EReal) else 0) = ((s * ∑ d, Q (half 0 d) * K (half 0 d) : ℝ) : EReal) := by
  have h := Fin.sum_univ_add (a := 64) (b := 64) fun d : Fin 128 => (K d : EReal) * (if d.val < 64 then (Q d : EReal) * (s : EReal) else 0)
  refine h.trans ?_
  have h2 : ∑ d : Fin 64, (K (Fin.natAdd 64 d) : EReal) * (if (Fin.natAdd 64 d).val < 64 then (Q (Fin.natAdd 64 d) : EReal) * (s : EReal) else 0) = 0 :=
    Finset.sum_eq_zero fun d _ => by rw [if_neg (by simp), mul_zero]
  refine (congrArg _ h2).trans ?_
  rw [add_zero, Finset.mul_sum, coe_sum]
  refine Finset.sum_congr rfl fun d _ => ?_
  have e : Fin.castAdd 64 d = half 0 d := Fin.ext (by simp [half])
  rw [e, if_pos (by simp [half]), ← EReal.coe_mul, ← EReal.coe_mul]
  congr 1; ring

theorem sum_half1 (K Q : Fin 128 → ℝ) (s : ℝ) :
    ∑ d : Fin 128, (K d : EReal) * (if 64 ≤ d.val then (Q d : EReal) * (s : EReal) else 0) = ((s * ∑ d, Q (half 1 d) * K (half 1 d) : ℝ) : EReal) := by
  have h := Fin.sum_univ_add (a := 64) (b := 64) fun d : Fin 128 => (K d : EReal) * (if 64 ≤ d.val then (Q d : EReal) * (s : EReal) else 0)
  refine h.trans ?_
  have h2 : ∑ d : Fin 64, (K (Fin.castAdd 64 d) : EReal) * (if 64 ≤ (Fin.castAdd 64 d).val then (Q (Fin.castAdd 64 d) : EReal) * (s : EReal) else 0) = 0 :=
    Finset.sum_eq_zero fun d _ => by rw [if_neg (by simp), mul_zero]
  refine (congrArg (· + _) h2).trans ?_
  rw [zero_add, Finset.mul_sum, coe_sum]
  refine Finset.sum_congr rfl fun d _ => ?_
  have e : Fin.natAdd 64 d = half 1 d := Fin.ext (by simp [half, add_comm])
  rw [e, if_pos (by simp [half]), ← EReal.coe_mul, ← EReal.coe_mul]
  congr 1; ring

theorem sum_blocks (g : ℕ → ℝ) (n : ℕ) : ∑ k ∈ Finset.range (1024 * n), g k = ∑ j ∈ Finset.range n, ∑ r : Fin 1024, g (1024 * j + r.val) := by
  induction n with
  | zero => simp
  | succ n ih =>
    rw [Finset.sum_range_succ, ← ih, Nat.mul_succ, Finset.sum_range_add, Fin.sum_univ_eq_sum_range (fun r => g (1024 * n + r))]

/-- A causal sum over the keys, as the kernel takes it: the diagonal tile under its mask, and the tiles before it whole. -/
theorem sum_causal (f : ℕ → ℝ) (qi : ℕ) (hq : qi < 8) (c : Fin 1024) :
    ∑ k : Fin 8192, (if k.val ≤ 1024 * qi + c.val then f k.val else 0)
      = (∑ r : Fin 1024, if r.val ≤ c.val then f (1024 * qi + r.val) else 0) + ∑ j ∈ Finset.range qi, ∑ r : Fin 1024, f (1024 * j + r.val) := by
  rw [Fin.sum_univ_eq_sum_range (fun k => if k ≤ 1024 * qi + c.val then f k else 0) 8192, show 8192 = 1024 * 8 from rfl, sum_blocks,
    ← Finset.sum_subset (Finset.range_mono (show qi + 1 ≤ 8 by omega)), Finset.sum_range_succ, add_comm]
  · refine congrArg₂ (· + ·) ?_ ?_
    · refine Finset.sum_congr rfl fun r _ => ?_
      exact if_congr (by omega) rfl rfl
    · refine Finset.sum_congr rfl fun j hj => Finset.sum_congr rfl fun r _ => ?_
      rw [Finset.mem_range] at hj
      exact if_pos (by omega)
  · intro j hj hn
    rw [Finset.mem_range] at hn
    exact Finset.sum_eq_zero fun r _ => if_neg (by omega)

/-- Two to the power of a scaled score is the exponential of the score. -/
theorem rpow_scale (x : ℝ) : Real.rpow 2 (1 / 8 * (Real.log 2)⁻¹ * x) = Real.exp (x * (1 / 8)) := by
  have h2 : Real.log 2 ≠ 0 := (Real.log_pos (by norm_num)).ne'
  show (2 : ℝ) ^ (1 / 8 * (Real.log 2)⁻¹ * x) = _
  rw [Real.rpow_def_of_pos (by norm_num)]
  congr 1; field_simp

end Cert.Proof.Attn

end
-- ==== Proof.Pay.lean ====
/- The kernel's tile arithmetic over the reals, read at one element. -/
module

public import proofs.«01_k».proof.Proof.Offs
public import proofs.«01_k».proof.Proof.Launch
public import proofs.«01_k».proof.Proof.Math
public import Idealize.ShloMosaic.Lib.Pointwise
public import Idealize.ShloMosaic.PureOps.IdealRules

@[expose] public section

set_option maxRecDepth 16384

noncomputable section

namespace Cert.KernelIdeal.Attn

open Cert.KernelIdeal Cert.KernelIdeal.Gen Cert.Proof.Attn
open Idealize.ShloMosaic

theorem ofBits_bot : Ideal.ofBits .f32 0xFF800000#32 = ⊥ := by
  simp [Ideal.ofBits, Ideal.ieee]

theorem score_apply (kb qm : Vec Ideal S1x1024x128 .bf16) (r c : Fin 1024) :
    k0_pay4 kb qm (ix3 0 r c) = ∑ d : Fin 128, kb (ix3 0 r d) * qm (ix3 0 c d) := by
  pointwise [k0_pay4, k0_pay3, k0_pay2]

theorem colmax_apply (kb qm : Vec Ideal S1x1024x128 .bf16) (c : Fin 1024) :
    k0_pay5 kb qm (ix3 0 0 c) = Finset.univ.fold max ⊥ fun r : Fin 1024 => k0_pay4 kb qm (ix3 0 r c) := by
  pointwise [k0_pay5, k0_pay4, k0_pay3, k0_pay2]
  rw [ofBits_bot]

theorem consume_m (vb : Vec Ideal S1x1024x128 .bf16) (s : Vec Ideal S1x1024x1024 .f32) (x : Vec Ideal S1x1x1024 .f32) (z : Sl Ideal) (c : Fin 1024) :
    (z.consume vb s x).m (ix3 0 0 c) = max (z.m (ix3 0 0 c)) (x (ix3 0 0 c)) := by
  dsimp only [Sl.consume]
  pointwise [k0_pay17, k0_pay11, k0_pay10]

theorem consume_l (vb : Vec Ideal S1x1024x128 .bf16) (s : Vec Ideal S1x1024x1024 .f32) (x : Vec Ideal S1x1x1024 .f32) (z : Sl Ideal) (c : Fin 1024) :
    (z.consume vb s x).l (ix3 0 0 c) = Ideal.exp2 (z.m (ix3 0 0 c) - max (z.m (ix3 0 0 c)) (x (ix3 0 0 c))) * z.l (ix3 0 0 c)
      + ∑ r : Fin 1024, Ideal.exp2 (s (ix3 0 r c) - max (z.m (ix3 0 0 c)) (x (ix3 0 0 c))) := by
  dsimp only [Sl.consume]
  pointwise [k0_pay14, k0_pay13, k0_pay12, k0_pay11, k0_pay10, k0_pay9, k0_pay8, k0_pay7]
  rfl

theorem consume_a (vb : Vec Ideal S1x1024x128 .bf16) (s : Vec Ideal S1x1024x1024 .f32) (x : Vec Ideal S1x1x1024 .f32) (z : Sl Ideal) (e : Fin 128) (c : Fin 1024) :
    (z.consume vb s x).a (ix3 0 e c) = Ideal.exp2 (z.m (ix3 0 0 c) - max (z.m (ix3 0 0 c)) (x (ix3 0 0 c))) * z.a (ix3 0 e c)
      + ∑ r : Fin 1024, vb (ix3 0 r e) * Ideal.exp2 (s (ix3 0 r c) - max (z.m (ix3 0 0 c)) (x (ix3 0 0 c))) := by
  dsimp only [Sl.consume]
  pointwise [k0_pay16, k0_pay15, k0_pay13, k0_pay12, k0_pay11, k0_pay10, k0_pay9, k0_pay8, k0_pay7]
  rfl

/-- The scale of the queries, at the reals. -/
theorem q_scale : Named.named (F := Ideal) κ "q_scale" (φ := .f32) 0x3E38AA3B#32 = ((1 / 8 * (Real.log 2)⁻¹ : ℝ) : EReal) :=
  IdealRules.named_const.ideal_named_scalar _ _ _ _ rfl

/-- The mask's constant, at the reals. -/
theorem mask : Named.named (F := Ideal) κ "mask" (φ := .f32) 0xF149F2CA#32 = (⊥ : EReal) :=
  IdealRules.named_const.ideal_named_scalar _ _ _ _ rfl

theorem sel_slt (a b : ℕ) (ha : a < 1024) (hb : b < 1024) (x y : EReal) :
    Scalar.select (IntOp.cmpi .slt (BitVec.ofNat 32 a) (BitVec.ofNat 32 b)) x y = if a < b then x else y := by
  rw [WordCmp.cmpi_slt_ofNat (by omega) (by omega), WordCmp.select_ofBool]
  simp

theorem sel_sge (a b : ℕ) (ha : a < 1024) (hb : b < 1024) (x y : EReal) :
    Scalar.select (IntOp.cmpi .sge (BitVec.ofNat 32 a) (BitVec.ofNat 32 b)) x y = if b ≤ a then x else y := by
  rw [WordCmp.cmpi_sge_ofNat (by omega) (by omega), WordCmp.select_ofBool]
  simp

theorem sel_sle (a b : ℕ) (ha : a < 8192) (hb : b < 8192) (x y : EReal) :
    Scalar.select (IntOp.cmpi .sle (BitVec.ofNat 32 a) (BitVec.ofNat 32 b)) x y = if a ≤ b then x else y := by
  rw [WordCmp.cmpi_sle_ofNat (by omega) (by omega), WordCmp.select_ofBool]
  simp

theorem qm0_apply (q : Vec Ideal S1x1024x128 .f32) (c : Fin 1024) (d : Fin 128) :
    k0_pay145 q (ix3 0 c d) = if d.val < 64 then q (ix3 0 c d) * ((1 / 8 * (Real.log 2)⁻¹ : ℝ) : EReal) else 0 := by
  pointwise [k0_pay145, k0_pay144, k0_pay143]
  rw [q_scale]
  exact sel_slt d.val 64 (by omega) (by omega) _ _

theorem qm1_apply (q : Vec Ideal S1x1024x128 .f32) (c : Fin 1024) (d : Fin 128) :
    k0_pay146 q (ix3 0 c d) = if 64 ≤ d.val then q (ix3 0 c d) * ((1 / 8 * (Real.log 2)⁻¹ : ℝ) : EReal) else 0 := by
  pointwise [k0_pay146, k0_pay144, k0_pay143]
  rw [q_scale]
  exact sel_sge d.val 64 (by omega) (by omega) _ _

/-- What both maps start from: the masked scores of the diagonal tile and their column maxima, and nothing summed yet. -/
structure Sl.Start (kb qm : Vec Ideal S1x1024x128 .bf16) (z : Sl Ideal) : Prop where
  s : ∀ r c : Fin 1024, z.s (ix3 0 r c) = if r.val ≤ c.val then ∑ d : Fin 128, kb (ix3 0 r d) * qm (ix3 0 c d) else ⊥
  x : ∀ c : Fin 1024, z.x (ix3 0 0 c) = Finset.univ.fold max ⊥ fun r : Fin 1024 => z.s (ix3 0 r c)
  m : ∀ c : Fin 1024, z.m (ix3 0 0 c) = ⊥
  l : ∀ c : Fin 1024, z.l (ix3 0 0 c) = 0
  a : ∀ (e : Fin 128) (c : Fin 1024), z.a (ix3 0 e c) = 0

theorem init0_start (kb qm : Vec Ideal S1x1024x128 .bf16) : (init0 kb qm).Start kb qm where
  s r c := by
    dsimp only [init0]
    pointwise [k0_pay153, k0_pay152, k0_pay151]
    rw [mask]
    exact sel_sle r.val c.val (by omega) (by omega) _ _
  x c := by
    dsimp only [init0]
    pointwise [k0_pay154, k0_pay153, k0_pay152, k0_pay151]
    rw [ofBits_bot]
  m c := by
    dsimp only [init0]
    pointwise [k0_pay147]
    exact mask
  l c := by
    dsimp only [init0]
    pointwise [k0_pay148]
  a e c := by
    dsimp only [init0]
    pointwise [k0_pay150, k0_pay149]

theorem init1_start (kb qm : Vec Ideal S1x1024x128 .bf16) : (init1 kb qm).Start kb qm where
  s r c := by
    dsimp only [init1]
    pointwise [k0_pay156, k0_pay155, k0_pay151]
    rw [mask]
    exact sel_sle r.val c.val (by omega) (by omega) _ _
  x c := by
    dsimp only [init1]
    pointwise [k0_pay157, k0_pay156, k0_pay155, k0_pay151]
    rw [ofBits_bot]
  m c := by
    dsimp only [init1]
    pointwise [k0_pay147]
    exact mask
  l c := by
    dsimp only [init1]
    pointwise [k0_pay148]
  a e c := by
    dsimp only [init1]
    pointwise [k0_pay150, k0_pay149]

theorem outBlk_apply (lam : Vec Ideal S4x64 .f32) (z0 z1 : Sl Ideal) (sub : Vec Ideal S1x128 .f32) (g : Vec Ideal S1x1024x128 .bf16) (c : Fin 1024) (e : Fin 128) :
    outBlk lam z0 z1 sub g (ix3 0 c e) = finish (fun e => Ideal.div (z0.a (ix3 0 e c)) (z0.l (ix3 0 0 c)) - lamE (fun i d => lam (ix2 i d)) * Ideal.div (z1.a (ix3 0 e c)) (z1.l (ix3 0 0 c)))
      (sub (ix2 0 e)) (g (ix3 0 c e)) e := by
  dsimp only [outBlk]
  pointwise [k0_pay1, k0_pay170, k0_pay169]
  rfl

end Cert.KernelIdeal.Attn

end
-- ==== Proof.Online.lean ====
/- The running state a query tile's loop ends with, over the reals: the totals over all its tiles of keys. -/
module

public import proofs.«01_k».proof.Proof.Pay

@[expose] public section

set_option maxRecDepth 16384

noncomputable section

namespace Cert.KernelIdeal.Attn

open Cert.KernelIdeal Cert.KernelIdeal.Gen Cert.Proof.Attn
open Idealize.ShloMosaic

/-- Column `c` of a state stands for the totals `S` and `N`. -/
def Sl.At (z : Sl Ideal) (c : Fin 1024) (S : ℝ) (N : Fin 128 → ℝ) : Prop :=
  Col (z.m (ix3 0 0 c)) (z.l (ix3 0 0 c)) (fun e => z.a (ix3 0 e c)) S N

/-- A tile's column `c` of scores is the reals `sc`, and its values are the reals `u`. -/
structure Tile (kb vb qm : Vec Ideal S1x1024x128 .bf16) (c : Fin 1024) (sc : Fin 1024 → ℝ) (u : Fin 1024 → Fin 128 → ℝ) : Prop where
  s : ∀ r, ∑ d : Fin 128, kb (ix3 0 r d) * qm (ix3 0 c d) = (sc r : EReal)
  v : ∀ r e, vb (ix3 0 r e) = (u r e : EReal)

section
variable {kb vb qm : Vec Ideal S1x1024x128 .bf16} {c : Fin 1024} {sc : Fin 1024 → ℝ} {u : Fin 1024 → Fin 128 → ℝ}

theorem Sl.At.step {z : Sl Ideal} {S : ℝ} {N : Fin 128 → ℝ} (h : z.At c S N) (t : Tile kb vb qm c sc u) :
    (z.consume vb (k0_pay4 kb qm) (k0_pay5 kb qm)).At c (S + ∑ r, Real.rpow 2 (sc r)) (fun e => N e + ∑ r, u r e * Real.rpow 2 (sc r)) := by
  have hs : ∀ r, k0_pay4 kb qm (ix3 0 r c) = (sc r : EReal) := fun r => (score_apply kb qm r c).trans (t.s r)
  have hx : ∃ X : ℝ, k0_pay5 kb qm (ix3 0 0 c) = X := by
    rw [colmax_apply]
    exact fold_max_real _ _ (fun r _ => by rw [hs]; exact EReal.coe_ne_top _) 0 (Finset.mem_univ _) (by rw [hs]; exact EReal.coe_ne_bot _)
  unfold Sl.At
  simp only [consume_m, consume_l, consume_a]
  exact Col.step _ _ u _ h hx (fun r => Or.inl ⟨sc r, hs r, rfl⟩) t.v

theorem Sl.Start.first {z : Sl Ideal} (h : z.Start kb qm) (t : Tile kb vb qm c sc u) :
    (z.consume vb z.s z.x).At c (∑ r, if r.val ≤ c.val then Real.rpow 2 (sc r) else 0)
      (fun e => ∑ r, u r e * if r.val ≤ c.val then Real.rpow 2 (sc r) else 0) := by
  have hw : ∀ r : Fin 1024, Wt (z.s (ix3 0 r c)) (if r.val ≤ c.val then Real.rpow 2 (sc r) else 0) := by
    intro r
    rw [h.s, t.s]
    split
    · exact Or.inl ⟨sc r, rfl, rfl⟩
    · exact Or.inr ⟨rfl, rfl⟩
  have hx : ∃ X : ℝ, z.x (ix3 0 0 c) = X := by
    rw [h.x]
    exact fold_max_real _ _ (fun r _ => (hw r).ne_top) c (Finset.mem_univ _) (by rw [h.s, t.s, if_pos le_rfl]; exact EReal.coe_ne_bot _)
  unfold Sl.At
  simp only [consume_m, consume_l, consume_a]
  exact Col.first _ _ u _ (h.m c) (h.l c) (fun e => h.a e c) hx hw t.v
end

section
variable {kb vb : ℕ → Vec Ideal S1x1024x128 .bf16} {qi : ℕ} {qm : Vec Ideal S1x1024x128 .bf16} {c : Fin 1024}
  {sc : ℕ → Fin 1024 → ℝ} {u : ℕ → Fin 1024 → Fin 128 → ℝ} {z : Sl Ideal}

/-- The weight of the tiles before tile `n`, and of the diagonal tile `qi` under the mask. -/
def totS (sc : ℕ → Fin 1024 → ℝ) (c : Fin 1024) (qi n : ℕ) : ℝ :=
  (∑ r, if r.val ≤ c.val then Real.rpow 2 (sc qi r) else 0) + ∑ j ∈ Finset.range n, ∑ r, Real.rpow 2 (sc j r)

/-- Their weighted values. -/
def totN (sc : ℕ → Fin 1024 → ℝ) (u : ℕ → Fin 1024 → Fin 128 → ℝ) (c : Fin 1024) (qi n : ℕ) (e : Fin 128) : ℝ :=
  (∑ r, u qi r e * if r.val ≤ c.val then Real.rpow 2 (sc qi r) else 0) + ∑ j ∈ Finset.range n, ∑ r, u j r e * Real.rpow 2 (sc j r)

theorem Sl.At.next {n : ℕ} {y : Sl Ideal} (h : y.At c (totS sc c qi n) (totN sc u c qi n)) (t : Tile (kb n) (vb n) qm c (sc n) (u n)) :
    (y.consume (vb n) (k0_pay4 (kb n) qm) (k0_pay5 (kb n) qm)).At c (totS sc c qi (n + 1)) (totN sc u c qi (n + 1)) := by
  have h' := h.step t
  have e1 : totS sc c qi (n + 1) = totS sc c qi n + ∑ r, Real.rpow 2 (sc n r) := by
    unfold totS; rw [Finset.sum_range_succ, add_assoc]
  have e2 : totN sc u c qi (n + 1) = fun e => totN sc u c qi n e + ∑ r, u n r e * Real.rpow 2 (sc n r) := by
    funext e; unfold totN; rw [Finset.sum_range_succ, add_assoc]
  rw [e1, e2]; exact h'

/-- The tile a trip leaves pending, consumed. -/
theorem Sl.At.trip {y : Sl Ideal} {kA kB vA vB v qm : Vec Ideal S1x1024x128 .bf16} {S : ℝ} {N : Fin 128 → ℝ}
    (h : (((y.consume vA y.s y.x).consume vB (k0_pay4 kA qm) (k0_pay5 kA qm)).consume v (k0_pay4 kB qm) (k0_pay5 kB qm)).At c S N) :
    ((y.trip kA kB vA vB qm).consume v (y.trip kA kB vA vB qm).s (y.trip kA kB vA vB qm).x).At c S N := by
  unfold Sl.At at h ⊢
  simp only [Sl.consume, Sl.trip, Sl.score] at h ⊢
  exact h

theorem Sl.after_at (hz : z.Start (kb qi) qm) (ht : ∀ j ≤ qi, Tile (kb j) (vb j) qm c (sc j) (u j)) :
    ∀ n, 2 * n ≤ qi → (((Sl.after kb vb qi qm z n).consume (vb (if n = 0 then qi else 2 * n - 1)) (Sl.after kb vb qi qm z n).s (Sl.after kb vb qi qm z n).x).At c
      (totS sc c qi (2 * n)) (totN sc u c qi (2 * n)))
  | 0, _ => by
      have h := hz.first (ht qi le_rfl)
      have e1 : totS sc c qi (2 * 0) = ∑ r, if r.val ≤ c.val then Real.rpow 2 (sc qi r) else 0 := by
        unfold totS; rw [Nat.mul_zero, Finset.range_zero, Finset.sum_empty, add_zero]
      have e2 : totN sc u c qi (2 * 0) = fun e => ∑ r, u qi r e * if r.val ≤ c.val then Real.rpow 2 (sc qi r) else 0 := by
        funext e; unfold totN; rw [Nat.mul_zero, Finset.range_zero, Finset.sum_empty, add_zero]
      rw [e1, e2, if_pos rfl, Sl.after]
      exact h
  | n + 1, hn => by
      have h := Sl.after_at hz ht n (by omega)
      have h2 := (h.next (ht (2 * n) (by omega))).next (ht (2 * n + 1) (by omega))
      rw [if_neg (Nat.succ_ne_zero n), Sl.after, show 2 * (n + 1) - 1 = 2 * n + 1 by omega, show 2 * (n + 1) = 2 * n + 1 + 1 by omega]
      exact h2.trip

theorem Sl.fin_at (hz : z.Start (kb qi) qm) (ht : ∀ j ≤ qi, Tile (kb j) (vb j) qm c (sc j) (u j)) :
    (Sl.fin kb vb qi qm z).At c (totS sc c qi qi) (totN sc u c qi qi) := by
  unfold Sl.fin
  split
  · rename_i h
    have h' := Sl.after_at hz ht (qi / 2) (by omega)
    rw [show 2 * (qi / 2) = qi by omega] at h'
    unfold Sl.finE
    have e : (if qi / 2 = 0 then qi else qi - 1) = if qi = 0 then 0 else qi - 1 := by split <;> split <;> omega
    rw [← e]; exact h'
  · rename_i h
    have h' := (Sl.after_at hz ht (qi / 2) (by omega)).next (ht (2 * (qi / 2)) (by omega))
    have e : (if qi / 2 = 0 then qi else 2 * (qi / 2) - 1) = if qi = 1 then 1 else qi - 2 := by split <;> split <;> omega
    rw [e, show 2 * (qi / 2) + 1 = qi by omega, show 2 * (qi / 2) = qi - 1 by omega] at h'
    exact h'
end

end Cert.KernelIdeal.Attn

end
-- ==== Proof.BlockVal.lean ====
/- The block a grid point stores, at real queries, keys and values. -/
module

public import proofs.«01_k».proof.Proof.Online
public import Idealize.ShloMosaic.Lib.Pipeline.ValueKit.Tiles

@[expose] public section

set_option maxRecDepth 16384

noncomputable section

namespace Cert.KernelIdeal.Attn

open Cert.KernelIdeal Cert.KernelIdeal.Gen Cert.Proof.Attn
open Idealize.ShloMosaic

/-- Key `n`, with its number in range. -/
abbrev key (n : ℕ) : Fin 8192 := Fin.ofNat 8192 n

theorem winOf_apply (x : Vec Ideal S1x8192x128 .bf16) (n : ℕ) (hn : n < 8) (r : Fin 1024) (d : Fin 128) :
    winOf x ![0, 1024 * n, 0] (ix3 0 r d) = x (ix3 0 (key (1024 * n + r.val)) d) := by
  have h : ∀ a, (![0, 1024 * n, 0] : Fin 3 → ℕ) a + S1x1024x128.size a ≤ S1x8192x128.size a := by
    intro a; fin_cases a <;> simp <;> omega
  unfold winOf
  rw [dif_pos h]
  congr 1
  funext a
  fin_cases a <;> apply Fin.ext
  · rfl
  · refine (Rect.idx_unit_val (s := S1x8192x128) ![0, 1024 * n, 0] S1x1024x128.size h (ix3 0 r d) 1).trans ?_
    show 1024 * n + r.val = (1024 * n + r.val) % 8192
    omega
  · refine (Rect.idx_unit_val (s := S1x8192x128) ![0, 1024 * n, 0] S1x1024x128.size h (ix3 0 r d) 2).trans ?_
    exact Nat.zero_add _

section
variable {qi : ℕ} {hqi : qi < 8} {q : Vec Ideal S1x1024x128 .f32} {k v : Vec Ideal S1x8192x128 .bf16} {Q : Fin 128 → ℝ} {K V : Fin 8192 → Fin 128 → ℝ} {c : Fin 1024}

/-- The scaled score of key `n`. -/
abbrev sc (Q : Fin 128 → ℝ) (K : Fin 8192 → Fin 128 → ℝ) (m : Fin 2) (j : ℕ) (r : Fin 1024) : ℝ :=
  1 / 8 * (Real.log 2)⁻¹ * dotR Q K m (key (1024 * j + r.val))

theorem tile0 (hq : ∀ d, q (ix3 0 c d) = (Q d : EReal)) (hk : ∀ n d, k (ix3 0 n d) = (K n d : EReal)) (hv : ∀ n d, v (ix3 0 n d) = (V n d : EReal)) (j : ℕ) (hj : j < 8) :
    Tile (winOf k ![0, 1024 * j, 0]) (winOf v ![0, 1024 * j, 0]) (k0_pay145 q) c (sc Q K 0 j) (fun r e => V (key (1024 * j + r.val)) e) where
  s r := by
    simp only [winOf_apply _ j hj, qm0_apply, hk, hq]
    exact sum_half0 _ _ _
  v r e := by rw [winOf_apply _ j hj, hv]

theorem tile1 (hq : ∀ d, q (ix3 0 c d) = (Q d : EReal)) (hk : ∀ n d, k (ix3 0 n d) = (K n d : EReal)) (hv : ∀ n d, v (ix3 0 n d) = (V n d : EReal)) (j : ℕ) (hj : j < 8) :
    Tile (winOf k ![0, 1024 * j, 0]) (winOf v ![0, 1024 * j, 0]) (k0_pay146 q) c (sc Q K 1 j) (fun r e => V (key (1024 * j + r.val)) e) where
  s r := by
    simp only [winOf_apply _ j hj, qm1_apply, hk, hq]
    exact sum_half1 _ _ _
  v r e := by rw [winOf_apply _ j hj, hv]

theorem totS_eq (hqi : qi < 8) (m : Fin 2) (i : Fin 8192) (hi : i.val = 1024 * qi + c.val) : totS (sc Q K m) c qi qi = ∑ k, wgt Q K m i k := by
  have h := sum_causal (fun n => Real.exp (dotR Q K m (key n) * (1 / 8))) qi hqi c
  unfold totS
  simp only [sc, rpow_scale]
  rw [← h]
  refine Finset.sum_congr rfl fun k _ => ?_
  unfold wgt
  rw [hi, show key k.val = k from Fin.ofNat_val_eq_self k]

theorem totN_eq (hqi : qi < 8) (m : Fin 2) (i : Fin 8192) (hi : i.val = 1024 * qi + c.val) (e : Fin 128) :
    totN (sc Q K m) (fun j r e => V (key (1024 * j + r.val)) e) c qi qi e = ∑ k, V k e * wgt Q K m i k := by
  have h := sum_causal (fun n => V (key n) e * Real.exp (dotR Q K m (key n) * (1 / 8))) qi hqi c
  unfold totN
  simp only [sc, rpow_scale, mul_ite, mul_zero]
  rw [← h]
  refine Finset.sum_congr rfl fun k _ => ?_
  unfold wgt
  rw [hi, show key k.val = k from Fin.ofNat_val_eq_self k, mul_ite, mul_zero]

theorem blockOut_val (hqi : qi < 8) (lam : Vec Ideal S4x64 .f32) (g : Vec Ideal S1x1024x128 .bf16) (sub : Vec Ideal S1x128 .f32)
    (hq : ∀ d, q (ix3 0 c d) = (Q d : EReal)) (hk : ∀ n d, k (ix3 0 n d) = (K n d : EReal)) (hv : ∀ n d, v (ix3 0 n d) = (V n d : EReal))
    (i : Fin 8192) (hi : i.val = 1024 * qi + c.val) (e : Fin 128) :
    blockOut qi lam q k v g sub (ix3 0 c e) = finish (fun e => ((att Q K (fun k => V k e) 0 i : ℝ) : EReal)
      - (lamE fun i d => lam (ix2 i d)) * ((att Q K (fun k => V k e) 1 i : ℝ) : EReal)) (sub (ix2 0 e)) (g (ix3 0 c e)) e := by
  have h0 := Sl.fin_at (kb := fun n => winOf k ![0, 1024 * n, 0]) (vb := fun n => winOf v ![0, 1024 * n, 0]) (sc := sc Q K 0) (u := fun j r e => V (key (1024 * j + r.val)) e)
    (init0_start (winOf k ![0, 1024 * qi, 0]) (k0_pay145 q)) (fun j hj => tile0 hq hk hv j (by omega))
  have h1 := Sl.fin_at (kb := fun n => winOf k ![0, 1024 * n, 0]) (vb := fun n => winOf v ![0, 1024 * n, 0]) (sc := sc Q K 1) (u := fun j r e => V (key (1024 * j + r.val)) e)
    (init1_start (winOf k ![0, 1024 * qi, 0]) (k0_pay146 q)) (fun j hj => tile1 hq hk hv j (by omega))
  have hS : ∀ m, 0 < totS (sc Q K m) c qi qi := fun m => by rw [totS_eq hqi m i hi]; exact wgt_sum_pos _ _ _ _
  have e0 := h0.quot (hS 0)
  have e1 := h1.quot (hS 1)
  unfold blockOut
  rw [outBlk_apply]
  simp only [e0, e1, totS_eq hqi _ i hi, totN_eq hqi _ i hi]
  rfl
end

end Cert.KernelIdeal.Attn

end
-- ==== Proof.Entry.lean ====
/- The arrays as the grid finds them, and each window's block of them, read at one element. -/
module

public import proofs.«01_k».proof.Proof.BlockVal
public import Idealize.ShloMosaic.Lib.Claim

@[expose] public section

set_option maxRecDepth 16384

noncomputable section

namespace Cert.KernelIdeal.Attn

open Cert.KernelIdeal Cert.KernelIdeal.Gen Cert.Proof.Attn
open Idealize.ShloMosaic Idealize.ShloMosaic.TcCoe Idealize.SL.Sem

variable (m : (ℓ : Loc nD τ sig) → Buf (Elt Ideal) ℓ) (c : Dev nD)

/-- An array rounded to the narrower format, which changes no real number. -/
abbrev narrow (x : FVec Ideal S4x8192x1024 .f32) : FVec Ideal S4x8192x1024 .bf16 := truncf .bf16 x bitsLt_bf16_f32

theorem V_v0 : V m c main_v0 = narrow (m ((c : Thread nD τ).loc main_arg1)) := by
  unfold V hostOps0
  after_results

theorem V_v1 : V m c main_v1 = narrow (m ((c : Thread nD τ).loc main_arg2)) := by
  unfold V hostOps0
  after_results

theorem V_v10 : V m c main_v10 = shapeCast S1x128 (m ((c : Thread nD τ).loc main_arg5) : Vec Ideal S128 .f32) shapeCasts_S128_S1x128 := by
  unfold V hostOps0
  after_results
  rfl

/-- The gate as the host makes it. -/
abbrev gate (x : FVec Ideal S4x8192x1024 .f32) : FVec Ideal S4x8192x1024 .bf16 :=
  truncf .bf16 (mulf x (Host.divf (broadcastInDim S4x8192x1024 ![] bcast_S_S4x8192x1024 (constant S_ .f32 0x3F800000#32))
    (addf (broadcastInDim S4x8192x1024 ![] bcast_S_S4x8192x1024 (constant S_ .f32 0x3F800000#32)) (Host.exp (Host.negf x))))) bitsLt_bf16_f32

theorem V_v9 : V m c main_v9 = gate (m ((c : Thread nD τ).loc main_arg3)) := by
  unfold V hostOps0
  after_results

theorem gate_apply (x : FVec Ideal S4x8192x1024 .f32) (j : S4x8192x1024.Idx) : gate x j = silu (x j) := by
  unfold silu
  pointwise

/-! ## The grid's points and the windows' blocks -/

/-- The batch, the head and the query tile of a grid point. -/
abbrev pb (t : Fin cfg0.N) : Fin 4 := grid0.coords t 0
abbrev ph (t : Fin cfg0.N) : Fin 8 := grid0.coords t 1
abbrev pq (t : Fin cfg0.N) : Fin 8 := grid0.coords t 2

/-- Row `r` of the point's query tile. -/
def prow (t : Fin cfg0.N) (r : Fin 1024) : Fin 8192 := ⟨1024 * (pq t).val + r.val, by omega⟩

/-- Lane `e` of the point's head. -/
def plane (t : Fin cfg0.N) (e : Fin 128) : Fin 1024 := ⟨(ph t).val * 128 + e.val, by omega⟩

theorem tr_q (i : grid0.Coords) : cc0_transform_1 i = ![(i 0).val, (i 2).val, (i 1).val] := by
  have h0 : (i 0).val < 4 := (i 0).isLt
  have h1 : (i 1).val < 8 := (i 1).isLt
  have h2 : (i 2).val < 8 := (i 2).isLt
  unfold cc0_transform_1
  funext a
  fin_cases a <;> simp <;> omega

theorem tr_k (i : grid0.Coords) : cc0_transform_2 i = ![(i 0).val, 0, (i 1).val] := by
  have h0 : (i 0).val < 4 := (i 0).isLt
  have h1 : (i 1).val < 8 := (i 1).isLt
  unfold cc0_transform_2
  funext a
  fin_cases a <;> simp <;> omega

theorem blk_q (t : Fin cfg0.N) (r : Fin 1024) (d : Fin 128) :
    iblk m c 1 t (ix3 0 r d) = (m ((c : Thread nD τ).loc main_arg0) : Vec Ideal S4x8192x1024 .f32) (ix3 (pb t) (prow t r) (plane t d)) := by
  unfold iblk
  rw [View.read_apply]
  show V m c main_arg0 _ = _
  rw [V_main_arg0]
  congr 1
  funext a
  apply Fin.ext
  match a with
  | ⟨0, _⟩ => show cc0_transform_1 (grid0.coords t) 0 * 1 + 1 * 0 = (grid0.coords t 0).val; rw [tr_q]; simp
  | ⟨1, _⟩ => show cc0_transform_1 (grid0.coords t) 1 * 1024 + 1 * r.val = 1024 * (grid0.coords t 2).val + r.val; rw [tr_q]; simp; omega
  | ⟨2, _⟩ => show cc0_transform_1 (grid0.coords t) 2 * 128 + 1 * d.val = (grid0.coords t 1).val * 128 + d.val; rw [tr_q]; simp

theorem blk_k (t : Fin cfg0.N) (n : Fin 8192) (d : Fin 128) :
    iblk m c 2 t (ix3 0 n d) = (m ((c : Thread nD τ).loc main_arg1) : Vec Ideal S4x8192x1024 .f32) (ix3 (pb t) n (plane t d)) := by
  unfold iblk
  rw [View.read_apply]
  show (V m c main_v0 : FVec Ideal S4x8192x1024 .bf16) _ = _
  rw [V_v0]
  show (m ((c : Thread nD τ).loc main_arg1) : Vec Ideal S4x8192x1024 .f32) _ = _
  congr 1
  funext a
  apply Fin.ext
  match a with
  | ⟨0, _⟩ => show cc0_transform_2 (grid0.coords t) 0 * 1 + 1 * 0 = (grid0.coords t 0).val; rw [tr_k]; simp
  | ⟨1, _⟩ => show cc0_transform_2 (grid0.coords t) 1 * 8192 + 1 * n.val = n.val; rw [tr_k]; simp
  | ⟨2, _⟩ => show cc0_transform_2 (grid0.coords t) 2 * 128 + 1 * d.val = (grid0.coords t 1).val * 128 + d.val; rw [tr_k]; simp

theorem blk_v (t : Fin cfg0.N) (n : Fin 8192) (d : Fin 128) :
    iblk m c 3 t (ix3 0 n d) = (m ((c : Thread nD τ).loc main_arg2) : Vec Ideal S4x8192x1024 .f32) (ix3 (pb t) n (plane t d)) := by
  unfold iblk
  rw [View.read_apply]
  show (V m c main_v1 : FVec Ideal S4x8192x1024 .bf16) _ = _
  rw [V_v1]
  show (m ((c : Thread nD τ).loc main_arg2) : Vec Ideal S4x8192x1024 .f32) _ = _
  congr 1
  funext a
  apply Fin.ext
  match a with
  | ⟨0, _⟩ => show cc0_transform_2 (grid0.coords t) 0 * 1 + 1 * 0 = (grid0.coords t 0).val; rw [tr_k]; simp
  | ⟨1, _⟩ => show cc0_transform_2 (grid0.coords t) 1 * 8192 + 1 * n.val = n.val; rw [tr_k]; simp
  | ⟨2, _⟩ => show cc0_transform_2 (grid0.coords t) 2 * 128 + 1 * d.val = (grid0.coords t 1).val * 128 + d.val; rw [tr_k]; simp

theorem blk_g (t : Fin cfg0.N) (r : Fin 1024) (d : Fin 128) :
    iblk m c 4 t (ix3 0 r d) = silu ((m ((c : Thread nD τ).loc main_arg3) : Vec Ideal S4x8192x1024 .f32) (ix3 (pb t) (prow t r) (plane t d))) := by
  unfold iblk
  rw [View.read_apply]
  show (V m c main_v9 : FVec Ideal S4x8192x1024 .bf16) _ = _
  rw [V_v9, gate_apply]
  congr 2
  funext a
  apply Fin.ext
  match a with
  | ⟨0, _⟩ => show cc0_transform_1 (grid0.coords t) 0 * 1 + 1 * 0 = (grid0.coords t 0).val; rw [tr_q]; simp
  | ⟨1, _⟩ => show cc0_transform_1 (grid0.coords t) 1 * 1024 + 1 * r.val = 1024 * (grid0.coords t 2).val + r.val; rw [tr_q]; simp; omega
  | ⟨2, _⟩ => show cc0_transform_1 (grid0.coords t) 2 * 128 + 1 * d.val = (grid0.coords t 1).val * 128 + d.val; rw [tr_q]; simp

theorem blk_lam (t : Fin cfg0.N) (i : Fin 4) (d : Fin 64) :
    iblk m c 0 t (ix2 i d) = (m ((c : Thread nD τ).loc main_arg4) : Vec Ideal S4x64 .f32) (ix2 i d) := by
  unfold iblk
  rw [View.read_apply]
  show V m c main_arg4 _ = _
  rw [V_main_arg4]
  congr 1
  funext a
  apply Fin.ext
  match a with
  | ⟨0, _⟩ => show 0 * 4 + 1 * i.val = i.val; omega
  | ⟨1, _⟩ => show 0 * 64 + 1 * d.val = d.val; omega

theorem blk_sub (t : Fin cfg0.N) (e : Fin 128) :
    iblk m c 5 t (ix2 0 e) = (m ((c : Thread nD τ).loc main_arg5) : Vec Ideal S128 .f32) (ix1 e) := by
  unfold iblk
  rw [View.read_apply]
  show (V m c main_v10 : FVec Ideal S1x128 .f32) _ = _
  rw [V_v10]
  have h : (((cfg0.win 5).blk t).view.emb (ix2 0 e) : S1x128.Idx) = ix2 0 e := by
    funext a
    apply Fin.ext
    match a with
    | ⟨0, _⟩ => rfl
    | ⟨1, _⟩ => show 0 * 128 + 1 * e.val = e.val; omega
  refine (congrArg (shapeCast S1x128 (m ((c : Thread nD τ).loc main_arg5) : Vec Ideal S128 .f32) shapeCasts_S128_S1x128) h).trans ?_
  pointwise

end Cert.KernelIdeal.Attn

end
-- ==== Proof.RefScore.lean ====
/- The reference's masked scores over the reals, read at one element. -/
module

public import proofs.«01_k».proof.Proof.Gen.ReferenceIdeal.Read
public import proofs.«01_k».proof.Proof.Math
public import Idealize.ShloMosaic.Lib.Pointwise
public import Idealize.ShloMosaic.Lib.WordCmp

@[expose] public section

set_option maxRecDepth 16384

noncomputable section

namespace Cert.ReferenceIdeal.Attn

open Cert.ReferenceIdeal Cert.ReferenceIdeal.Gen Cert.ReferenceIdeal.Read Cert.Proof.Attn
open Idealize.ShloMosaic

/-- The lane of entry `d` of map `c` of head `h`. -/
def lane (h : Fin 8) (c : Fin 2) (d : Fin 64) : Fin 1024 := ⟨h.val * 128 + c.val * 64 + d.val, by omega⟩

variable (x0 x1 x2 x3 : Vec Ideal S4x8192x1024 .f32) (x4 : Vec Ideal S4x64 .f32) (x5 : Vec Ideal S128 .f32)

theorem v0_at (b : Fin 4) (i : Fin 8192) (h : Fin 8) (c : Fin 2) (d : Fin 64) :
    val_main_v0 x0 (ix5 b i h c d) = x0 (ix3 b i (lane h c d)) := by
  rw [val_main_v0_apply]
  congr 1
  funext a
  fin_cases a <;> apply Fin.ext <;> simp [lane, ix3, ix5] <;> omega

theorem v1_at (b : Fin 4) (i : Fin 8192) (h : Fin 8) (c : Fin 2) (d : Fin 64) :
    val_main_v1 x1 (ix5 b i h c d) = x1 (ix3 b i (lane h c d)) := v0_at x1 b i h c d

theorem v19_at (b : Fin 4) (h : Fin 8) (c : Fin 2) (i k : Fin 8192) :
    val_main_v19 x0 x1 (ix5 b h c i k) = ∑ d : Fin 64, x0 (ix3 b i (lane h c d)) * x1 (ix3 b k (lane h c d)) := by
  rw [val_main_v19_apply]
  refine Finset.sum_congr rfl fun d _ => congrArg₂ (· * ·) ?_ ?_
  · rw [← v0_at x0]; congr 1; funext a; fin_cases a <;> rfl
  · rw [← v1_at x1]; congr 1; funext a; fin_cases a <;> rfl

theorem v28_at (b : Fin 4) (h : Fin 8) (c : Fin 2) (i k : Fin 8192) :
    val_main_v28 x0 x1 (ix5 b h c i k) = if k.val ≤ i.val then val_main_v19 x0 x1 (ix5 b h c i k) * ((1 / 8 : ℝ) : EReal) else ⊥ := by
  have h8 : FloatOps.ofBits (F := Ideal) .f32 0x3E000000#32 = ((1 / 8 : ℝ) : EReal) := by
    rw [Ideal.ofBits_def]; simp [Ideal.ofBits, Ideal.ieee, -EReal.coe_mul]; norm_num
  have hb : FloatOps.ofBits (F := Ideal) .f32 0xFF800000#32 = (⊥ : EReal) := by rw [Ideal.ofBits_def]; simp [Ideal.ofBits, Ideal.ieee]
  have e1 : ((idx_main_v23 (idx_main_v25 (idx_main_call0_v1 (ix5 b h c i k)))) 0).val = k.val := rfl
  have e2 : ((idx_main_v24 (idx_main_v26 (idx_main_call0_v1 (ix5 b h c i k)))) 0).val = i.val := rfl
  rw [val_main_v28_apply, val_main_v21_apply, val_main_v20_apply, val_main_cst_2_apply, val_main_call0_v2_apply, val_main_call0_v0_apply, val_main_cst_3_apply,
    val_main_call0_v1_apply, val_main_v27_apply, val_main_v25_apply, val_main_v26_apply, val_main_v23_apply, val_main_v24_apply, val_main_v22_apply, val_main_v22_apply,
    e1, e2, WordCmp.cmpi_sle_ofNat (by omega) (by omega), WordCmp.select_ofBool, h8, hb, Ideal.mulf_def]
  simp only [decide_eq_true_eq]

end Cert.ReferenceIdeal.Attn

end
-- ==== Proof.RefMax.lean ====
/- The reference's row maximum over the reals, read at one element. -/
module

public import proofs.«01_k».proof.Proof.Gen.ReferenceIdeal.Read
public import proofs.«01_k».proof.Proof.Math
public import Idealize.ShloMosaic.Lib.Pointwise
public import Idealize.ShloMosaic.Lib.WordCmp

@[expose] public section

set_option maxRecDepth 16384

noncomputable section

namespace Cert.ReferenceIdeal.Attn

open Cert.ReferenceIdeal Cert.ReferenceIdeal.Gen Cert.ReferenceIdeal.Read Cert.Proof.Attn
open Idealize.ShloMosaic

variable (x0 x1 x2 x3 : Vec Ideal S4x8192x1024 .f32) (x4 : Vec Ideal S4x64 .f32) (x5 : Vec Ideal S128 .f32)

theorem max_at (y : FVec Ideal S4x8x2x8192x8192 .f32) (b : Fin 4) (h : Fin 8) (c : Fin 2) (i : Fin 8192) :
    Host.reduce FloatOps.maximumf y (constant (F := Ideal) S_ .f32 0xFF800000#32) reducesTo_S4x8x2x8192x8192_S4x8x2x8192_d4 h_S_ (ix4 b h c i)
      = Finset.univ.fold max ⊥ fun k : Fin 8192 => y (ix5 b h c i k) := by
  have hb : Ideal.ofBits .f32 0xFF800000#32 = ⊥ := by simp [Ideal.ofBits, Ideal.ieee]
  rw [Host.reduce_eq_fold_single FloatOps.maximumf y _ reducesTo_S4x8x2x8192x8192_S4x8x2x8192_d4 (by decide) h_S_]
  refine Eq.trans (b := Finset.univ.fold max (Ideal.ofBits .f32 0xFF800000#32) fun k : Fin 8192 => y (ix5 b h c i k)) ?_ (by rw [hb])
  refine Finset.fold_congr fun k _ => ?_
  exact congrArg y (funext fun a => Fin.ext (by match a with | ⟨0, _⟩ => rfl | ⟨1, _⟩ => rfl | ⟨2, _⟩ => rfl | ⟨3, _⟩ => rfl | ⟨4, _⟩ => rfl))

theorem v29_at (b : Fin 4) (h : Fin 8) (c : Fin 2) (i : Fin 8192) :
    val_main_v29 x0 x1 (ix4 b h c i) = Finset.univ.fold max ⊥ fun k : Fin 8192 => val_main_v28 x0 x1 (ix5 b h c i k) := by
  unfold val_main_v29 val_main_cst_4
  exact max_at _ b h c i

end Cert.ReferenceIdeal.Attn

end
-- ==== Proof.RefSoft.lean ====
/- The reference's softmax and its two maps' difference over the reals, read at one element. -/
module

public import proofs.«01_k».proof.Proof.Gen.ReferenceIdeal.Read
public import proofs.«01_k».proof.Proof.Math
public import Idealize.ShloMosaic.Lib.Pointwise
public import Idealize.ShloMosaic.Lib.WordCmp

@[expose] public section

set_option maxRecDepth 16384

noncomputable section

namespace Cert.ReferenceIdeal.Attn

open Cert.ReferenceIdeal Cert.ReferenceIdeal.Gen Cert.ReferenceIdeal.Read Cert.Proof.Attn
open Idealize.ShloMosaic

variable (x0 x1 x2 x3 : Vec Ideal S4x8192x1024 .f32) (x4 : Vec Ideal S4x64 .f32) (x5 : Vec Ideal S128 .f32)

theorem v18_at (j : S_.Idx) : val_main_v18 x4 j = lamE fun i d => x4 (ix2 i d) := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  rfl

theorem v31_at (b : Fin 4) (h : Fin 8) (c : Fin 2) (i : Fin 8192) :
    val_main_v31 x0 x1 (ix4 b h c i) = val_main_v29 x0 x1 (ix4 b h c i) := by
  have hb : FloatOps.ofBits (F := Ideal) .f32 0xFF800000#32 = (⊥ : EReal) := by rw [Ideal.ofBits_def]; simp [Ideal.ofBits, Ideal.ieee]
  rw [val_main_v31_apply, val_main_v30_apply, val_main_cst_5_apply, hb, Ideal.maximumf_def]
  exact max_eq_right bot_le

theorem v35_at (b : Fin 4) (h : Fin 8) (c : Fin 2) (i k : Fin 8192) :
    val_main_v35 x0 x1 (ix5 b h c i k) = Ideal.exp (val_main_v28 x0 x1 (ix5 b h c i k) - val_main_v31 x0 x1 (ix4 b h c i)) := by
  rw [val_main_v35_apply, val_main_v34_apply, val_main_v33_apply, val_main_v32_apply]
  have e : idx_main_v32 (idx_main_v33 (ix5 b h c i k)) = ix4 b h c i := by
    funext a; match a with | ⟨0, _⟩ => rfl | ⟨1, _⟩ => rfl | ⟨2, _⟩ => rfl | ⟨3, _⟩ => rfl
  rw [e]; rfl

theorem v36_at (b : Fin 4) (h : Fin 8) (c : Fin 2) (i : Fin 8192) :
    val_main_v36 x0 x1 (ix4 b h c i) = ∑ k : Fin 8192, val_main_v35 x0 x1 (ix5 b h c i k) := by
  rw [val_main_v36_apply, val_main_cst_6_apply]
  have hz : FloatOps.ofBits (F := Ideal) .f32 0x00000000#32 = (0 : EReal) := Ideal.ofBits_zero_f32
  rw [hz, zero_add]
  refine Finset.sum_congr rfl fun k _ => ?_
  have e : idx_main_v36 (ix4 b h c i) k = ix5 b h c i k := by
    funext a; match a with | ⟨0, _⟩ => rfl | ⟨1, _⟩ => rfl | ⟨2, _⟩ => rfl | ⟨3, _⟩ => rfl | ⟨4, _⟩ => rfl
  rw [e]

theorem v39_at (b : Fin 4) (h : Fin 8) (c : Fin 2) (i k : Fin 8192) :
    val_main_v39 x0 x1 (ix5 b h c i k) = Ideal.div (val_main_v35 x0 x1 (ix5 b h c i k)) (val_main_v36 x0 x1 (ix4 b h c i)) := by
  rw [val_main_v39_apply, val_main_v38_apply, val_main_v37_apply]
  have e : idx_main_v37 (idx_main_v38 (ix5 b h c i k)) = ix4 b h c i := by
    funext a; match a with | ⟨0, _⟩ => rfl | ⟨1, _⟩ => rfl | ⟨2, _⟩ => rfl | ⟨3, _⟩ => rfl
  rw [e]; rfl

theorem v41_at (b : Fin 4) (h : Fin 8) (i k : Fin 8192) : val_main_v41 x0 x1 (ix4 b h i k) = val_main_v39 x0 x1 (ix5 b h 0 i k) := by
  rw [val_main_v41_apply, val_main_v40_apply]
  congr 1
  funext a
  fin_cases a <;> apply Fin.ext <;> simp [ix4, ix5] <;> omega

theorem v43_at (b : Fin 4) (h : Fin 8) (i k : Fin 8192) : val_main_v43 x0 x1 (ix4 b h i k) = val_main_v39 x0 x1 (ix5 b h 1 i k) := by
  rw [val_main_v43_apply, val_main_v42_apply]
  congr 1
  funext a
  fin_cases a <;> apply Fin.ext <;> simp [ix4, ix5] <;> omega

theorem v46_at (b : Fin 4) (h : Fin 8) (i k : Fin 8192) :
    val_main_v46 x0 x1 x4 (ix4 b h i k) = val_main_v39 x0 x1 (ix5 b h 0 i k) - (lamE fun i d => x4 (ix2 i d)) * val_main_v39 x0 x1 (ix5 b h 1 i k) := by
  rw [val_main_v46_apply, val_main_v45_apply, val_main_v44_apply, v18_at, v41_at, v43_at, Ideal.subf_def, Ideal.mulf_def]

end Cert.ReferenceIdeal.Attn

end
-- ==== Proof.RefOut.lean ====
/- The reference's weighted values, norm and gate over the reals, read at one element. -/
module

public import proofs.«01_k».proof.Proof.Gen.ReferenceIdeal.Read
public import proofs.«01_k».proof.Proof.Math
public import Idealize.ShloMosaic.Lib.Pointwise
public import Idealize.ShloMosaic.Lib.WordCmp

@[expose] public section

set_option maxRecDepth 16384

noncomputable section

namespace Cert.ReferenceIdeal.Attn

open Cert.ReferenceIdeal Cert.ReferenceIdeal.Gen Cert.ReferenceIdeal.Read Cert.Proof.Attn
open Idealize.ShloMosaic

/-- The lane of entry `e` of head `h`. -/
def hlane (h : Fin 8) (e : Fin 128) : Fin 1024 := ⟨h.val * 128 + e.val, by omega⟩

variable (x0 x1 x2 x3 : Vec Ideal S4x8192x1024 .f32) (x4 : Vec Ideal S4x64 .f32) (x5 : Vec Ideal S128 .f32)

theorem v2_at (b : Fin 4) (i : Fin 8192) (h : Fin 8) (e : Fin 128) :
    val_main_v2 x2 (ix4 b i h e) = x2 (ix3 b i (hlane h e)) := by
  rw [val_main_v2_apply]
  congr 1
  funext a
  fin_cases a <;> apply Fin.ext <;> simp [hlane, ix3, ix4] <;> omega

theorem v47_at (b : Fin 4) (h : Fin 8) (e : Fin 128) (i : Fin 8192) :
    val_main_v47 x0 x1 x2 x4 (ix4 b h e i) = ∑ k : Fin 8192, x2 (ix3 b k (hlane h e)) * val_main_v46 x0 x1 x4 (ix4 b h i k) := by
  rw [val_main_v47_apply]
  refine Finset.sum_congr rfl fun k _ => congrArg₂ (· * ·) ?_ ?_
  · rw [← v2_at x2]; congr 1; funext a; fin_cases a <;> rfl
  · congr 1; funext a; fin_cases a <;> rfl

theorem v63_at (b : Fin 4) (i : Fin 8192) (h : Fin 8) (e : Fin 128) (g : EReal) :
    val_main_v63 x0 x1 x2 x4 x5 (ix4 b i h e) * g = finish (fun e => val_main_v47 x0 x1 x2 x4 (ix4 b h e i)) (x5 (ix1 e)) g e := by
  unfold finish
  pointwise [val_main_v63, val_main_v62, val_main_v61, val_main_v60, val_main_v59, val_main_v58, val_main_v57, val_main_v56, val_main_v55, val_main_v54, val_main_v53, val_main_v52, val_main_v51, val_main_v50, val_main_v49, val_main_v48, val_main_cst_7, val_main_cst_8, val_main_cst_9, val_main_cst_10]

theorem v65_at (j : S4x8192x1024.Idx) : val_main_v65 x3 j = silu (x3 j) := by
  unfold silu
  pointwise [val_main_v65, val_main_call1_v5, val_main_call1_v4, val_main_call1_v3, val_main_call1_v2, val_main_call1_v1, val_main_call1_v0, val_main_call1_cst, val_main_call1_cst_0]

theorem v67_at (b : Fin 4) (i : Fin 8192) (h : Fin 8) (e : Fin 128) :
    val_main_v67 x0 x1 x2 x3 x4 x5 (ix3 b i (hlane h e)) = finish (fun e => val_main_v47 x0 x1 x2 x4 (ix4 b h e i)) (x5 (ix1 e)) (silu (x3 (ix3 b i (hlane h e)))) e := by
  rw [← v63_at, ← v65_at]
  show val_main_v64 x0 x1 x2 x4 x5 (ix3 b i (hlane h e)) * _ = _
  rw [val_main_v64_apply]
  congr 2
  funext a
  fin_cases a <;> apply Fin.ext <;> simp [hlane, ix3, ix4] <;> omega

end Cert.ReferenceIdeal.Attn

end
-- ==== Proof.RefVal.lean ====
/- The reference's weighted values at real queries, keys and values. -/
module

public import proofs.«01_k».proof.Proof.RefScore
public import proofs.«01_k».proof.Proof.RefMax
public import proofs.«01_k».proof.Proof.RefSoft
public import proofs.«01_k».proof.Proof.RefOut

@[expose] public section

set_option maxRecDepth 16384

noncomputable section

namespace Cert.ReferenceIdeal.Attn

open Cert.ReferenceIdeal Cert.ReferenceIdeal.Gen Cert.ReferenceIdeal.Read Cert.Proof.Attn
open Idealize.ShloMosaic

theorem lane_eq (h : Fin 8) (c : Fin 2) (d : Fin 64) : lane h c d = hlane h (half c d) :=
  Fin.ext (by simp only [lane, hlane, half]; omega)

section
variable {x0 x1 x2 : Vec Ideal S4x8192x1024 .f32} {x4 : Vec Ideal S4x64 .f32} {Q K V : S4x8192x1024.Idx → ℝ} {L : ℝ}

/-- A query's row of a head. -/
abbrev row (Q : S4x8192x1024.Idx → ℝ) (b : Fin 4) (h : Fin 8) (i : Fin 8192) (d : Fin 128) : ℝ := Q (ix3 b i (hlane h d))

theorem v28_wt (hq : ∀ j, x0 j = (Q j : EReal)) (hk : ∀ j, x1 j = (K j : EReal)) (b : Fin 4) (h : Fin 8) (c : Fin 2) (i k : Fin 8192) :
    WtE (val_main_v28 x0 x1 (ix5 b h c i k)) (wgt (row Q b h i) (row K b h) c i k) := by
  rw [v28_at, v19_at]
  unfold wgt
  split
  · refine Or.inl ⟨_, ?_, rfl⟩
    simp only [hq, hk, lane_eq, ← EReal.coe_mul, ← coe_sum]
    rfl
  · exact Or.inr ⟨rfl, rfl⟩

theorem v39_val (hq : ∀ j, x0 j = (Q j : EReal)) (hk : ∀ j, x1 j = (K j : EReal)) (b : Fin 4) (h : Fin 8) (c : Fin 2) (i k : Fin 8192) :
    val_main_v39 x0 x1 (ix5 b h c i k) = ((wgt (row Q b h i) (row K b h) c i k / ∑ k, wgt (row Q b h i) (row K b h) c i k : ℝ) : EReal) := by
  have hX : ∃ X : ℝ, val_main_v31 x0 x1 (ix4 b h c i) = (X : EReal) := by
    rw [v31_at, v29_at]
    refine fold_max_real _ _ (fun k _ => (v28_wt hq hk b h c i k).ne_top) i (Finset.mem_univ _) ?_
    rcases v28_wt hq hk b h c i i with ⟨r, hr, -⟩ | ⟨-, hr⟩
    · rw [hr]; exact EReal.coe_ne_bot _
    · unfold wgt at hr; rw [if_pos le_rfl] at hr; exact absurd hr (Real.exp_pos _).ne'
  obtain ⟨X, hX⟩ := hX
  rw [v39_at, v36_at]
  simp only [v35_at, hX]
  exact softmax _ _ (fun k => v28_wt hq hk b h c i k) X (wgt_sum_pos _ _ _ _) k

theorem v47_val (hq : ∀ j, x0 j = (Q j : EReal)) (hk : ∀ j, x1 j = (K j : EReal)) (hv : ∀ j, x2 j = (V j : EReal))
    (hl : (lamE fun i d => x4 (ix2 i d)) = (L : EReal)) (b : Fin 4) (h : Fin 8) (e : Fin 128) (i : Fin 8192) :
    val_main_v47 x0 x1 x2 x4 (ix4 b h e i) = ((att (row Q b h i) (row K b h) (fun k => row V b h k e) 0 i : ℝ) : EReal)
      - (lamE fun i d => x4 (ix2 i d)) * ((att (row Q b h i) (row K b h) (fun k => row V b h k e) 1 i : ℝ) : EReal) := by
  rw [v47_at]
  simp only [v46_at, v39_val hq hk, hv, hl, ← EReal.coe_mul, ← EReal.coe_sub, ← coe_sum]
  congr 1
  unfold att
  rw [Finset.sum_div, Finset.sum_div, Finset.mul_sum, ← Finset.sum_sub_distrib]
  exact Finset.sum_congr rfl fun k _ => by ring
end

end Cert.ReferenceIdeal.Attn

end
-- ==== Proof.Final.lean ====
/- The array the kernel writes is the reference's, at real queries, keys, values and mixing vectors. -/
module

public import proofs.«01_k».proof.Proof.Entry
public import proofs.«01_k».proof.Proof.RefVal

@[expose] public section

set_option maxRecDepth 16384

noncomputable section

namespace Cert.KernelIdeal.Attn

open Cert.KernelIdeal Cert.KernelIdeal.Gen Cert.Proof.Attn
open Idealize.ShloMosaic Idealize.ShloMosaic.TcCoe Idealize.SL.Sem
open Cert.ReferenceIdeal.Attn (hlane row v67_at v47_val)

variable (m : (ℓ : Loc nD τ sig) → Buf (Elt Ideal) ℓ) (c : Dev nD)

abbrev argQ : Vec Ideal S4x8192x1024 .f32 := m ((c : Thread nD τ).loc main_arg0)
abbrev argK : Vec Ideal S4x8192x1024 .f32 := m ((c : Thread nD τ).loc main_arg1)
abbrev argV : Vec Ideal S4x8192x1024 .f32 := m ((c : Thread nD τ).loc main_arg2)
abbrev argG : Vec Ideal S4x8192x1024 .f32 := m ((c : Thread nD τ).loc main_arg3)
abbrev argL : Vec Ideal S4x64 .f32 := m ((c : Thread nD τ).loc main_arg4)
abbrev argN : Vec Ideal S128 .f32 := m ((c : Thread nD τ).loc main_arg5)

/-- What the reference leaves, of the kernel's arguments. -/
def goal : Vec Ideal S4x8192x1024 .bf16 :=
  Cert.ReferenceIdeal.Read.val_main_v67 (argQ m c) (argK m c) (argV m c) (argG m c) (argL m c) (argN m c)

/-- The queries, the keys, the values and the mixing vectors are real. -/
structure RealArgs : Prop where
  q : ∃ Q : S4x8192x1024.Idx → ℝ, ∀ j, argQ m c j = (Q j : EReal)
  k : ∃ K : S4x8192x1024.Idx → ℝ, ∀ j, argK m c j = (K j : EReal)
  v : ∃ V : S4x8192x1024.Idx → ℝ, ∀ j, argV m c j = (V j : EReal)
  l : ∃ L : S4x64.Idx → ℝ, ∀ j, argL m c j = (L j : EReal)

variable {m c}

/-- A grid point's block, at one element. -/
theorem outAt_at (h : RealArgs m c) (t : Fin cfg0.N) (r : Fin 1024) (e : Fin 128) :
    outAt m c t (ix3 0 r e) = goal m c (ix3 (pb t) (prow t r) (plane t e)) := by
  obtain ⟨⟨Q, hq⟩, ⟨K, hk⟩, ⟨V, hv⟩, ⟨L, hl⟩⟩ := h
  obtain ⟨R, hR⟩ := lamE_real (fun i d => argL m c (ix2 i d)) (fun i d => L (ix2 i d)) fun i d => hl _
  have e1 : (fun i d => iblk m c 0 t (ix2 i d)) = fun i d => argL m c (ix2 i d) := by
    funext i d; exact blk_lam m c t i d
  have hb := blockOut_val (q := iblk m c 1 t) (k := iblk m c 2 t) (v := iblk m c 3 t) (c := r)
    (Q := row Q (pb t) (ph t) (prow t r)) (K := row K (pb t) (ph t)) (V := row V (pb t) (ph t))
    (pq t).isLt (iblk m c 0 t) (iblk m c 4 t) (iblk m c 5 t)
    (fun d => (blk_q m c t r d).trans (hq _)) (fun n d => (blk_k m c t n d).trans (hk _)) (fun n d => (blk_v m c t n d).trans (hv _))
    (prow t r) rfl e
  unfold outAt
  refine hb.trans ?_
  unfold goal
  refine Eq.trans ?_ (v67_at _ _ _ _ _ _ (pb t) (prow t r) (ph t) e).symm
  simp only [v47_val hq hk hv hR]
  rw [e1, blk_g, blk_sub]
  rfl

/-- A grid point writes back its block of the reference's array. -/
theorem flushed_eq (h : RealArgs m c) (t : Fin cfg0.N) :
    (dats m 0 c).flushed 6 t = ((cfg0.win 6).blk t).view.read (Elt Ideal) (goal m c) := by
  show (cfg0.win 6).cut (grid0.coords t) ((dats m 0 c).after 6 t) = _
  rw [after_w6]
  funext j
  rw [View.read_apply]
  have hj : j = (ix3 0 (j 1) (j 2) : S1x1024x128.Idx) := by
    funext a
    match a with
    | ⟨0, _⟩ => exact Fin.ext (Nat.lt_one_iff.mp (j 0).isLt)
    | ⟨1, _⟩ => rfl
    | ⟨2, _⟩ => rfl
  have he : (((cfg0.win 6).blk t).view.emb j : S4x8192x1024.Idx) = ix3 (pb t) (prow t (j 1)) (plane t (j 2)) := by
    have h0 : (j 0).val = 0 := Nat.lt_one_iff.mp (j 0).isLt
    funext a
    apply Fin.ext
    match a with
    | ⟨0, _⟩ => show cc0_transform_1 (grid0.coords t) 0 * 1 + 1 * (j 0).val = (grid0.coords t 0).val; rw [tr_q, h0]; simp
    | ⟨1, _⟩ => show cc0_transform_1 (grid0.coords t) 1 * 1024 + 1 * (j 1).val = 1024 * (grid0.coords t 2).val + (j 1).val; rw [tr_q]; simp; omega
    | ⟨2, _⟩ => show cc0_transform_1 (grid0.coords t) 2 * 128 + 1 * (j 2).val = (grid0.coords t 1).val * 128 + (j 2).val; rw [tr_q]; simp
  rw [he]
  refine Eq.trans ?_ (outAt_at h t (j 1) (j 2))
  exact congrArg (outAt m c t) hj

/-- The grid point of a batch, a head and a query tile. -/
def point (b : Fin 4) (h q : Fin 8) : Fin cfg0.N := ⟨b.val * 64 + h.val * 8 + q.val, by rw [show cfg0.N = 256 from N_0]; omega⟩

theorem point_coords : ∀ (b : Fin 4) (h q : Fin 8), pb (point b h q) = b ∧ ph (point b h q) = h ∧ pq (point b h q) = q := by
  decide +kernel

/-- Every element lies in some grid point's block. -/
theorem cover (i : S4x8192x1024.Idx) : ∃ t, (cfg0.win 6).flush t = true ∧ i ∈ ((cfg0.win 6).blk t).view.set := by
  have h0 : (i 0).val < 4 := (i 0).isLt
  have h1 : (i 1).val < 8192 := (i 1).isLt
  have h2 : (i 2).val < 1024 := (i 2).isLt
  obtain ⟨e0, e1, e2⟩ := point_coords ⟨(i 0).val, h0⟩ ⟨(i 2).val / 128, by omega⟩ ⟨(i 1).val / 1024, by omega⟩
  generalize point ⟨(i 0).val, h0⟩ ⟨(i 2).val / 128, by omega⟩ ⟨(i 1).val / 1024, by omega⟩ = t at e0 e1 e2
  replace e0 := congrArg Fin.val e0
  replace e1 := congrArg Fin.val e1
  replace e2 := congrArg Fin.val e2
  refine ⟨t, flush0_6 t, ?_⟩
  show i ∈ ((View.whole main_v11).slice (win0_6.rect t)).set
  rw [View.set_slice_whole, Rect.mem_set_unit]
  intro a
  match a with
  | ⟨0, _⟩ =>
    show cc0_transform_1 (grid0.coords t) 0 * 1 ≤ (i 0).val ∧ (i 0).val < cc0_transform_1 (grid0.coords t) 0 * 1 + 1
    rw [tr_q, show (![(grid0.coords t 0).val, (grid0.coords t 2).val, (grid0.coords t 1).val] : Fin 3 → ℕ) 0 = (i 0).val from e0]
    omega
  | ⟨1, _⟩ =>
    show cc0_transform_1 (grid0.coords t) 1 * 1024 ≤ (i 1).val ∧ (i 1).val < cc0_transform_1 (grid0.coords t) 1 * 1024 + 1024
    rw [tr_q, show (![(grid0.coords t 0).val, (grid0.coords t 2).val, (grid0.coords t 1).val] : Fin 3 → ℕ) 1 = (i 1).val / 1024 from e2]
    omega
  | ⟨2, _⟩ =>
    show cc0_transform_1 (grid0.coords t) 2 * 128 ≤ (i 2).val ∧ (i 2).val < cc0_transform_1 (grid0.coords t) 2 * 128 + 128
    rw [tr_q, show (![(grid0.coords t 0).val, (grid0.coords t 2).val, (grid0.coords t 1).val] : Fin 3 → ℕ) 2 = (i 2).val / 128 from e1]
    omega

/-- The array ends as the reference's. -/
theorem final_out (h : RealArgs m c) : (dats m 0 c).arrAt 6 cfg0.N = goal m c :=
  (dats m 0 c).arrAt_eq_of_cover 6 (goal m c) (fun t _ => flushed_eq h t) cover

end Cert.KernelIdeal.Attn

end
-- ==== Proof.Algebraic.lean ====
/- The kernel over the reals leaves what the reference leaves, of finite inputs. -/
module

public import proofs.«01_k».proof.Defs
public import proofs.«01_k».proof.Proof.Final
public import proofs.«01_k».proof.Proof.Gen.ReferenceIdeal.Run
public import proofs.«01_k».proof.Proof.Gen.Pre_finite_inputs

@[expose] public section

set_option maxRecDepth 16384

noncomputable section

namespace Cert.Proof.Attn

open Idealize.ShloMosaic Idealize.ShloMosaic.TcCoe Idealize.SL.Sem

/-- An extended real whose size is below infinity is a real. -/
theorem real_of_abs_lt (x : EReal) (h : max x (-x) < ⊤) : x = (x.toReal : EReal) := by
  refine (EReal.coe_toReal ?_ ?_).symm
  · rintro rfl; simp at h
  · rintro rfl; simp at h

/-- An array whose comparison with infinity is one everywhere is an array of reals. -/
theorem reals_of_cmp {S : Shape} (x b : FVec Ideal S .f32) (hb : ∀ j, b j = (⊤ : EReal)) (h : cmpf .olt (Host.absf x) b = fun _ => 1#1) :
    ∃ X : S.Idx → ℝ, ∀ j, x j = (X j : EReal) := by
  refine ⟨fun j => (x j : EReal).toReal, fun j => real_of_abs_lt _ ?_⟩
  have hj : BitVec.ofBool (decide (max (x j : EReal) (-(x j : EReal)) < (b j : EReal))) = 1#1 := congrFun h j
  rw [hb j] at hj
  by_contra hn
  rw [decide_eq_false hn] at hj
  exact absurd hj (by decide)

theorem inf_bits : (Ideal.ofBits .f32 0x7F800000#32 : EReal) = ⊤ := by
  simp [Ideal.ofBits, Ideal.ieee]

theorem real_args (m : (ℓ : Loc Cert.KernelIdeal.nD Cert.KernelIdeal.τ Cert.KernelIdeal.sig) → Buf (Elt Ideal) ℓ)
    (h : Cert.Pre_KernelIdeal_finite_inputs (hPre_finite_inputs := Cert.Pre_finite_inputs.Gen.facts) m) (c : Dev Cert.KernelIdeal.nD) : Cert.KernelIdeal.Attn.RealArgs m c where
  q := reals_of_cmp _ _ (fun _ => inf_bits) (h c).1
  k := reals_of_cmp _ _ (fun _ => inf_bits) (h c).2.1
  v := reals_of_cmp _ _ (fun _ => inf_bits) (h c).2.2.1
  l := reals_of_cmp _ _ (fun _ => inf_bits) (h c).2.2.2

/-- The kernel's run over the reals, its result read. -/
theorem kernel_run (m : (ℓ : Loc Cert.KernelIdeal.nD Cert.KernelIdeal.τ Cert.KernelIdeal.sig) → Buf (Elt Ideal) ℓ) (g : Dev Cert.KernelIdeal.nD → PrngReg)
    (h : ∀ c, Cert.KernelIdeal.Attn.RealArgs m c) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v11) = Cert.KernelIdeal.Attn.goal m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  open Cert.KernelIdeal Cert.KernelIdeal.Gen Cert.KernelIdeal.Attn in
  (θ_run defs _ _).mono (fun _ hr c => ⟨((hr.1 c).1 6).trans (final_out (h c)),
      ((hr.1 c).1 1).trans (((dats m 0 c).arrAt_in 1 rfl _).trans (V_main_arg0 m c)),
      ((hr.1 c).2 main_arg1 (Pipeline.mem_restRefs_of main_arg1 (by decide) (by decide))).trans (V_main_arg1 m c),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c),
      ((hr.1 c).1 0).trans (((dats m 0 c).arrAt_in 0 rfl _).trans (V_main_arg4 m c)),
      ((hr.1 c).2 main_arg5 (Pipeline.mem_restRefs_of main_arg5 (by decide) (by decide))).trans (V_main_arg5 m c)⟩)
    (run_quiescent m g)

theorem algebraic : Cert.algebraic_KernelIdeal_ReferenceIdeal_pre_finite_inputs := by
  intro m g m' g' hpre hagree
  refine ⟨fun c => Cert.KernelIdeal.Attn.goal m c, kernel_run m g (real_args m hpre), ?_⟩
  refine (θ_run Cert.ReferenceIdeal.defs _ _).mono (fun _ h c => ⟨(h c).1.trans ?_, (h c).2⟩) (Cert.ReferenceIdeal.Value.run (F := Ideal) m' g')
  rw [Cert.ReferenceIdeal.Read.val_main_v67_eq m' c, (hagree c).1, (hagree c).2.1, (hagree c).2.2.1, (hagree c).2.2.2.1, (hagree c).2.2.2.2.1, (hagree c).2.2.2.2.2]
  rfl

end Cert.Proof.Attn

end
-- ==== Proof.Proj1.lean ====
/- Layer 1's input projection: the tile a grid point stores, read at one element. -/
module

public import proofs.«01_k».proof.Proof.Gen.Kernel2Ideal.Value
public import Idealize.ShloMosaic.Lib.Pointwise
public import Idealize.ShloMosaic.Lib.Claim

@[expose] public section

set_option maxRecDepth 16384

noncomputable section

namespace Cert.Kernel2Ideal.Proj1

open Cert.Kernel2Ideal Cert.Kernel2Ideal.Gen
open Idealize.ShloMosaic Idealize.ShloMosaic.TcCoe Idealize.SL.Sem

/-- The logistic function. -/
def sg (x : EReal) : EReal := Ideal.div 1 (1 + Ideal.exp (-x))

/-- A row scaled by its root mean square and by the norm's weights. -/
def normed (x w : Fin 1024 → EReal) (k : Fin 1024) : EReal :=
  x k * Ideal.rsqrt (Ideal.div (∑ j, x j * x j) (Ideal.ofBits .f32 0x44800000#32) + Ideal.ofBits .f32 0x358637BD#32) * w k

/-- One element of the projection of a normed row. -/
def proj (x w c : Fin 1024 → EReal) : EReal := ∑ k, normed x w k * c k

theorem pay1_at (x : Vec Ideal S256x1024 .f32) (w : Vec Ideal S1x1024 .f32) (r : Fin 256) (k : Fin 1024) :
    k0_pay1 x w (ix2 r k) = normed (fun j => x (ix2 r j)) (fun j => w (ix2 0 j)) k := by
  unfold normed
  pointwise [k0_pay1]

theorem pay2_at (x : Vec Ideal S256x1024 .f32) (w : Vec Ideal S1x1024 .f32) (a b : Vec Ideal S1024x2048 .bf16) (r : Fin 256) (e : Fin 2048) :
    k0_pay2 x w a b (ix2 r e) = proj (fun j => x (ix2 r j)) (fun j => w (ix2 0 j)) (fun k => a (ix2 k e))
      * sg (proj (fun j => x (ix2 r j)) (fun j => w (ix2 0 j)) (fun k => b (ix2 k e))) := by
  unfold sg proj
  simp only [← pay1_at]
  pointwise [k0_pay2]
  rfl

theorem pay3_at (x : Vec Ideal S256x1024 .f32) (w : Vec Ideal S1x1024 .f32) (a : Vec Ideal S1024x2048 .bf16) (r : Fin 256) (e : Fin 2048) :
    k0_pay3 x w a (ix2 r e) = proj (fun j => x (ix2 r j)) (fun j => w (ix2 0 j)) (fun k => a (ix2 k e))
      * sg (proj (fun j => x (ix2 r j)) (fun j => w (ix2 0 j)) (fun k => a (ix2 k e))) := by
  unfold sg proj
  simp only [← pay1_at]
  pointwise [k0_pay3]
  rfl

/-! ## The arrays as the grid finds them -/

variable (m : (ℓ : Loc nD τ sig) → Buf (Elt Ideal) ℓ) (c : Dev nD)

abbrev argH : Vec Ideal S4x8192x1024 .f32 := m ((c : Thread nD τ).loc main_arg0)
abbrev argN : Vec Ideal S1024 .f32 := m ((c : Thread nD τ).loc main_arg1)
abbrev argW : Vec Ideal S1024x6144 .f32 := m ((c : Thread nD τ).loc main_arg2)

/-- The weights rounded to the narrower format, which changes no real number. -/
abbrev narrow (x : FVec Ideal S1024x6144 .f32) : FVec Ideal S1024x6144 .bf16 := truncf .bf16 x bitsLt_bf16_f32

theorem V_v1 : V m c main_v1 = shapeCast S32768x1024 (argH m c) shapeCasts_S4x8192x1024_S32768x1024 := by
  unfold V hostOps0
  after_results
  rfl

theorem V_v2 : V m c main_v2 = shapeCast S1x1024 (argN m c) shapeCasts_S1024_S1x1024 := by
  unfold V hostOps0
  after_results
  rfl

theorem V_v3 : V m c main_v3 = extractStridedSlice S1024x2048 ![0, 0] (narrow (argW m c)) slices_S1024x6144_S1024x2048_0_0 := by
  unfold V hostOps0
  after_results

theorem V_v4 : V m c main_v4 = extractStridedSlice S1024x2048 ![0, 2048] (narrow (argW m c)) slices_S1024x6144_S1024x2048_0_2048 := by
  unfold V hostOps0
  after_results

theorem V_v5 : V m c main_v5 = extractStridedSlice S1024x2048 ![0, 4096] (narrow (argW m c)) slices_S1024x6144_S1024x2048_0_4096 := by
  unfold V hostOps0
  after_results

/-! ## The windows' blocks -/

/-- The grid point's tile of rows. -/
abbrev tile (t : Fin cfg0.N) : Fin 128 := grid0.coords t 0

/-- Row `r` of the point's tile, -/
def row (t : Fin cfg0.N) (r : Fin 256) : Fin 32768 := ⟨256 * (tile t).val + r.val, by omega⟩

/-- its batch and its place there. -/
def bat (i : Fin 32768) : Fin 4 := ⟨i.val / 8192, by omega⟩
def pos (i : Fin 32768) : Fin 8192 := ⟨i.val % 8192, by omega⟩

/-- Column `e` of part `n` of the projection. -/
def col (n : Fin 3) (e : Fin 2048) : Fin 6144 := ⟨2048 * n.val + e.val, by omega⟩

theorem tr_row (i : grid0.Coords) : cc0_transform_0 i = ![(i 0).val, 0] := by
  have h0 : (i 0).val < 128 := (i 0).isLt
  unfold cc0_transform_0
  funext a
  fin_cases a <;> simp <;> omega

theorem tr_const (i : grid0.Coords) : cc0_transform_1 i = ![0, 0] := by
  unfold cc0_transform_1
  funext a
  fin_cases a <;> simp

theorem blk_h (t : Fin cfg0.N) (r : Fin 256) (k : Fin 1024) :
    iblk m c 0 t (ix2 r k) = argH m c (ix3 (bat (row t r)) (pos (row t r)) k) := by
  unfold iblk
  rw [View.read_apply]
  show V m c main_v1 _ = _
  rw [V_v1]
  have e : (((cfg0.win 0).blk t).view.emb (ix2 r k : S256x1024.Idx) : S32768x1024.Idx) = ix2 (row t r) k := by
    funext a
    apply Fin.ext
    match a with
    | ⟨0, _⟩ => show cc0_transform_0 (grid0.coords t) 0 * 256 + 1 * r.val = 256 * (grid0.coords t 0).val + r.val; rw [tr_row]; simp; omega
    | ⟨1, _⟩ => show cc0_transform_0 (grid0.coords t) 1 * 1024 + 1 * k.val = k.val; rw [tr_row]; simp
  refine (congrArg _ e).trans ?_
  refine shapeCast_apply _ _ _ _ ?_
  rw [Shape.rowMajor_val_three, Shape.rowMajor_val_two]
  show ((row t r).val / 8192 * 8192 + (row t r).val % 8192) * 1024 + k.val = (row t r).val * 1024 + k.val
  omega

theorem blk_n (t : Fin cfg0.N) (k : Fin 1024) : iblk m c 1 t (ix2 0 k) = argN m c (ix1 k) := by
  unfold iblk
  rw [View.read_apply]
  show V m c main_v2 _ = _
  rw [V_v2]
  have e : (((cfg0.win 1).blk t).view.emb (ix2 0 k : S1x1024.Idx) : S1x1024.Idx) = ix2 0 k := by
    funext a
    apply Fin.ext
    match a with
    | ⟨0, _⟩ => show cc0_transform_1 (grid0.coords t) 0 * 1 + 1 * 0 = 0; rw [tr_const]; simp
    | ⟨1, _⟩ => show cc0_transform_1 (grid0.coords t) 1 * 1024 + 1 * k.val = k.val; rw [tr_const]; simp
  refine (congrArg _ e).trans ?_
  refine shapeCast_apply _ _ _ _ ?_
  rw [Shape.rowMajor_val_one, Shape.rowMajor_val_two]
  show k.val = 0 * 1024 + k.val
  omega

theorem emb_w (t : Fin cfg0.N) (k : Fin 1024) (e : Fin 2048) :
    (((cfg0.win 2).blk t).view.emb (ix2 k e : S1024x2048.Idx) : S1024x2048.Idx) = ix2 k e := by
  funext a
  apply Fin.ext
  match a with
  | ⟨0, _⟩ => show cc0_transform_1 (grid0.coords t) 0 * 1024 + 1 * k.val = k.val; rw [tr_const]; simp
  | ⟨1, _⟩ => show cc0_transform_1 (grid0.coords t) 1 * 2048 + 1 * e.val = e.val; rw [tr_const]; simp

theorem blk_u (t : Fin cfg0.N) (k : Fin 1024) (e : Fin 2048) : iblk m c 2 t (ix2 k e) = argW m c (ix2 k (col 0 e)) := by
  unfold iblk
  rw [View.read_apply]
  show V m c main_v3 _ = _
  rw [V_v3]
  refine (congrArg _ (emb_w t k e)).trans ?_
  refine (extractStridedSlice_apply _ _ _ _ (ix2 k (col 0 e)) fun a => ?_).trans rfl
  match a with
  | ⟨0, _⟩ => show k.val = 0 + k.val; omega
  | ⟨1, _⟩ => show 2048 * 0 + e.val = 0 + e.val; omega

theorem blk_ug (t : Fin cfg0.N) (k : Fin 1024) (e : Fin 2048) : iblk m c 3 t (ix2 k e) = argW m c (ix2 k (col 1 e)) := by
  unfold iblk
  rw [View.read_apply]
  show V m c main_v4 _ = _
  rw [V_v4]
  refine (congrArg _ (emb_w t k e)).trans ?_
  refine (extractStridedSlice_apply _ _ _ _ (ix2 k (col 1 e)) fun a => ?_).trans rfl
  match a with
  | ⟨0, _⟩ => show k.val = 0 + k.val; omega
  | ⟨1, _⟩ => show 2048 * 1 + e.val = 2048 + e.val; omega

theorem blk_g (t : Fin cfg0.N) (k : Fin 1024) (e : Fin 2048) : iblk m c 4 t (ix2 k e) = argW m c (ix2 k (col 2 e)) := by
  unfold iblk
  rw [View.read_apply]
  show V m c main_v5 _ = _
  rw [V_v5]
  refine (congrArg _ (emb_w t k e)).trans ?_
  refine (extractStridedSlice_apply _ _ _ _ (ix2 k (col 2 e)) fun a => ?_).trans rfl
  match a with
  | ⟨0, _⟩ => show k.val = 0 + k.val; omega
  | ⟨1, _⟩ => show 2048 * 2 + e.val = 4096 + e.val; omega

/-! ## The arrays the grid leaves -/

/-- One element of part `n` of the projection of row `i`. -/
def part (n : Fin 3) (h : Vec Ideal S4x8192x1024 .f32) (w : Vec Ideal S1024 .f32) (p : Vec Ideal S1024x6144 .f32) (i : Fin 32768) (e : Fin 2048) : EReal :=
  proj (fun k => h (ix3 (bat i) (pos i) k)) (fun k => w (ix1 k)) (fun k => p (ix2 k (col n e)))

/-- The gated first part, -/
def outU (h : Vec Ideal S4x8192x1024 .f32) (w : Vec Ideal S1024 .f32) (p : Vec Ideal S1024x6144 .f32) : Vec Ideal S32768x2048 .bf16 :=
  fun i => part 0 h w p (i 0) (i 1) * sg (part 1 h w p (i 0) (i 1))

/-- and the gate, the third part times its logistic. -/
def outG (h : Vec Ideal S4x8192x1024 .f32) (w : Vec Ideal S1024 .f32) (p : Vec Ideal S1024x6144 .f32) : Vec Ideal S32768x2048 .bf16 :=
  fun i => part 2 h w p (i 0) (i 1) * sg (part 2 h w p (i 0) (i 1))

theorem zero2 : (![0, 0] : Fin 2 → Nat) = fun _ => 0 := funext fun a => by fin_cases a <;> rfl

theorem out5_at (t : Fin cfg0.N) (r : Fin 256) (e : Fin 2048) :
    out0_5 (iblk m c 0 t) (iblk m c 1 t) (iblk m c 2 t) (iblk m c 3 t) (iblk m c 4 t) (ix2 r e) = outU (argH m c) (argN m c) (argW m c) (ix2 (row t r) e) := by
  unfold out0_5
  rw [View.canon_unit_zero zero2, View.ld_unit_zero (S := S256x1024) zero2, View.ld_unit_zero (S := S1x1024) zero2, View.ld_unit_zero (S := S1024x2048) zero2, View.ld_unit_zero (S := S1024x2048) zero2]
  refine (pay2_at _ _ _ _ r e).trans ?_
  simp only [blk_h, blk_n, blk_u, blk_ug]
  rfl

theorem out6_at (t : Fin cfg0.N) (r : Fin 256) (e : Fin 2048) :
    out0_6 (iblk m c 0 t) (iblk m c 1 t) (iblk m c 2 t) (iblk m c 3 t) (iblk m c 4 t) (ix2 r e) = outG (argH m c) (argN m c) (argW m c) (ix2 (row t r) e) := by
  unfold out0_6
  rw [View.canon_unit_zero zero2, View.ld_unit_zero (S := S256x1024) zero2, View.ld_unit_zero (S := S1x1024) zero2, View.ld_unit_zero (S := S1024x2048) zero2]
  refine (pay3_at _ _ _ r e).trans ?_
  simp only [blk_h, blk_n, blk_g]
  rfl

/-- Where an element of a point's block lies in the array. -/
theorem emb_out (t : Fin cfg0.N) (j : S256x2048.Idx) : (((cfg0.win 5).blk t).view.emb j : S32768x2048.Idx) = ix2 (row t (j 0)) (j 1) := by
  funext a
  apply Fin.ext
  match a with
  | ⟨0, _⟩ => show cc0_transform_0 (grid0.coords t) 0 * 256 + 1 * (j 0).val = 256 * (grid0.coords t 0).val + (j 0).val; rw [tr_row]; simp; omega
  | ⟨1, _⟩ => show cc0_transform_0 (grid0.coords t) 1 * 2048 + 1 * (j 1).val = (j 1).val; rw [tr_row]; simp

theorem emb_out6 (t : Fin cfg0.N) (j : S256x2048.Idx) : (((cfg0.win 6).blk t).view.emb j : S32768x2048.Idx) = ix2 (row t (j 0)) (j 1) :=
  emb_out t j

theorem pair_eta (j : S256x2048.Idx) : j = (ix2 (j 0) (j 1) : S256x2048.Idx) := by
  funext a
  match a with
  | ⟨0, _⟩ => rfl
  | ⟨1, _⟩ => rfl

theorem flushed5_eq (t : Fin cfg0.N) : (dats m 0 c).flushed 5 t = ((cfg0.win 5).blk t).view.read (Elt Ideal) (outU (argH m c) (argN m c) (argW m c)) := by
  rw [Value.flushed5]
  funext j
  rw [View.read_apply, emb_out t j]
  refine Eq.trans ?_ (out5_at m c t (j 0) (j 1))
  exact congrArg (out0_5 (iblk m c 0 t) (iblk m c 1 t) (iblk m c 2 t) (iblk m c 3 t) (iblk m c 4 t)) (pair_eta j)

theorem flushed6_eq (t : Fin cfg0.N) : (dats m 0 c).flushed 6 t = ((cfg0.win 6).blk t).view.read (Elt Ideal) (outG (argH m c) (argN m c) (argW m c)) := by
  rw [Value.flushed6]
  funext j
  rw [View.read_apply, emb_out6 t j]
  refine Eq.trans ?_ (out6_at m c t (j 0) (j 1))
  exact congrArg (out0_6 (iblk m c 0 t) (iblk m c 1 t) (iblk m c 2 t) (iblk m c 3 t) (iblk m c 4 t)) (pair_eta j)

/-- The grid point of a tile. -/
def point (n : Fin 128) : Fin cfg0.N := ⟨n.val, by rw [show cfg0.N = 128 from N_0]; omega⟩

theorem point_coords : ∀ n : Fin 128, tile (point n) = n := by decide +kernel

/-- Every element lies in some point's block. -/
theorem mem_blk (i : S32768x2048.Idx) : ∃ t : Fin cfg0.N, i ∈ (win0_5.rect t).set ∧ i ∈ (win0_6.rect t).set := by
  have h0 : (i 0).val < 32768 := (i 0).isLt
  have h1 : (i 1).val < 2048 := (i 1).isLt
  have e0 := congrArg Fin.val (point_coords ⟨(i 0).val / 256, by omega⟩)
  generalize point ⟨(i 0).val / 256, by omega⟩ = t at e0
  have key : ∀ a : Fin 2, cc0_transform_0 (grid0.coords t) a * S256x2048.size a ≤ (i a).val ∧ (i a).val < cc0_transform_0 (grid0.coords t) a * S256x2048.size a + S256x2048.size a := by
    intro a
    match a with
    | ⟨0, _⟩ =>
      show cc0_transform_0 (grid0.coords t) 0 * 256 ≤ (i 0).val ∧ (i 0).val < cc0_transform_0 (grid0.coords t) 0 * 256 + 256
      rw [tr_row, show (![(grid0.coords t 0).val, 0] : Fin 2 → ℕ) 0 = (i 0).val / 256 from e0]
      omega
    | ⟨1, _⟩ =>
      show cc0_transform_0 (grid0.coords t) 1 * 2048 ≤ (i 1).val ∧ (i 1).val < cc0_transform_0 (grid0.coords t) 1 * 2048 + 2048
      rw [tr_row, show (![(grid0.coords t 0).val, 0] : Fin 2 → ℕ) 1 = 0 from rfl]
      omega
  exact ⟨t, (Rect.mem_set_unit ..).mpr key, (Rect.mem_set_unit ..).mpr key⟩

theorem final5 : (dats m 0 c).arrAt 5 cfg0.N = outU (argH m c) (argN m c) (argW m c) :=
  (dats m 0 c).arrAt_eq_of_cover 5 _ (fun t _ => flushed5_eq m c t) fun i => by
    obtain ⟨t, h, _⟩ := mem_blk i
    refine ⟨t, flush0_5 t, ?_⟩
    show i ∈ ((View.whole main_v6_0).slice (win0_5.rect t)).set
    rw [View.set_slice_whole]
    exact h

theorem final6 : (dats m 0 c).arrAt 6 cfg0.N = outG (argH m c) (argN m c) (argW m c) :=
  (dats m 0 c).arrAt_eq_of_cover 6 _ (fun t _ => flushed6_eq m c t) fun i => by
    obtain ⟨t, _, h⟩ := mem_blk i
    refine ⟨t, flush0_6 t, ?_⟩
    show i ∈ ((View.whole main_v6_1).slice (win0_6.rect t)).set
    rw [View.set_slice_whole]
    exact h

end Cert.Kernel2Ideal.Proj1

end
-- ==== Proof.Proj1Ref.lean ====
/- Layer 1's input projection: the reference's two arrays, read at one element, and the claim. -/
module

public import proofs.«01_k».proof.Defs
public import proofs.«01_k».proof.Proof.Proj1
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Reference2Ideal.Read
public import Idealize.ShloMosaic.Adequacy
public import Idealize.ShloMosaic.Init

@[expose] public section

set_option maxRecDepth 16384

noncomputable section

namespace Cert.Reference2Ideal.Proj1

open Cert.Reference2Ideal Cert.Reference2Ideal.Gen Cert.Reference2Ideal.Read
open Idealize.ShloMosaic
open Cert.Kernel2Ideal.Proj1 (sg normed proj part outU outG col bat pos)

variable (x0 : Vec Ideal S4x8192x1024 .f32) (x1 : Vec Ideal S1024 .f32) (x2 : Vec Ideal S1024x6144 .f32)

theorem v12_at (b : Fin 4) (i : Fin 8192) (k : Fin 1024) :
    val_main_v12 x0 x1 (ix3 b i k) = normed (fun j => x0 (ix3 b i j)) (fun j => x1 (ix1 j)) k := by
  unfold normed
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem v13_at (b : Fin 4) (i : Fin 8192) (e : Fin 6144) :
    val_main_v13 x0 x1 x2 (ix3 b i e) = proj (fun j => x0 (ix3 b i j)) (fun j => x1 (ix1 j)) (fun k => x2 (ix2 k e)) := by
  rw [val_main_v13_apply]
  refine Finset.sum_congr rfl fun k _ => congrArg₂ (· * ·) ?_ ?_
  · rw [← v12_at]; congr 1; funext a; fin_cases a <;> rfl
  · congr 1; funext a; fin_cases a <;> rfl

theorem v14_at (b : Fin 4) (i : Fin 8192) (e : Fin 2048) : val_main_v14 x0 x1 x2 (ix3 b i e) = val_main_v13 x0 x1 x2 (ix3 b i (col 0 e)) := by
  rw [val_main_v14_apply]
  congr 1; funext a; fin_cases a <;> apply Fin.ext <;> simp [col, ix3]

theorem v15_at (b : Fin 4) (i : Fin 8192) (e : Fin 2048) : val_main_v15 x0 x1 x2 (ix3 b i e) = val_main_v13 x0 x1 x2 (ix3 b i (col 1 e)) := by
  rw [val_main_v15_apply]
  congr 1; funext a; fin_cases a <;> apply Fin.ext <;> simp [col, ix3]

theorem v16_at (b : Fin 4) (i : Fin 8192) (e : Fin 2048) : val_main_v16 x0 x1 x2 (ix3 b i e) = val_main_v13 x0 x1 x2 (ix3 b i (col 2 e)) := by
  rw [val_main_v16_apply]
  congr 1; funext a; fin_cases a <;> apply Fin.ext <;> simp [col, ix3]

theorem v25_at (j : S4x8192x2048.Idx) : val_main_v25 x0 x1 x2 j = val_main_v14 x0 x1 x2 j * sg (val_main_v15 x0 x1 x2 j) := by
  unfold sg
  pointwise [val_main_v25, val_main_v23, val_main_v22, val_main_v21, val_main_v20, val_main_v19, val_main_v18, val_main_v17, val_main_cst_2, val_main_cst_3]

theorem v27_at (j : S4x8192x2048.Idx) : val_main_v27 x0 x1 x2 j = val_main_v16 x0 x1 x2 j * sg (val_main_v16 x0 x1 x2 j) := by
  unfold sg
  pointwise [val_main_v27, val_main_v24, val_main_call0_v5, val_main_call0_v4, val_main_call0_v3, val_main_call0_v2, val_main_call0_v1, val_main_call0_v0, val_main_call0_cst, val_main_call0_cst_0]

theorem rows (r : Fin 32768) (e : Fin 2048) : idx_main_v26 (ix2 r e) = ix3 (bat r) (pos r) e := by
  funext a
  apply Fin.ext
  match a with
  | ⟨0, _⟩ => show (r.val * 2048 + e.val) / 16777216 = r.val / 8192; omega
  | ⟨1, _⟩ => show (r.val * 2048 + e.val) / 2048 % 8192 = r.val % 8192; omega
  | ⟨2, _⟩ => show (r.val * 2048 + e.val) % 2048 = e.val; omega

theorem v26_at (r : Fin 32768) (e : Fin 2048) : val_main_v26 x0 x1 x2 (ix2 r e) = outU x0 x1 x2 (ix2 r e) := by
  rw [val_main_v26_apply, v25_at, rows, v14_at, v15_at, v13_at, v13_at]
  rfl

theorem v28_at (r : Fin 32768) (e : Fin 2048) : val_main_v28 x0 x1 x2 (ix2 r e) = outG x0 x1 x2 (ix2 r e) := by
  rw [val_main_v28_apply, v27_at, show idx_main_v28 (ix2 r e) = _ from rows r e, v16_at, v13_at]
  rfl

theorem pair_eta (j : S32768x2048.Idx) : j = (ix2 (j 0) (j 1) : S32768x2048.Idx) := by
  funext a
  match a with
  | ⟨0, _⟩ => rfl
  | ⟨1, _⟩ => rfl

theorem v26_val : val_main_v26 x0 x1 x2 = outU x0 x1 x2 := by
  funext j
  rw [pair_eta j]
  exact v26_at x0 x1 x2 (j 0) (j 1)

theorem v28_val : val_main_v28 x0 x1 x2 = outG x0 x1 x2 := by
  funext j
  rw [pair_eta j]
  exact v28_at x0 x1 x2 (j 0) (j 1)

end Cert.Reference2Ideal.Proj1

namespace Cert.Proof.Proj1

open Idealize.ShloMosaic Idealize.ShloMosaic.TcCoe Idealize.SL.Sem

theorem frame_kernel : Cert.quiescent_Kernel2 := fun m g _ => Cert.Kernel2.Gen.frame m g

theorem frame_ideal : Cert.quiescent_Kernel2Ideal := fun m g _ => Cert.Kernel2Ideal.Gen.frame m g

theorem frame_reference : Cert.quiescent_Reference2Ideal := fun m g _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m g)

theorem preserves : Cert.preserves_Kernel2_Kernel2Ideal := trivial

open Cert.Kernel2Ideal.Proj1 (outU outG argH argN argW final5 final6) in
theorem algebraic : Cert.algebraic_Kernel2Ideal_Reference2Ideal := by
  intro m g m' g' _ hagree
  refine ⟨fun c => outU (argH m c) (argN m c) (argW m c), fun c => outG (argH m c) (argN m c) (argW m c),
    (θ_run Cert.Kernel2Ideal.defs _ _).mono (fun _ h c => ⟨(h c).1.trans (final5 m c), (h c).2.1.trans (final6 m c), (h c).2.2⟩)
      (Cert.Kernel2Ideal.Value.run_blocks (F := Ideal) m g), ?_⟩
  refine (θ_run Cert.Reference2Ideal.defs _ _).mono (fun _ h c => ⟨(h c).1.trans ?_, (h c).2.1.trans ?_, (h c).2.2⟩)
    (Cert.Reference2Ideal.Value.run (F := Ideal) m' g')
  · rw [Cert.Reference2Ideal.Read.val_main_v26_eq, (hagree c).1, (hagree c).2.1, (hagree c).2.2]
    exact Cert.Reference2Ideal.Proj1.v26_val _ _ _
  · rw [Cert.Reference2Ideal.Read.val_main_v28_eq, (hagree c).1, (hagree c).2.1, (hagree c).2.2]
    exact Cert.Reference2Ideal.Proj1.v28_val _ _ _

end Cert.Proof.Proj1

end
-- ==== Proof.Out0.lean ====
/- Layer 0's output projection: the tile a grid point stores, read at one element. -/
module

public import proofs.«01_k».proof.Proof.Gen.Kernel3Ideal.Value
public import Idealize.ShloMosaic.Lib.Pointwise
public import Idealize.ShloMosaic.Lib.Claim

@[expose] public section

set_option maxRecDepth 16384

noncomputable section

namespace Cert.Kernel3Ideal.Out0

open Cert.Kernel3Ideal Cert.Kernel3Ideal.Gen
open Idealize.ShloMosaic Idealize.ShloMosaic.TcCoe Idealize.SL.Sem

/-- The logistic function. -/
def sg (x : EReal) : EReal := Ideal.div 1 (1 + Ideal.exp (-x))

/-- One element of the residual stream: the two mixers' rows through their halves of the projection, added to the input. -/
def stream (y o : Fin 1024 → EReal) (wy wo : Fin 1024 → EReal) (x : EReal) : EReal :=
  x + (∑ k, y k * wy k + ∑ k, o k * wo k)

theorem pay1_at (y : Vec Ideal S512x1024 .bf16) (wy : Vec Ideal S1024x1024 .bf16) (o : Vec Ideal S512x1024 .bf16) (wo : Vec Ideal S1024x1024 .bf16)
    (x : Vec Ideal S512x1024 .f32) (p : Vec Ideal S512x256 .f32) (pw : Vec Ideal S256x1024 .bf16) (gw : Vec Ideal S1024x1024 .bf16) (r : Fin 512) (e : Fin 1024) :
    k0_pay1 y wy o wo x p pw gw (ix2 r e)
      = stream (fun k => y (ix2 r k)) (fun k => o (ix2 r k)) (fun k => wy (ix2 k e)) (fun k => wo (ix2 k e)) (x (ix2 r e))
        + (∑ k : Fin 256, p (ix2 r k) * pw (ix2 k e))
          * sg (∑ j : Fin 1024, stream (fun k => y (ix2 r k)) (fun k => o (ix2 r k)) (fun k => wy (ix2 k j)) (fun k => wo (ix2 k j)) (x (ix2 r j)) * gw (ix2 j e)) := by
  unfold sg stream
  pointwise [k0_pay1]
  rfl

/-! ## The arrays as the grid finds them -/

variable (m : (ℓ : Loc nD τ sig) → Buf (Elt Ideal) ℓ) (c : Dev nD)

abbrev argY : Vec Ideal S4x8192x1024 .f32 := m ((c : Thread nD τ).loc main_arg0)
abbrev argO : Vec Ideal S4x8192x1024 .f32 := m ((c : Thread nD τ).loc main_arg1)
abbrev argX : Vec Ideal S4x8192x1024 .f32 := m ((c : Thread nD τ).loc main_arg2)
abbrev argP : Vec Ideal S4x8192x256 .f32 := m ((c : Thread nD τ).loc main_arg3)
abbrev argW : Vec Ideal S2048x1024 .f32 := m ((c : Thread nD τ).loc main_arg4)
abbrev argE : Vec Ideal S256x1024 .f32 := m ((c : Thread nD τ).loc main_arg5)
abbrev argG : Vec Ideal S1024x1024 .f32 := m ((c : Thread nD τ).loc main_arg6)

/-- An array rounded to the narrower format, which changes no real number. -/
abbrev narrow {S : Shape} (x : FVec Ideal S .f32) : FVec Ideal S .bf16 := truncf .bf16 x bitsLt_bf16_f32

theorem V_v2 : V m c main_v2 = shapeCast S32768x1024 (narrow (argY m c)) shapeCasts_S4x8192x1024_S32768x1024 := by
  unfold V hostOps0
  after_results
  rfl

theorem V_v4 : V m c main_v4 = shapeCast S32768x1024 (narrow (argO m c)) shapeCasts_S4x8192x1024_S32768x1024 := by
  unfold V hostOps0
  after_results
  rfl

theorem V_v5 : V m c main_v5 = shapeCast S32768x1024 (argX m c) shapeCasts_S4x8192x1024_S32768x1024 := by
  unfold V hostOps0
  after_results
  rfl

theorem V_v6 : V m c main_v6 = shapeCast S32768x256 (argP m c) shapeCasts_S4x8192x256_S32768x256 := by
  unfold V hostOps0
  after_results
  rfl

theorem V_v7 : V m c main_v7 = extractStridedSlice S1024x1024 ![0, 0] (narrow (argW m c)) slices_S2048x1024_S1024x1024_0_0 := by
  unfold V hostOps0
  after_results

theorem V_v8 : V m c main_v8 = extractStridedSlice S1024x1024 ![1024, 0] (narrow (argW m c)) slices_S2048x1024_S1024x1024_1024_0 := by
  unfold V hostOps0
  after_results

theorem V_v9 : V m c main_v9 = narrow (argE m c) := by
  unfold V hostOps0
  after_results

theorem V_v10 : V m c main_v10 = narrow (argG m c) := by
  unfold V hostOps0
  after_results

/-! ## The windows' blocks -/

/-- The grid point's tile of rows. -/
abbrev tile (t : Fin cfg0.N) : Fin 64 := grid0.coords t 0

/-- Row `r` of the point's tile, -/
def row (t : Fin cfg0.N) (r : Fin 512) : Fin 32768 := ⟨512 * (tile t).val + r.val, by omega⟩

/-- its batch and its place there. -/
def bat (i : Fin 32768) : Fin 4 := ⟨i.val / 8192, by omega⟩
def pos (i : Fin 32768) : Fin 8192 := ⟨i.val % 8192, by omega⟩

/-- Row `k` of a mixer's half of the projection. -/
def half (n : Fin 2) (k : Fin 1024) : Fin 2048 := ⟨1024 * n.val + k.val, by omega⟩

theorem tr_row (i : grid0.Coords) : cc0_transform_0 i = ![(i 0).val, 0] := by
  have h0 : (i 0).val < 64 := (i 0).isLt
  unfold cc0_transform_0
  funext a
  fin_cases a <;> simp <;> omega

theorem tr_const (i : grid0.Coords) : cc0_transform_4 i = ![0, 0] := by
  unfold cc0_transform_4
  funext a
  fin_cases a <;> simp

theorem blk_y (t : Fin cfg0.N) (r : Fin 512) (k : Fin 1024) :
    iblk m c 0 t (ix2 r k) = argY m c (ix3 (bat (row t r)) (pos (row t r)) k) := by
  unfold iblk
  rw [View.read_apply]
  show V m c main_v2 _ = _
  rw [V_v2]
  have e : (((cfg0.win 0).blk t).view.emb (ix2 r k : S512x1024.Idx) : S32768x1024.Idx) = ix2 (row t r) k := by
    funext a
    apply Fin.ext
    match a with
    | ⟨0, _⟩ => show cc0_transform_0 (grid0.coords t) 0 * 512 + 1 * r.val = 512 * (grid0.coords t 0).val + r.val; rw [tr_row]; simp; omega
    | ⟨1, _⟩ => show cc0_transform_0 (grid0.coords t) 1 * 1024 + 1 * k.val = k.val; rw [tr_row]; simp
  refine (congrArg _ e).trans ?_
  refine (shapeCast_apply _ _ _ (ix3 (bat (row t r)) (pos (row t r)) k) ?_).trans rfl
  rw [Shape.rowMajor_val_three, Shape.rowMajor_val_two]
  show ((row t r).val / 8192 * 8192 + (row t r).val % 8192) * 1024 + k.val = (row t r).val * 1024 + k.val
  omega

theorem blk_o (t : Fin cfg0.N) (r : Fin 512) (k : Fin 1024) :
    iblk m c 1 t (ix2 r k) = argO m c (ix3 (bat (row t r)) (pos (row t r)) k) := by
  unfold iblk
  rw [View.read_apply]
  show V m c main_v4 _ = _
  rw [V_v4]
  have e : (((cfg0.win 1).blk t).view.emb (ix2 r k : S512x1024.Idx) : S32768x1024.Idx) = ix2 (row t r) k := by
    funext a
    apply Fin.ext
    match a with
    | ⟨0, _⟩ => show cc0_transform_0 (grid0.coords t) 0 * 512 + 1 * r.val = 512 * (grid0.coords t 0).val + r.val; rw [tr_row]; simp; omega
    | ⟨1, _⟩ => show cc0_transform_0 (grid0.coords t) 1 * 1024 + 1 * k.val = k.val; rw [tr_row]; simp
  refine (congrArg _ e).trans ?_
  refine (shapeCast_apply _ _ _ (ix3 (bat (row t r)) (pos (row t r)) k) ?_).trans rfl
  rw [Shape.rowMajor_val_three, Shape.rowMajor_val_two]
  show ((row t r).val / 8192 * 8192 + (row t r).val % 8192) * 1024 + k.val = (row t r).val * 1024 + k.val
  omega

theorem blk_x (t : Fin cfg0.N) (r : Fin 512) (k : Fin 1024) :
    iblk m c 2 t (ix2 r k) = argX m c (ix3 (bat (row t r)) (pos (row t r)) k) := by
  unfold iblk
  rw [View.read_apply]
  show V m c main_v5 _ = _
  rw [V_v5]
  have e : (((cfg0.win 2).blk t).view.emb (ix2 r k : S512x1024.Idx) : S32768x1024.Idx) = ix2 (row t r) k := by
    funext a
    apply Fin.ext
    match a with
    | ⟨0, _⟩ => show cc0_transform_0 (grid0.coords t) 0 * 512 + 1 * r.val = 512 * (grid0.coords t 0).val + r.val; rw [tr_row]; simp; omega
    | ⟨1, _⟩ => show cc0_transform_0 (grid0.coords t) 1 * 1024 + 1 * k.val = k.val; rw [tr_row]; simp
  refine (congrArg _ e).trans ?_
  refine (shapeCast_apply _ _ _ (ix3 (bat (row t r)) (pos (row t r)) k) ?_).trans rfl
  rw [Shape.rowMajor_val_three, Shape.rowMajor_val_two]
  show ((row t r).val / 8192 * 8192 + (row t r).val % 8192) * 1024 + k.val = (row t r).val * 1024 + k.val
  omega

theorem blk_p (t : Fin cfg0.N) (r : Fin 512) (k : Fin 256) :
    iblk m c 3 t (ix2 r k) = argP m c (ix3 (bat (row t r)) (pos (row t r)) k) := by
  unfold iblk
  rw [View.read_apply]
  show V m c main_v6 _ = _
  rw [V_v6]
  have e : (((cfg0.win 3).blk t).view.emb (ix2 r k : S512x256.Idx) : S32768x256.Idx) = ix2 (row t r) k := by
    funext a
    apply Fin.ext
    match a with
    | ⟨0, _⟩ => show cc0_transform_0 (grid0.coords t) 0 * 512 + 1 * r.val = 512 * (grid0.coords t 0).val + r.val; rw [tr_row]; simp; omega
    | ⟨1, _⟩ => show cc0_transform_0 (grid0.coords t) 1 * 256 + 1 * k.val = k.val; rw [tr_row]; simp
  refine (congrArg _ e).trans ?_
  refine (shapeCast_apply _ _ _ (ix3 (bat (row t r)) (pos (row t r)) k) ?_).trans rfl
  rw [Shape.rowMajor_val_three, Shape.rowMajor_val_two]
  show ((row t r).val / 8192 * 8192 + (row t r).val % 8192) * 256 + k.val = (row t r).val * 256 + k.val
  omega

theorem emb_w (t : Fin cfg0.N) (k : Fin 1024) (e : Fin 1024) :
    (((cfg0.win 4).blk t).view.emb (ix2 k e : S1024x1024.Idx) : S1024x1024.Idx) = ix2 k e := by
  funext a
  apply Fin.ext
  match a with
  | ⟨0, _⟩ => show cc0_transform_4 (grid0.coords t) 0 * 1024 + 1 * k.val = k.val; rw [tr_const]; simp
  | ⟨1, _⟩ => show cc0_transform_4 (grid0.coords t) 1 * 1024 + 1 * e.val = e.val; rw [tr_const]; simp

theorem emb_e (t : Fin cfg0.N) (k : Fin 256) (e : Fin 1024) :
    (((cfg0.win 6).blk t).view.emb (ix2 k e : S256x1024.Idx) : S256x1024.Idx) = ix2 k e := by
  funext a
  apply Fin.ext
  match a with
  | ⟨0, _⟩ => show cc0_transform_4 (grid0.coords t) 0 * 256 + 1 * k.val = k.val; rw [tr_const]; simp
  | ⟨1, _⟩ => show cc0_transform_4 (grid0.coords t) 1 * 1024 + 1 * e.val = e.val; rw [tr_const]; simp

theorem blk_wy (t : Fin cfg0.N) (k : Fin 1024) (e : Fin 1024) : iblk m c 4 t (ix2 k e) = argW m c (ix2 (half 0 k) e) := by
  unfold iblk
  rw [View.read_apply]
  show V m c main_v7 _ = _
  rw [V_v7]
  refine (congrArg _ (emb_w t k e)).trans ?_
  refine (extractStridedSlice_apply _ _ _ _ (ix2 (half 0 k) e) fun a => ?_).trans rfl
  match a with
  | ⟨0, _⟩ => show 1024 * 0 + k.val = 0 + k.val; omega
  | ⟨1, _⟩ => show e.val = 0 + e.val; omega

theorem blk_wo (t : Fin cfg0.N) (k : Fin 1024) (e : Fin 1024) : iblk m c 5 t (ix2 k e) = argW m c (ix2 (half 1 k) e) := by
  unfold iblk
  rw [View.read_apply]
  show V m c main_v8 _ = _
  rw [V_v8]
  refine (congrArg _ (emb_w t k e)).trans ?_
  refine (extractStridedSlice_apply _ _ _ _ (ix2 (half 1 k) e) fun a => ?_).trans rfl
  match a with
  | ⟨0, _⟩ => show 1024 * 1 + k.val = 1024 + k.val; omega
  | ⟨1, _⟩ => show e.val = 0 + e.val; omega

theorem blk_e (t : Fin cfg0.N) (k : Fin 256) (e : Fin 1024) : iblk m c 6 t (ix2 k e) = argE m c (ix2 k e) := by
  unfold iblk
  rw [View.read_apply]
  show V m c main_v9 _ = _
  rw [V_v9]
  exact congrArg (argE m c) (emb_e t k e)

theorem blk_g (t : Fin cfg0.N) (k : Fin 1024) (e : Fin 1024) : iblk m c 7 t (ix2 k e) = argG m c (ix2 k e) := by
  unfold iblk
  rw [View.read_apply]
  show V m c main_v10 _ = _
  rw [V_v10]
  exact congrArg (argG m c) (emb_w t k e)

/-! ## The array the grid leaves -/

/-- One element of the residual stream after the projection, -/
def mid (y o x : Vec Ideal S4x8192x1024 .f32) (w : Vec Ideal S2048x1024 .f32) (i : Fin 32768) (e : Fin 1024) : EReal :=
  stream (fun k => y (ix3 (bat i) (pos i) k)) (fun k => o (ix3 (bat i) (pos i) k)) (fun k => w (ix2 (half 0 k) e)) (fun k => w (ix2 (half 1 k) e)) (x (ix3 (bat i) (pos i) e))

/-- and with the gated embedding added. -/
def outH (y o x : Vec Ideal S4x8192x1024 .f32) (p : Vec Ideal S4x8192x256 .f32) (w : Vec Ideal S2048x1024 .f32) (pw : Vec Ideal S256x1024 .f32) (gw : Vec Ideal S1024x1024 .f32) :
    Vec Ideal S32768x1024 .f32 :=
  fun i => mid y o x w (i 0) (i 1)
    + (∑ k : Fin 256, p (ix3 (bat (i 0)) (pos (i 0)) k) * pw (ix2 k (i 1))) * sg (∑ j : Fin 1024, mid y o x w (i 0) j * gw (ix2 j (i 1)))

abbrev goal : Vec Ideal S32768x1024 .f32 := outH (argY m c) (argO m c) (argX m c) (argP m c) (argW m c) (argE m c) (argG m c)

theorem zero2 : (![0, 0] : Fin 2 → Nat) = fun _ => 0 := funext fun a => by fin_cases a <;> rfl

/-- What a grid point's body leaves in the output's block. -/
abbrev outAt (t : Fin cfg0.N) : Vec Ideal S512x1024 .f32 :=
  out0_8 (iblk m c 0 t) (iblk m c 1 t) (iblk m c 2 t) (iblk m c 3 t) (iblk m c 4 t) (iblk m c 5 t) (iblk m c 6 t) (iblk m c 7 t)

theorem out8_at (t : Fin cfg0.N) (r : Fin 512) (e : Fin 1024) : outAt m c t (ix2 r e) = goal m c (ix2 (row t r) e) := by
  unfold outAt out0_8
  rw [View.canon_unit_zero zero2, View.ld_unit_zero (S := S512x1024) zero2, View.ld_unit_zero (S := S1024x1024) zero2, View.ld_unit_zero (S := S512x1024) zero2, View.ld_unit_zero (S := S1024x1024) zero2, View.ld_unit_zero (S := S512x1024) zero2, View.ld_unit_zero (S := S512x256) zero2, View.ld_unit_zero (S := S256x1024) zero2, View.ld_unit_zero (S := S1024x1024) zero2]
  refine (pay1_at _ _ _ _ _ _ _ _ r e).trans ?_
  simp only [blk_y, blk_o, blk_x, blk_p, blk_wy, blk_wo, blk_e, blk_g]
  rfl

/-- Where an element of a point's block lies in the array. -/
theorem emb_out (t : Fin cfg0.N) (j : S512x1024.Idx) : (((cfg0.win 8).blk t).view.emb j : S32768x1024.Idx) = ix2 (row t (j 0)) (j 1) := by
  funext a
  apply Fin.ext
  match a with
  | ⟨0, _⟩ => show cc0_transform_0 (grid0.coords t) 0 * 512 + 1 * (j 0).val = 512 * (grid0.coords t 0).val + (j 0).val; rw [tr_row]; simp; omega
  | ⟨1, _⟩ => show cc0_transform_0 (grid0.coords t) 1 * 1024 + 1 * (j 1).val = (j 1).val; rw [tr_row]; simp

theorem pair_eta (j : S512x1024.Idx) : j = (ix2 (j 0) (j 1) : S512x1024.Idx) := by
  funext a
  match a with
  | ⟨0, _⟩ => rfl
  | ⟨1, _⟩ => rfl

theorem flushed8_eq (t : Fin cfg0.N) : (dats m 0 c).flushed 8 t = ((cfg0.win 8).blk t).view.read (Elt Ideal) (goal m c) := by
  rw [Value.flushed8]
  funext j
  rw [View.read_apply, emb_out t j]
  refine Eq.trans ?_ (out8_at m c t (j 0) (j 1))
  exact congrArg (outAt m c t) (pair_eta j)

/-- The grid point of a tile. -/
def point (n : Fin 64) : Fin cfg0.N := ⟨n.val, by rw [show cfg0.N = 64 from N_0]; omega⟩

theorem point_coords : ∀ n : Fin 64, tile (point n) = n := by decide +kernel

/-- Every element lies in some point's block. -/
theorem mem_blk (i : S32768x1024.Idx) : ∃ t : Fin cfg0.N, i ∈ (win0_8.rect t).set := by
  have h0 : (i 0).val < 32768 := (i 0).isLt
  have h1 : (i 1).val < 1024 := (i 1).isLt
  have e0 := congrArg Fin.val (point_coords ⟨(i 0).val / 512, by omega⟩)
  generalize point ⟨(i 0).val / 512, by omega⟩ = t at e0
  refine ⟨t, (Rect.mem_set_unit ..).mpr fun a => ?_⟩
  match a with
  | ⟨0, _⟩ =>
    show cc0_transform_0 (grid0.coords t) 0 * 512 ≤ (i 0).val ∧ (i 0).val < cc0_transform_0 (grid0.coords t) 0 * 512 + 512
    rw [tr_row, show (![(grid0.coords t 0).val, 0] : Fin 2 → ℕ) 0 = (i 0).val / 512 from e0]
    omega
  | ⟨1, _⟩ =>
    show cc0_transform_0 (grid0.coords t) 1 * 1024 ≤ (i 1).val ∧ (i 1).val < cc0_transform_0 (grid0.coords t) 1 * 1024 + 1024
    rw [tr_row, show (![(grid0.coords t 0).val, 0] : Fin 2 → ℕ) 1 = 0 from rfl]
    omega

theorem final8 : (dats m 0 c).arrAt 8 cfg0.N = goal m c :=
  (dats m 0 c).arrAt_eq_of_cover 8 _ (fun t _ => flushed8_eq m c t) fun i => by
    obtain ⟨t, h⟩ := mem_blk i
    refine ⟨t, flush0_8 t, ?_⟩
    show i ∈ ((View.whole main_v11).slice (win0_8.rect t)).set
    rw [View.set_slice_whole]
    exact h

end Cert.Kernel3Ideal.Out0

end
-- ==== Proof.Out0Ref.lean ====
/- Layer 0's output projection: the reference's array, read at one element, and the claim. -/
module

public import proofs.«01_k».proof.Defs
public import proofs.«01_k».proof.Proof.Out0
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Reference3Ideal.Read
public import Idealize.ShloMosaic.Adequacy
public import Idealize.ShloMosaic.Init

@[expose] public section

set_option maxRecDepth 16384

noncomputable section

namespace Cert.Reference3Ideal.Out0

open Cert.Reference3Ideal Cert.Reference3Ideal.Gen Cert.Reference3Ideal.Read
open Idealize.ShloMosaic
open Cert.Kernel3Ideal.Out0 (sg stream mid outH half bat pos)

variable (x0 x1 x2 : Vec Ideal S4x8192x1024 .f32) (x3 : Vec Ideal S4x8192x256 .f32) (x4 : Vec Ideal S2048x1024 .f32) (x5 : Vec Ideal S256x1024 .f32) (x6 : Vec Ideal S1024x1024 .f32)

theorem v0_left (b : Fin 4) (i : Fin 8192) (k : Fin 1024) : val_main_v0 x0 x1 (ix3 b i (half 0 k)) = x0 (ix3 b i k) := by
  unfold val_main_v0
  refine concatenate_pair_apply_left (t := S4x8192x2048) (s₁ := S4x8192x1024) (s₂ := S4x8192x1024) 2 x0 x1 concatenates_S4x8192x1024_S4x8192x1024_S4x8192x2048_d2 (ix3 b i (half 0 k)) rfl (ix3 b i k) fun a => ?_
  match a with
  | ⟨0, _⟩ => rfl
  | ⟨1, _⟩ => rfl
  | ⟨2, _⟩ => show k.val = 1024 * 0 + k.val; omega

theorem v0_right (b : Fin 4) (i : Fin 8192) (k : Fin 1024) : val_main_v0 x0 x1 (ix3 b i (half 1 k)) = x1 (ix3 b i k) := by
  unfold val_main_v0
  refine concatenate_pair_apply_right (t := S4x8192x2048) (s₁ := S4x8192x1024) (s₂ := S4x8192x1024) 2 x0 x1 concatenates_S4x8192x1024_S4x8192x1024_S4x8192x2048_d2 (ix3 b i (half 1 k)) rfl rfl (ix3 b i k) (fun a ha => ?_) ?_
  · match a with
    | ⟨0, _⟩ => rfl
    | ⟨1, _⟩ => rfl
    | ⟨2, _⟩ => exact absurd rfl ha
  · show k.val + 1024 = 1024 * 1 + k.val; omega

/-- A sum over the joined rows is the sum over each half. -/
theorem sum_halves (f : Fin 2048 → EReal) : ∑ k, f k = ∑ k : Fin 1024, f (half 0 k) + ∑ k : Fin 1024, f (half 1 k) := by
  refine (Fin.sum_univ_add (a := 1024) (b := 1024) f).trans (congrArg₂ (· + ·) ?_ ?_)
  · refine Finset.sum_congr rfl fun k _ => congrArg f (Fin.ext ?_)
    show k.val = 1024 * 0 + k.val; omega
  · refine Finset.sum_congr rfl fun k _ => congrArg f (Fin.ext ?_)
    show 1024 + k.val = 1024 * 1 + k.val; omega

theorem v1_at (b : Fin 4) (i : Fin 8192) (e : Fin 1024) :
    val_main_v1 x0 x1 x4 (ix3 b i e) = ∑ k : Fin 1024, x0 (ix3 b i k) * x4 (ix2 (half 0 k) e) + ∑ k : Fin 1024, x1 (ix3 b i k) * x4 (ix2 (half 1 k) e) := by
  have h : val_main_v1 x0 x1 x4 (ix3 b i e) = ∑ k : Fin 2048, val_main_v0 x0 x1 (ix3 b i k) * x4 (ix2 k e) := by
    rw [val_main_v1_apply]
    refine Finset.sum_congr rfl fun k _ => congrArg₂ (· * ·) ?_ ?_
    · congr 1; funext a; fin_cases a <;> rfl
    · congr 1; funext a; fin_cases a <;> rfl
  rw [h, sum_halves]
  simp only [v0_left, v0_right]

theorem v2_at (b : Fin 4) (i : Fin 8192) (e : Fin 1024) :
    val_main_v2 x0 x1 x2 x4 (ix3 b i e) = stream (fun k => x0 (ix3 b i k)) (fun k => x1 (ix3 b i k)) (fun k => x4 (ix2 (half 0 k) e)) (fun k => x4 (ix2 (half 1 k) e)) (x2 (ix3 b i e)) := by
  rw [val_main_v2_apply, v1_at]
  rfl

theorem v3_at (b : Fin 4) (i : Fin 8192) (e : Fin 1024) : val_main_v3 x3 x5 (ix3 b i e) = ∑ k : Fin 256, x3 (ix3 b i k) * x5 (ix2 k e) := by
  rw [val_main_v3_apply]
  refine Finset.sum_congr rfl fun k _ => congrArg₂ (· * ·) ?_ ?_
  · congr 1; funext a; fin_cases a <;> rfl
  · congr 1; funext a; fin_cases a <;> rfl

theorem v4_at (b : Fin 4) (i : Fin 8192) (e : Fin 1024) : val_main_v4 x0 x1 x2 x4 x6 (ix3 b i e) = ∑ k : Fin 1024, val_main_v2 x0 x1 x2 x4 (ix3 b i k) * x6 (ix2 k e) := by
  rw [val_main_v4_apply]
  refine Finset.sum_congr rfl fun k _ => congrArg₂ (· * ·) ?_ ?_
  · congr 1; funext a; fin_cases a <;> rfl
  · congr 1; funext a; fin_cases a <;> rfl

theorem v12_at (j : S4x8192x1024.Idx) :
    val_main_v12 x0 x1 x2 x3 x4 x5 x6 j = val_main_v2 x0 x1 x2 x4 j + val_main_v3 x3 x5 j * sg (val_main_v4 x0 x1 x2 x4 x6 j) := by
  unfold sg
  pointwise [val_main_v12, val_main_v11, val_main_v10, val_main_v9, val_main_v8, val_main_v7, val_main_v6, val_main_v5, val_main_cst, val_main_cst_0]

theorem rows (r : Fin 32768) (e : Fin 1024) : idx_main_v13 (ix2 r e) = ix3 (bat r) (pos r) e := by
  funext a
  apply Fin.ext
  match a with
  | ⟨0, _⟩ => show (r.val * 1024 + e.val) / 8388608 = r.val / 8192; omega
  | ⟨1, _⟩ => show (r.val * 1024 + e.val) / 1024 % 8192 = r.val % 8192; omega
  | ⟨2, _⟩ => show (r.val * 1024 + e.val) % 1024 = e.val; omega

theorem v13_at (r : Fin 32768) (e : Fin 1024) : val_main_v13 x0 x1 x2 x3 x4 x5 x6 (ix2 r e) = outH x0 x1 x2 x3 x4 x5 x6 (ix2 r e) := by
  rw [val_main_v13_apply, v12_at, rows, v3_at, v4_at]
  simp only [v2_at]
  rfl

theorem pair_eta (j : S32768x1024.Idx) : j = (ix2 (j 0) (j 1) : S32768x1024.Idx) := by
  funext a
  match a with
  | ⟨0, _⟩ => rfl
  | ⟨1, _⟩ => rfl

theorem v13_val : val_main_v13 x0 x1 x2 x3 x4 x5 x6 = outH x0 x1 x2 x3 x4 x5 x6 := by
  funext j
  rw [pair_eta j]
  exact v13_at x0 x1 x2 x3 x4 x5 x6 (j 0) (j 1)

end Cert.Reference3Ideal.Out0

namespace Cert.Proof.Out0

open Idealize.ShloMosaic Idealize.ShloMosaic.TcCoe Idealize.SL.Sem

theorem frame_kernel : Cert.quiescent_Kernel3 := fun m g _ => Cert.Kernel3.Gen.frame m g

theorem frame_ideal : Cert.quiescent_Kernel3Ideal := fun m g _ => Cert.Kernel3Ideal.Gen.frame m g

theorem frame_reference : Cert.quiescent_Reference3Ideal := fun m g _ =>
  (θ_run Cert.Reference3Ideal.defs _ _).mono (fun r h => ⟨fun c => (h c).2,
      Idealize.ShloMosaic.sem_eq_zero_of_no_sems (by decide) r.2⟩)
    (Cert.Reference3Ideal.Value.run (F := Ideal) m g)

theorem preserves : Cert.preserves_Kernel3_Kernel3Ideal := trivial

open Cert.Kernel3Ideal.Out0 (goal final8) in
theorem algebraic : Cert.algebraic_Kernel3Ideal_Reference3Ideal := by
  intro m g m' g' _ hagree
  refine ⟨fun c => goal m c,
    (θ_run Cert.Kernel3Ideal.defs _ _).mono (fun _ h c => ⟨(h c).1.trans (final8 m c), (h c).2⟩)
      (Cert.Kernel3Ideal.Value.run_blocks (F := Ideal) m g), ?_⟩
  refine (θ_run Cert.Reference3Ideal.defs _ _).mono (fun _ h c => ⟨(h c).1.trans ?_, (h c).2⟩)
    (Cert.Reference3Ideal.Value.run (F := Ideal) m' g')
  rw [Cert.Reference3Ideal.Read.val_main_v13_eq, (hagree c).1, (hagree c).2.1, (hagree c).2.2.1, (hagree c).2.2.2.1, (hagree c).2.2.2.2.1, (hagree c).2.2.2.2.2.1, (hagree c).2.2.2.2.2.2]
  exact Cert.Reference3Ideal.Out0.v13_val _ _ _ _ _ _ _

end Cert.Proof.Out0

end
-- ==== Proof.Proj0Pay.lean ====
/- Layer 0's input projection: the values a grid point stores, read at one element. -/
module

public import proofs.«01_k».proof.Proof.Gen.Kernel4Ideal.Skeleton
public import proofs.«01_k».proof.Proof.Proj1
public import Idealize.ShloMosaic.Lib.Pointwise
public import Idealize.ShloMosaic.Lib.KernelVsHost

@[expose] public section

set_option maxRecDepth 16384

noncomputable section

namespace Cert.Kernel4Ideal.Proj0

open Cert.Kernel4Ideal Cert.Kernel4Ideal.Gen
open Idealize.ShloMosaic Idealize.ShloMosaic.TcCoe Idealize.SL.Sem
open Cert.Kernel2Ideal.Proj1 (sg normed proj)

theorem pay3_at (x : Vec Ideal S512x1024 .f32) (w : Vec Ideal S1x1024 .f32) (r : Fin 512) (k : Fin 1024) :
    k0_pay3 x w (ix2 r k) = normed (fun j => x (ix2 r j)) (fun j => w (ix2 0 j)) k := by
  unfold normed
  pointwise [k0_pay3]

theorem pay4_at (x : Vec Ideal S512x1024 .f32) (w : Vec Ideal S1x1024 .f32) (a : Vec Ideal S1024x1024 .bf16) (r : Fin 512) (e : Fin 1024) :
    k0_pay4 x w a (ix2 r e) = proj (fun j => x (ix2 r j)) (fun j => w (ix2 0 j)) (fun k => a (ix2 k e))
      * sg (proj (fun j => x (ix2 r j)) (fun j => w (ix2 0 j)) (fun k => a (ix2 k e))) := by
  unfold sg proj
  simp only [← pay3_at]
  pointwise [k0_pay4]
  rfl

theorem pay5_at (x : Vec Ideal S512x1024 .f32) (w : Vec Ideal S1x1024 .f32) (a : Vec Ideal S1024x1536 .bf16) (r : Fin 512) (e : Fin 1536) :
    k0_pay5 x w a (ix2 r e) = proj (fun j => x (ix2 r j)) (fun j => w (ix2 0 j)) (fun k => a (ix2 k e)) := by
  unfold proj
  simp only [← pay3_at]
  pointwise [k0_pay5]

theorem pay6_at (x : Vec Ideal S512x1024 .f32) (w : Vec Ideal S1x1024 .f32) (a : Vec Ideal S1024x128 .bf16) (r : Fin 512) (e : Fin 128) :
    k0_pay6 x w a (ix2 r e) = proj (fun j => x (ix2 r j)) (fun j => w (ix2 0 j)) (fun k => a (ix2 k e)) := by
  unfold proj
  simp only [← pay3_at]
  pointwise [k0_pay6]

theorem pay7_at (x : Vec Ideal S512x1024 .f32) (w : Vec Ideal S1x1024 .f32) (a : Vec Ideal S1024x1024 .bf16) (r : Fin 512) (e : Fin 1024) :
    k0_pay7 (k0_pay3 x w) a (ix2 r e) = proj (fun j => x (ix2 r j)) (fun j => w (ix2 0 j)) (fun k => a (ix2 k e)) := by
  unfold proj
  simp only [← pay3_at]
  pointwise [k0_pay7]

theorem pay8_at (x : Vec Ideal S512x1024 .f32) (w : Vec Ideal S1x1024 .f32) (a : Vec Ideal S1024x1024 .bf16) (r : Fin 512) (e : Fin 1024) :
    k0_pay8 (k0_pay3 x w) a (ix2 r e) = proj (fun j => x (ix2 r j)) (fun j => w (ix2 0 j)) (fun k => a (ix2 k e))
      * sg (proj (fun j => x (ix2 r j)) (fun j => w (ix2 0 j)) (fun k => a (ix2 k e))) := by
  unfold sg proj
  simp only [← pay3_at]
  pointwise [k0_pay8]
  rfl

/-- The tables are laid side by side once per head. -/
theorem tile_at (x : Vec Ideal S512x128 .f32) (r : Fin 512) (e : Fin 1024) :
    k0_pay9 x (ix2 r e) = x (ix2 r ⟨e.val % 128, Nat.mod_lt _ (by decide)⟩) := by
  have hx : shapeCast S512x128 x shapeCasts_S512x128_S512x128 = x := by
    funext j
    exact shapeCast_apply _ _ _ _ rfl
  unfold k0_pay9
  rw [hx]
  refine concatenate_replicate_apply (t := S512x1024) (s₁ := S512x128) 1 8 x concatenates_S512x128_S512x128_S512x128_S512x128_S512x128_S512x128_S512x128_S512x128_S512x1024_d1 rfl (ix2 r e) (ix2 r ⟨e.val % 128, Nat.mod_lt _ (by decide)⟩) rfl fun b hb => ?_
  match b, hb with
  | ⟨0, _⟩, _ => rfl
  | ⟨1, _⟩, hb => exact absurd rfl hb

/-- Whether a column lies in the first half of its head's part. -/
theorem first_at : ∀ e : Fin 1024, k0_pay11 (ix2 0 e) = if e.val % 64 < 32 then 1#1 else 0#1 := by
  decide +kernel

/-- The lanes turned by 32 to the left, -/
theorem left_at (t : FVec Ideal S512x1024 .f32) (r : Fin 512) (e : Fin 1024) (h : e.val % 64 < 32) :
    dynamicRotate 1 992#32 none t rotates_S512x1024_d1 (ix2 r e) = t (ix2 r ⟨e.val + 32, by omega⟩) := by
  refine dynamicRotate_apply 1 992#32 t rotates_S512x1024_d1 (ix2 r e) (ix2 r ⟨e.val + 32, by omega⟩) fun b => ?_
  match b with
  | ⟨0, _⟩ => rfl
  | ⟨1, _⟩ => show e.val + 32 = (e.val + 1024 - 992 % 1024) % 1024; omega

/-- and to the right. -/
theorem right_at (t : FVec Ideal S512x1024 .f32) (r : Fin 512) (e : Fin 1024) (h : ¬ e.val % 64 < 32) :
    dynamicRotate 1 32#32 none t rotates_S512x1024_d1 (ix2 r e) = t (ix2 r ⟨e.val - 32, by omega⟩) := by
  refine dynamicRotate_apply 1 32#32 t rotates_S512x1024_d1 (ix2 r e) (ix2 r ⟨e.val - 32, by omega⟩) fun b => ?_
  match b with
  | ⟨0, _⟩ => rfl
  | ⟨1, _⟩ => show e.val - 32 = (e.val + 1024 - 32 % 1024) % 1024; omega

/-- The other half's column that a column is turned with. -/
def mate (e : Fin 1024) : Fin 1024 :=
  if h : e.val % 64 < 32 then ⟨e.val + 32, by omega⟩ else ⟨e.val - 32, by omega⟩

theorem turn_at (t : FVec Ideal S512x1024 .f32) (r : Fin 512) (e : Fin 1024) :
    select (broadcastTo S512x1024 (shapeCast S1x1024 k0_pay11 shapeCasts_S1x1024_S1x1024) broadcasts_S1x1024_S512x1024)
      (dynamicRotate 1 992#32 none t rotates_S512x1024_d1) (dynamicRotate 1 32#32 none t rotates_S512x1024_d1) (ix2 r e) = t (ix2 r (mate e)) := by
  have hf : broadcastTo S512x1024 (shapeCast S1x1024 k0_pay11 shapeCasts_S1x1024_S1x1024) broadcasts_S1x1024_S512x1024 (ix2 r e)
      = if e.val % 64 < 32 then 1#1 else 0#1 := by
    rw [← first_at]
    have : shapeCast S1x1024 k0_pay11 shapeCasts_S1x1024_S1x1024 = k0_pay11 := by
      funext j
      exact shapeCast_apply _ _ _ _ rfl
    rw [this]
    pointwise []
  show Scalar.select (broadcastTo S512x1024 (shapeCast S1x1024 k0_pay11 shapeCasts_S1x1024_S1x1024) broadcasts_S1x1024_S512x1024 (ix2 r e))
    (dynamicRotate 1 992#32 none t rotates_S512x1024_d1 (ix2 r e)) (dynamicRotate 1 32#32 none t rotates_S512x1024_d1 (ix2 r e)) = _
  rw [hf]
  unfold mate
  by_cases h : e.val % 64 < 32
  · rw [if_pos h, dif_pos h, left_at t r e h]
    rfl
  · rw [if_neg h, dif_neg h, right_at t r e h]
    rfl

theorem pay1_at (x : Vec Ideal S512x1024 .f32) (w : Vec Ideal S1x1024 .f32) (cs sn : Vec Ideal S512x128 .f32) (a : Vec Ideal S1024x1024 .bf16) (r : Fin 512) (e : Fin 1024) :
    k0_pay1 (k0_pay3 x w) (k0_pay9 cs) (k0_pay10 sn) k0_pay11 a (ix2 r e)
      = proj (fun j => x (ix2 r j)) (fun j => w (ix2 0 j)) (fun k => a (ix2 k e)) * cs (ix2 r ⟨e.val % 128, Nat.mod_lt _ (by decide)⟩)
        + proj (fun j => x (ix2 r j)) (fun j => w (ix2 0 j)) (fun k => a (ix2 k (mate e))) * sn (ix2 r ⟨e.val % 128, Nat.mod_lt _ (by decide)⟩) := by
  rw [← pay7_at, ← pay7_at, ← tile_at cs r e, ← tile_at sn r e, ← turn_at (k0_pay7 (k0_pay3 x w) a)]
  rfl

theorem pay2_at (x : Vec Ideal S512x1024 .f32) (w : Vec Ideal S1x1024 .f32) (cs sn : Vec Ideal S512x128 .f32) (a : Vec Ideal S1024x1024 .bf16) (r : Fin 512) (e : Fin 1024) :
    k0_pay2 (k0_pay3 x w) (k0_pay9 cs) (k0_pay10 sn) k0_pay11 a (ix2 r e)
      = proj (fun j => x (ix2 r j)) (fun j => w (ix2 0 j)) (fun k => a (ix2 k e)) * cs (ix2 r ⟨e.val % 128, Nat.mod_lt _ (by decide)⟩)
        + proj (fun j => x (ix2 r j)) (fun j => w (ix2 0 j)) (fun k => a (ix2 k (mate e))) * sn (ix2 r ⟨e.val % 128, Nat.mod_lt _ (by decide)⟩) :=
  pay1_at x w cs sn a r e

end Cert.Kernel4Ideal.Proj0

end
-- ==== Proof.Proj0Win.lean ====
/- Layer 0's input projection: the windows' blocks, read at one element. -/
module

public import proofs.«01_k».proof.Proof.Gen.Kernel4Ideal.Value
public import proofs.«01_k».proof.Proof.Proj0Pay
public import Idealize.ShloMosaic.Lib.Claim

@[expose] public section

set_option maxRecDepth 16384

noncomputable section

namespace Cert.Kernel4Ideal.Proj0

open Cert.Kernel4Ideal Cert.Kernel4Ideal.Gen
open Idealize.ShloMosaic Idealize.ShloMosaic.TcCoe Idealize.SL.Sem
open Cert.Kernel2Ideal.Proj1 (sg normed proj bat pos)

/-! ## The tables of cosines and sines -/

/-- The angle of a position and a frequency. -/
def angle : FVec Ideal S8192x32 .f32 :=
  mulf
    (broadcastInDim S8192x32 ![0, 1] bcast_S8192x1_S8192x32_0_1 (broadcastInDim S8192x1 ![0] bcast_S8192_S8192x1_0 (sitofp .f32 (iotaInDim S8192 32 0) : FVec Ideal S8192 .f32)))
    (broadcastInDim S8192x32 ![0, 1] bcast_S1x32_S8192x32_0_1 (broadcastInDim S1x32 ![1] bcast_S32_S1x32_1
      (Host.powf (broadcastInDim S32 ![] bcast_S_S32 (constant S_ .f32 0x461C4000#32 : FVec Ideal S_ .f32))
        (Host.divf
          (Host.negf (addf (broadcastInDim S32 ![] bcast_S_S32 (constant S_ .f32 0x00000000#32 : FVec Ideal S_ .f32))
            (mulf (broadcastInDim S32 ![] bcast_S_S32 (constant S_ .f32 0x40000000#32 : FVec Ideal S_ .f32)) (sitofp .f32 (iotaInDim S32 32 0)))))
          (broadcastInDim S32 ![] bcast_S_S32 (constant S_ .f32 0x42800000#32 : FVec Ideal S_ .f32))))))

def cosV : FVec Ideal S8192x32 .f32 := Host.cos angle
def sinV : FVec Ideal S8192x32 .f32 := Host.sin angle

/-- Two halves side by side, the pair of them twice. -/
def tab (a b : FVec Ideal S8192x32 .f32) : FVec Ideal S8192x128 .f32 :=
  shapeCast S8192x128
    (broadcastInDim S1x8192x2x64 ![0, 1, 2, 3] bcast_S1x8192x1x64_S1x8192x2x64_0_1_2_3
      (shapeCast S1x8192x1x64 (concatenate S8192x64 1 [⟨S8192x32, a⟩, ⟨S8192x32, b⟩] concatenates_S8192x32_S8192x32_S8192x64_d1) shapeCasts_S8192x64_S1x8192x1x64))
    shapeCasts_S1x8192x2x64_S8192x128

theorem tab_mid (a b : FVec Ideal S8192x32 .f32) (p : Fin 8192) (l : Fin 128) :
    tab a b (ix2 p l) = concatenate S8192x64 1 [⟨S8192x32, a⟩, ⟨S8192x32, b⟩] concatenates_S8192x32_S8192x32_S8192x64_d1 (ix2 p ⟨l.val % 64, Nat.mod_lt _ (by decide)⟩) := by
  unfold tab
  refine (shapeCast_apply _ _ _ (ix4 0 p ⟨l.val / 64, by omega⟩ ⟨l.val % 64, Nat.mod_lt _ (by decide)⟩ : S1x8192x2x64.Idx) ?_).trans ?_
  · rw [Shape.rowMajor_val_four, Shape.rowMajor_val_two]
    show ((0 * 8192 + p.val) * 2 + l.val / 64) * 64 + l.val % 64 = p.val * 128 + l.val
    omega
  refine (broadcastInDim_apply _ _ _ _ (ix4 0 p 0 ⟨l.val % 64, Nat.mod_lt _ (by decide)⟩ : S1x8192x1x64.Idx) fun a => ?_).trans ?_
  · match a with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_two]
  show p.val * 64 + l.val % 64 = ((0 * 8192 + p.val) * 1 + 0) * 64 + l.val % 64
  omega

theorem tab_left (a b : FVec Ideal S8192x32 .f32) (p : Fin 8192) (l : Fin 128) (h : l.val % 64 < 32) : tab a b (ix2 p l) = a (ix2 p ⟨l.val % 64, h⟩) := by
  rw [tab_mid]
  refine concatenate_pair_apply_left (t := S8192x64) (s₁ := S8192x32) (s₂ := S8192x32) 1 a b concatenates_S8192x32_S8192x32_S8192x64_d1 (ix2 p ⟨l.val % 64, Nat.mod_lt _ (by decide)⟩) rfl (ix2 p ⟨l.val % 64, h⟩) fun a => ?_
  match a with
  | ⟨0, _⟩ => rfl
  | ⟨1, _⟩ => rfl

theorem tab_right (a b : FVec Ideal S8192x32 .f32) (p : Fin 8192) (l : Fin 128) (h : ¬ l.val % 64 < 32) : tab a b (ix2 p l) = b (ix2 p ⟨l.val % 64 - 32, by omega⟩) := by
  rw [tab_mid]
  refine concatenate_pair_apply_right (t := S8192x64) (s₁ := S8192x32) (s₂ := S8192x32) 1 a b concatenates_S8192x32_S8192x32_S8192x64_d1 (ix2 p ⟨l.val % 64, Nat.mod_lt _ (by decide)⟩) rfl rfl (ix2 p ⟨l.val % 64 - 32, by omega⟩) (fun a ha => ?_) ?_
  · match a with
    | ⟨0, _⟩ => rfl
    | ⟨1, _⟩ => exact absurd rfl ha
  · show l.val % 64 - 32 + 32 = l.val % 64
    omega

/-! ## The arrays as the grid finds them -/

variable (m : (ℓ : Loc nD τ sig) → Buf (Elt Ideal) ℓ) (c : Dev nD)

abbrev argH : Vec Ideal S4x8192x1024 .f32 := m ((c : Thread nD τ).loc main_arg0)
abbrev argN : Vec Ideal S1024 .f32 := m ((c : Thread nD τ).loc main_arg1)
abbrev argW : Vec Ideal S1024x6672 .f32 := m ((c : Thread nD τ).loc main_arg2)

/-- The weights rounded to the narrower format, which changes no real number. -/
abbrev narrow (x : FVec Ideal S1024x6672 .f32) : FVec Ideal S1024x6672 .bf16 := truncf .bf16 x bitsLt_bf16_f32

/-- The value the padded columns hold. -/
abbrev blank : FVec Ideal S_ .bf16 := sitofp .bf16 (constantI S_ 32 0#32)

theorem V_v36 : V m c main_v36 = shapeCast S32768x1024 (argH m c) shapeCasts_S4x8192x1024_S32768x1024 := by
  unfold V hostOps0 hostOps0_1 hostOps0_2
  after_results
  rfl

theorem V_v37 : V m c main_v37 = shapeCast S1x1024 (argN m c) shapeCasts_S1024_S1x1024 := by
  unfold V hostOps0 hostOps0_1 hostOps0_2
  after_results
  rfl

theorem V_v30 : V m c main_v30 = tab cosV cosV := by
  unfold V hostOps0 hostOps0_1 hostOps0_2
  after_results
  rfl

theorem V_v35 : V m c main_v35 = tab (Host.negf sinV) sinV := by
  unfold V hostOps0 hostOps0_1 hostOps0_2
  after_results
  rfl

theorem V_v2 : V m c main_v2 = pad S1024x128 ![0, 0] ![0, 112] ![0, 0] (extractStridedSlice S1024x16 ![0, 2560] (narrow (argW m c)) slices_S1024x6672_S1024x16_0_2560) blank pads_S1024x16_S1024x128_000_01120 h_S_ := by
  unfold V hostOps0 hostOps0_1 hostOps0_2
  after_results
  rfl

theorem V_v3 : V m c main_v3 = extractStridedSlice S1024x1024 ![0, 0] (narrow (argW m c)) slices_S1024x6672_S1024x1024_0_0 := by
  unfold V hostOps0 hostOps0_1 hostOps0_2
  after_results
  rfl

theorem V_v4 : V m c main_v4 = extractStridedSlice S1024x1536 ![0, 1024] (narrow (argW m c)) slices_S1024x6672_S1024x1536_0_1024 := by
  unfold V hostOps0 hostOps0_1 hostOps0_2
  after_results
  rfl

theorem V_v5 : V m c main_v5 = extractStridedSlice S1024x1024 ![0, 2576] (narrow (argW m c)) slices_S1024x6672_S1024x1024_0_2576 := by
  unfold V hostOps0 hostOps0_1 hostOps0_2
  after_results
  rfl

theorem V_v6 : V m c main_v6 = extractStridedSlice S1024x1024 ![0, 3600] (narrow (argW m c)) slices_S1024x6672_S1024x1024_0_3600 := by
  unfold V hostOps0 hostOps0_1 hostOps0_2
  after_results
  rfl

theorem V_v7 : V m c main_v7 = extractStridedSlice S1024x1024 ![0, 4624] (narrow (argW m c)) slices_S1024x6672_S1024x1024_0_4624 := by
  unfold V hostOps0 hostOps0_1 hostOps0_2
  after_results
  rfl

theorem V_v8 : V m c main_v8 = extractStridedSlice S1024x1024 ![0, 5648] (narrow (argW m c)) slices_S1024x6672_S1024x1024_0_5648 := by
  unfold V hostOps0 hostOps0_1 hostOps0_2
  after_results
  rfl

/-! ## The windows' blocks -/

/-- The grid point's tile of rows. -/
abbrev tile (t : Fin cfg0.N) : Fin 64 := grid0.coords t 0

/-- Row `r` of the point's tile. -/
def row (t : Fin cfg0.N) (r : Fin 512) : Fin 32768 := ⟨512 * (tile t).val + r.val, by omega⟩

/-- Column `e` of a part of the projection that begins at column `o`. -/
def col {n : ℕ} (o : ℕ) (h : o + n ≤ 6672) (e : Fin n) : Fin 6672 := ⟨o + e.val, by omega⟩

theorem tr_row (i : grid0.Coords) : cc0_transform_0 i = ![(i 0).val, 0] := by
  have h0 : (i 0).val < 64 := (i 0).isLt
  unfold cc0_transform_0
  funext a
  fin_cases a <;> simp <;> omega

theorem tr_const (i : grid0.Coords) : cc0_transform_1 i = ![0, 0] := by
  unfold cc0_transform_1
  funext a
  fin_cases a <;> simp

theorem tr_pos (i : grid0.Coords) : cc0_transform_2 i = ![(i 0).val % 16, 0] := by
  have h0 : (i 0).val < 64 := (i 0).isLt
  unfold cc0_transform_2
  generalize (i 0).val = n at h0
  revert n
  decide +kernel

theorem blk_h (t : Fin cfg0.N) (r : Fin 512) (k : Fin 1024) :
    iblk m c 0 t (ix2 r k) = argH m c (ix3 (bat (row t r)) (pos (row t r)) k) := by
  unfold iblk
  rw [View.read_apply]
  show V m c main_v36 _ = _
  rw [V_v36]
  have e : (((cfg0.win 0).blk t).view.emb (ix2 r k : S512x1024.Idx) : S32768x1024.Idx) = ix2 (row t r) k := by
    funext a
    apply Fin.ext
    match a with
    | ⟨0, _⟩ => show cc0_transform_0 (grid0.coords t) 0 * 512 + 1 * r.val = 512 * (grid0.coords t 0).val + r.val; rw [tr_row]; simp; omega
    | ⟨1, _⟩ => show cc0_transform_0 (grid0.coords t) 1 * 1024 + 1 * k.val = k.val; rw [tr_row]; simp
  refine (congrArg _ e).trans ?_
  refine shapeCast_apply _ _ _ _ ?_
  rw [Shape.rowMajor_val_three, Shape.rowMajor_val_two]
  show ((row t r).val / 8192 * 8192 + (row t r).val % 8192) * 1024 + k.val = (row t r).val * 1024 + k.val
  omega

theorem blk_n (t : Fin cfg0.N) (k : Fin 1024) : iblk m c 1 t (ix2 0 k) = argN m c (ix1 k) := by
  unfold iblk
  rw [View.read_apply]
  show V m c main_v37 _ = _
  rw [V_v37]
  have e : (((cfg0.win 1).blk t).view.emb (ix2 0 k : S1x1024.Idx) : S1x1024.Idx) = ix2 0 k := by
    funext a
    apply Fin.ext
    match a with
    | ⟨0, _⟩ => show cc0_transform_1 (grid0.coords t) 0 * 1 + 1 * 0 = 0; rw [tr_const]; simp
    | ⟨1, _⟩ => show cc0_transform_1 (grid0.coords t) 1 * 1024 + 1 * k.val = k.val; rw [tr_const]; simp
  refine (congrArg _ e).trans ?_
  refine shapeCast_apply _ _ _ _ ?_
  rw [Shape.rowMajor_val_one, Shape.rowMajor_val_two]
  show k.val = 0 * 1024 + k.val
  omega

theorem blk_cos (t : Fin cfg0.N) (r : Fin 512) (l : Fin 128) : iblk m c 2 t (ix2 r l) = tab cosV cosV (ix2 (pos (row t r)) l) := by
  unfold iblk
  rw [View.read_apply]
  show V m c main_v30 _ = _
  rw [V_v30]
  have e : (((cfg0.win 2).blk t).view.emb (ix2 r l : S512x128.Idx) : S8192x128.Idx) = ix2 (pos (row t r)) l := by
    funext a
    apply Fin.ext
    match a with
    | ⟨0, _⟩ =>
      show cc0_transform_2 (grid0.coords t) 0 * 512 + 1 * r.val = (512 * (grid0.coords t 0).val + r.val) % 8192
      rw [tr_pos, show (![(grid0.coords t 0).val % 16, 0] : Fin 2 → ℕ) 0 = (grid0.coords t 0).val % 16 from rfl]
      omega
    | ⟨1, _⟩ => show cc0_transform_2 (grid0.coords t) 1 * 128 + 1 * l.val = l.val; rw [tr_pos]; simp
  exact congrArg _ e

theorem blk_sin (t : Fin cfg0.N) (r : Fin 512) (l : Fin 128) : iblk m c 3 t (ix2 r l) = tab (Host.negf sinV) sinV (ix2 (pos (row t r)) l) := by
  unfold iblk
  rw [View.read_apply]
  show V m c main_v35 _ = _
  rw [V_v35]
  have e : (((cfg0.win 3).blk t).view.emb (ix2 r l : S512x128.Idx) : S8192x128.Idx) = ix2 (pos (row t r)) l := by
    funext a
    apply Fin.ext
    match a with
    | ⟨0, _⟩ =>
      show cc0_transform_2 (grid0.coords t) 0 * 512 + 1 * r.val = (512 * (grid0.coords t 0).val + r.val) % 8192
      rw [tr_pos, show (![(grid0.coords t 0).val % 16, 0] : Fin 2 → ℕ) 0 = (grid0.coords t 0).val % 16 from rfl]
      omega
    | ⟨1, _⟩ => show cc0_transform_2 (grid0.coords t) 1 * 128 + 1 * l.val = l.val; rw [tr_pos]; simp
  exact congrArg _ e

theorem blk_z (t : Fin cfg0.N) (k : Fin 1024) (e : Fin 1024) : iblk m c 4 t (ix2 k e) = argW m c (ix2 k (col 0 (by decide) e)) := by
  unfold iblk
  rw [View.read_apply]
  show V m c main_v3 _ = _
  rw [V_v3]
  have h : (((cfg0.win 4).blk t).view.emb (ix2 k e : S1024x1024.Idx) : S1024x1024.Idx) = ix2 k e := by
    funext a
    apply Fin.ext
    match a with
    | ⟨0, _⟩ => show cc0_transform_1 (grid0.coords t) 0 * 1024 + 1 * k.val = k.val; rw [tr_const]; simp
    | ⟨1, _⟩ => show cc0_transform_1 (grid0.coords t) 1 * 1024 + 1 * e.val = e.val; rw [tr_const]; simp
  refine (congrArg _ h).trans ?_
  refine (extractStridedSlice_apply _ _ _ _ (ix2 k (col 0 (by decide) e)) fun a => ?_).trans rfl
  match a with
  | ⟨0, _⟩ => show k.val = 0 + k.val; omega
  | ⟨1, _⟩ => rfl

theorem blk_xbc (t : Fin cfg0.N) (k : Fin 1024) (e : Fin 1536) : iblk m c 5 t (ix2 k e) = argW m c (ix2 k (col 1024 (by decide) e)) := by
  unfold iblk
  rw [View.read_apply]
  show V m c main_v4 _ = _
  rw [V_v4]
  have h : (((cfg0.win 5).blk t).view.emb (ix2 k e : S1024x1536.Idx) : S1024x1536.Idx) = ix2 k e := by
    funext a
    apply Fin.ext
    match a with
    | ⟨0, _⟩ => show cc0_transform_1 (grid0.coords t) 0 * 1024 + 1 * k.val = k.val; rw [tr_const]; simp
    | ⟨1, _⟩ => show cc0_transform_1 (grid0.coords t) 1 * 1536 + 1 * e.val = e.val; rw [tr_const]; simp
  refine (congrArg _ h).trans ?_
  refine (extractStridedSlice_apply _ _ _ _ (ix2 k (col 1024 (by decide) e)) fun a => ?_).trans rfl
  match a with
  | ⟨0, _⟩ => show k.val = 0 + k.val; omega
  | ⟨1, _⟩ => rfl

theorem blk_q (t : Fin cfg0.N) (k : Fin 1024) (e : Fin 1024) : iblk m c 7 t (ix2 k e) = argW m c (ix2 k (col 2576 (by decide) e)) := by
  unfold iblk
  rw [View.read_apply]
  show V m c main_v5 _ = _
  rw [V_v5]
  have h : (((cfg0.win 7).blk t).view.emb (ix2 k e : S1024x1024.Idx) : S1024x1024.Idx) = ix2 k e := by
    funext a
    apply Fin.ext
    match a with
    | ⟨0, _⟩ => show cc0_transform_1 (grid0.coords t) 0 * 1024 + 1 * k.val = k.val; rw [tr_const]; simp
    | ⟨1, _⟩ => show cc0_transform_1 (grid0.coords t) 1 * 1024 + 1 * e.val = e.val; rw [tr_const]; simp
  refine (congrArg _ h).trans ?_
  refine (extractStridedSlice_apply _ _ _ _ (ix2 k (col 2576 (by decide) e)) fun a => ?_).trans rfl
  match a with
  | ⟨0, _⟩ => show k.val = 0 + k.val; omega
  | ⟨1, _⟩ => rfl

theorem blk_k (t : Fin cfg0.N) (k : Fin 1024) (e : Fin 1024) : iblk m c 8 t (ix2 k e) = argW m c (ix2 k (col 3600 (by decide) e)) := by
  unfold iblk
  rw [View.read_apply]
  show V m c main_v6 _ = _
  rw [V_v6]
  have h : (((cfg0.win 8).blk t).view.emb (ix2 k e : S1024x1024.Idx) : S1024x1024.Idx) = ix2 k e := by
    funext a
    apply Fin.ext
    match a with
    | ⟨0, _⟩ => show cc0_transform_1 (grid0.coords t) 0 * 1024 + 1 * k.val = k.val; rw [tr_const]; simp
    | ⟨1, _⟩ => show cc0_transform_1 (grid0.coords t) 1 * 1024 + 1 * e.val = e.val; rw [tr_const]; simp
  refine (congrArg _ h).trans ?_
  refine (extractStridedSlice_apply _ _ _ _ (ix2 k (col 3600 (by decide) e)) fun a => ?_).trans rfl
  match a with
  | ⟨0, _⟩ => show k.val = 0 + k.val; omega
  | ⟨1, _⟩ => rfl

theorem blk_v (t : Fin cfg0.N) (k : Fin 1024) (e : Fin 1024) : iblk m c 9 t (ix2 k e) = argW m c (ix2 k (col 4624 (by decide) e)) := by
  unfold iblk
  rw [View.read_apply]
  show V m c main_v7 _ = _
  rw [V_v7]
  have h : (((cfg0.win 9).blk t).view.emb (ix2 k e : S1024x1024.Idx) : S1024x1024.Idx) = ix2 k e := by
    funext a
    apply Fin.ext
    match a with
    | ⟨0, _⟩ => show cc0_transform_1 (grid0.coords t) 0 * 1024 + 1 * k.val = k.val; rw [tr_const]; simp
    | ⟨1, _⟩ => show cc0_transform_1 (grid0.coords t) 1 * 1024 + 1 * e.val = e.val; rw [tr_const]; simp
  refine (congrArg _ h).trans ?_
  refine (extractStridedSlice_apply _ _ _ _ (ix2 k (col 4624 (by decide) e)) fun a => ?_).trans rfl
  match a with
  | ⟨0, _⟩ => show k.val = 0 + k.val; omega
  | ⟨1, _⟩ => rfl

theorem blk_g (t : Fin cfg0.N) (k : Fin 1024) (e : Fin 1024) : iblk m c 10 t (ix2 k e) = argW m c (ix2 k (col 5648 (by decide) e)) := by
  unfold iblk
  rw [View.read_apply]
  show V m c main_v8 _ = _
  rw [V_v8]
  have h : (((cfg0.win 10).blk t).view.emb (ix2 k e : S1024x1024.Idx) : S1024x1024.Idx) = ix2 k e := by
    funext a
    apply Fin.ext
    match a with
    | ⟨0, _⟩ => show cc0_transform_1 (grid0.coords t) 0 * 1024 + 1 * k.val = k.val; rw [tr_const]; simp
    | ⟨1, _⟩ => show cc0_transform_1 (grid0.coords t) 1 * 1024 + 1 * e.val = e.val; rw [tr_const]; simp
  refine (congrArg _ h).trans ?_
  refine (extractStridedSlice_apply _ _ _ _ (ix2 k (col 5648 (by decide) e)) fun a => ?_).trans rfl
  match a with
  | ⟨0, _⟩ => show k.val = 0 + k.val; omega
  | ⟨1, _⟩ => rfl

theorem blank_at (i : S_.Idx) : blank i = 0 := by
  show ((((0#32 : BitVec 32).toInt : ℝ)) : EReal) = 0
  simp

theorem blk_dt (t : Fin cfg0.N) (k : Fin 1024) (e : Fin 128) :
    iblk m c 6 t (ix2 k e) = if h : e.val < 16 then argW m c (ix2 k (col 2560 (by decide) (⟨e.val, h⟩ : Fin 16))) else (0 : EReal) := by
  unfold iblk
  rw [View.read_apply]
  show V m c main_v2 _ = _
  rw [V_v2]
  have h : (((cfg0.win 6).blk t).view.emb (ix2 k e : S1024x128.Idx) : S1024x128.Idx) = ix2 k e := by
    funext a
    apply Fin.ext
    match a with
    | ⟨0, _⟩ => show cc0_transform_1 (grid0.coords t) 0 * 1024 + 1 * k.val = k.val; rw [tr_const]; simp
    | ⟨1, _⟩ => show cc0_transform_1 (grid0.coords t) 1 * 128 + 1 * e.val = e.val; rw [tr_const]; simp
  refine (congrArg _ h).trans ?_
  by_cases he : e.val < 16
  · rw [dif_pos he]
    refine (pad_apply_of_inside _ _ _ _ _ _ _ _ (ix2 k (⟨e.val, he⟩ : Fin 16)) fun a => ?_).trans ?_
    · match a with
      | ⟨0, _⟩ => show k.val = 0 + k.val * (0 + 1); omega
      | ⟨1, _⟩ => show e.val = 0 + e.val * (0 + 1); omega
    refine (extractStridedSlice_apply _ _ _ _ (ix2 k (col 2560 (by decide) (⟨e.val, he⟩ : Fin 16))) fun a => ?_).trans rfl
    match a with
    | ⟨0, _⟩ => show k.val = 0 + k.val; omega
    | ⟨1, _⟩ => rfl
  · rw [dif_neg he]
    refine (pad_apply_of_not_inside _ _ _ _ _ _ _ _ (1 : Fin 2) ?_).trans (blank_at _)
    show ¬ (0 ≤ e.val ∧ (e.val - 0) % (0 + 1) = 0 ∧ (e.val - 0) / (0 + 1) < 16)
    simp
    omega

end Cert.Kernel4Ideal.Proj0

end
-- ==== Proof.Proj0.lean ====
/- Layer 0's input projection: the arrays the grid leaves. -/
module

public import proofs.«01_k».proof.Proof.Proj0Win

@[expose] public section

set_option maxRecDepth 16384

noncomputable section

namespace Cert.Kernel4Ideal.Proj0

open Cert.Kernel4Ideal Cert.Kernel4Ideal.Gen
open Idealize.ShloMosaic Idealize.ShloMosaic.TcCoe Idealize.SL.Sem
open Cert.Kernel2Ideal.Proj1 (sg normed proj bat pos)

/-! ## The arrays -/

section Arrays

variable (h : Vec Ideal S4x8192x1024 .f32) (w : Vec Ideal S1024 .f32) (p : Vec Ideal S1024x6672 .f32)

/-- One element of the projection of row `i`. -/
def el (i : Fin 32768) (e : Fin 6672) : EReal :=
  proj (fun k => h (ix3 (bat i) (pos i) k)) (fun k => w (ix1 k)) (fun k => p (ix2 k e))

/-- A row turned by the angles of its position: each column with its mate in the other half. -/
def turn (f : Fin 1024 → EReal) (i : Fin 8192) (e : Fin 1024) : EReal :=
  f e * tab cosV cosV (ix2 i ⟨e.val % 128, Nat.mod_lt _ (by decide)⟩)
    + f (mate e) * tab (Host.negf sinV) sinV (ix2 i ⟨e.val % 128, Nat.mod_lt _ (by decide)⟩)

def outZ : Vec Ideal S32768x1024 .bf16 := fun i => el h w p (i 0) (col 0 (by decide) (i 1 : Fin 1024)) * sg (el h w p (i 0) (col 0 (by decide) (i 1 : Fin 1024)))

def outX : Vec Ideal S32768x1536 .bf16 := fun i => el h w p (i 0) (col 1024 (by decide) (i 1 : Fin 1536))

def outD : Vec Ideal S32768x128 .f32 := fun i => if l : (i 1).val < 16 then el h w p (i 0) (col 2560 (by decide) (⟨(i 1).val, l⟩ : Fin 16)) else (0 : EReal)

def outQ : Vec Ideal S32768x1024 .f32 := fun i => turn (fun e => el h w p (i 0) (col 2576 (by decide) e)) (pos (i 0)) (i 1)

def outK : Vec Ideal S32768x1024 .bf16 := fun i => turn (fun e => el h w p (i 0) (col 3600 (by decide) e)) (pos (i 0)) (i 1)

def outV : Vec Ideal S32768x1024 .bf16 := fun i => el h w p (i 0) (col 4624 (by decide) (i 1 : Fin 1024))

def outG : Vec Ideal S32768x1024 .bf16 := fun i => el h w p (i 0) (col 5648 (by decide) (i 1 : Fin 1024)) * sg (el h w p (i 0) (col 5648 (by decide) (i 1 : Fin 1024)))

end Arrays

variable (m : (ℓ : Loc nD τ sig) → Buf (Elt Ideal) ℓ) (c : Dev nD)

theorem zero2 : (![0, 0] : Fin 2 → Nat) = fun _ => 0 := funext fun a => by fin_cases a <;> rfl

theorem out11_at (t : Fin cfg0.N) (r : Fin 512) (e : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e) = outZ (argH m c) (argN m c) (argW m c) (ix2 (row t r) e) := by
  unfold out0_11
  rw [View.canon_unit_zero zero2, View.ld_unit_zero (S := S512x1024) zero2, View.ld_unit_zero (S := S1x1024) zero2, View.ld_unit_zero (S := S1024x1024) zero2]
  refine (pay4_at _ _ _ r e).trans ?_
  simp only [blk_h, blk_n, blk_z]
  rfl

theorem out12_at (t : Fin cfg0.N) (r : Fin 512) (e : Fin 1536) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e) = outX (argH m c) (argN m c) (argW m c) (ix2 (row t r) e) := by
  unfold out0_12
  rw [View.canon_unit_zero zero2, View.ld_unit_zero (S := S512x1024) zero2, View.ld_unit_zero (S := S1x1024) zero2, View.ld_unit_zero (S := S1024x1536) zero2]
  refine (pay5_at _ _ _ r e).trans ?_
  simp only [blk_h, blk_n, blk_xbc]
  rfl

theorem out13_at (t : Fin cfg0.N) (r : Fin 512) (e : Fin 128) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e) = outD (argH m c) (argN m c) (argW m c) (ix2 (row t r) e) := by
  unfold out0_13
  rw [View.canon_unit_zero zero2, View.ld_unit_zero (S := S512x1024) zero2, View.ld_unit_zero (S := S1x1024) zero2, View.ld_unit_zero (S := S1024x128) zero2]
  refine (pay6_at _ _ _ r e).trans ?_
  unfold outD
  by_cases l : e.val < 16
  · refine Eq.trans ?_ (dif_pos l).symm
    simp only [blk_h, blk_n, blk_dt, dif_pos l]
    rfl
  · refine Eq.trans ?_ (dif_neg l).symm
    unfold proj
    simp only [blk_dt, dif_neg l, mul_zero, Finset.sum_const_zero]

theorem out14_at (t : Fin cfg0.N) (r : Fin 512) (e : Fin 1024) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e) = outQ (argH m c) (argN m c) (argW m c) (ix2 (row t r) e) := by
  unfold out0_14 k0_pay12 k0_pay13 k0_pay14 k0_pay15
  rw [View.canon_unit_zero zero2, View.ld_unit_zero (S := S512x1024) zero2, View.ld_unit_zero (S := S1x1024) zero2, View.ld_unit_zero (S := S1024x1024) zero2, View.ld_unit_zero (S := S512x128) zero2, View.ld_unit_zero (S := S512x128) zero2]
  refine (pay1_at _ _ _ _ _ r e).trans ?_
  simp only [blk_h, blk_n, blk_q, blk_cos, blk_sin]
  rfl

theorem out15_at (t : Fin cfg0.N) (r : Fin 512) (e : Fin 1024) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e) = outK (argH m c) (argN m c) (argW m c) (ix2 (row t r) e) := by
  unfold out0_15 k0_pay12 k0_pay13 k0_pay14 k0_pay15
  rw [View.canon_unit_zero zero2, View.ld_unit_zero (S := S512x1024) zero2, View.ld_unit_zero (S := S1x1024) zero2, View.ld_unit_zero (S := S1024x1024) zero2, View.ld_unit_zero (S := S512x128) zero2, View.ld_unit_zero (S := S512x128) zero2]
  refine (pay2_at _ _ _ _ _ r e).trans ?_
  simp only [blk_h, blk_n, blk_k, blk_cos, blk_sin]
  rfl

theorem out16_at (t : Fin cfg0.N) (r : Fin 512) (e : Fin 1024) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e) = outV (argH m c) (argN m c) (argW m c) (ix2 (row t r) e) := by
  unfold out0_16 k0_pay12
  rw [View.canon_unit_zero zero2, View.ld_unit_zero (S := S512x1024) zero2, View.ld_unit_zero (S := S1x1024) zero2, View.ld_unit_zero (S := S1024x1024) zero2]
  refine (pay7_at _ _ _ r e).trans ?_
  simp only [blk_h, blk_n, blk_v]
  rfl

theorem out17_at (t : Fin cfg0.N) (r : Fin 512) (e : Fin 1024) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e) = outG (argH m c) (argN m c) (argW m c) (ix2 (row t r) e) := by
  unfold out0_17 k0_pay12
  rw [View.canon_unit_zero zero2, View.ld_unit_zero (S := S512x1024) zero2, View.ld_unit_zero (S := S1x1024) zero2, View.ld_unit_zero (S := S1024x1024) zero2]
  refine (pay8_at _ _ _ r e).trans ?_
  simp only [blk_h, blk_n, blk_g]
  rfl

/-! ## Every point's block, and the whole arrays -/

theorem pair_eta {n k : ℕ} (j : (⟨2, ![n, k]⟩ : Shape).Idx) : j = (ix2 (j 0) (j 1) : (⟨2, ![n, k]⟩ : Shape).Idx) := by
  funext a
  match a with
  | ⟨0, _⟩ => rfl
  | ⟨1, _⟩ => rfl

/-- The grid point of a tile. -/
def point (n : Fin 64) : Fin cfg0.N := ⟨n.val, by rw [show cfg0.N = 64 from N_0]; omega⟩

theorem point_coords : ∀ n : Fin 64, tile (point n) = n := by decide +kernel

theorem emb11 (t : Fin cfg0.N) (j : S512x1024.Idx) : (((cfg0.win 11).blk t).view.emb j : S32768x1024.Idx) = ix2 (row t (j 0)) (j 1) := by
  funext a
  apply Fin.ext
  match a with
  | ⟨0, _⟩ => show cc0_transform_0 (grid0.coords t) 0 * 512 + 1 * (j 0).val = 512 * (grid0.coords t 0).val + (j 0).val; rw [tr_row]; simp; omega
  | ⟨1, _⟩ => show cc0_transform_0 (grid0.coords t) 1 * 1024 + 1 * (j 1).val = (j 1).val; rw [tr_row]; simp

theorem flushed11_eq (t : Fin cfg0.N) : (dats m 0 c).flushed 11 t = ((cfg0.win 11).blk t).view.read (Elt Ideal) (outZ (argH m c) (argN m c) (argW m c)) := by
  rw [Value.flushed11]
  funext j
  rw [View.read_apply, emb11 t j]
  refine Eq.trans ?_ (out11_at m c t (j 0) (j 1))
  exact congrArg (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) (pair_eta j)

theorem mem11 (i : S32768x1024.Idx) : ∃ t : Fin cfg0.N, i ∈ (win0_11.rect t).set := by
  have h0 : (i 0).val < 32768 := (i 0).isLt
  have h1 : (i 1).val < 1024 := (i 1).isLt
  have e0 := congrArg Fin.val (point_coords ⟨(i 0).val / 512, by omega⟩)
  generalize point ⟨(i 0).val / 512, by omega⟩ = t at e0
  refine ⟨t, (Rect.mem_set_unit ..).mpr fun a => ?_⟩
  match a with
  | ⟨0, _⟩ =>
    show cc0_transform_0 (grid0.coords t) 0 * 512 ≤ (i 0).val ∧ (i 0).val < cc0_transform_0 (grid0.coords t) 0 * 512 + 512
    rw [tr_row, show (![(grid0.coords t 0).val, 0] : Fin 2 → ℕ) 0 = (i 0).val / 512 from e0]
    omega
  | ⟨1, _⟩ =>
    show cc0_transform_0 (grid0.coords t) 1 * 1024 ≤ (i 1).val ∧ (i 1).val < cc0_transform_0 (grid0.coords t) 1 * 1024 + 1024
    rw [tr_row, show (![(grid0.coords t 0).val, 0] : Fin 2 → ℕ) 1 = 0 from rfl]
    omega

theorem final11 : (dats m 0 c).arrAt 11 cfg0.N = outZ (argH m c) (argN m c) (argW m c) :=
  (dats m 0 c).arrAt_eq_of_cover 11 _ (fun t _ => flushed11_eq m c t) fun i => by
    obtain ⟨t, h⟩ := mem11 i
    refine ⟨t, flush0_11 t, ?_⟩
    show i ∈ ((View.whole main_v38_0).slice (win0_11.rect t)).set
    rw [View.set_slice_whole]
    exact h

theorem emb12 (t : Fin cfg0.N) (j : S512x1536.Idx) : (((cfg0.win 12).blk t).view.emb j : S32768x1536.Idx) = ix2 (row t (j 0)) (j 1) := by
  funext a
  apply Fin.ext
  match a with
  | ⟨0, _⟩ => show cc0_transform_0 (grid0.coords t) 0 * 512 + 1 * (j 0).val = 512 * (grid0.coords t 0).val + (j 0).val; rw [tr_row]; simp; omega
  | ⟨1, _⟩ => show cc0_transform_0 (grid0.coords t) 1 * 1536 + 1 * (j 1).val = (j 1).val; rw [tr_row]; simp

theorem flushed12_eq (t : Fin cfg0.N) : (dats m 0 c).flushed 12 t = ((cfg0.win 12).blk t).view.read (Elt Ideal) (outX (argH m c) (argN m c) (argW m c)) := by
  rw [Value.flushed12]
  funext j
  rw [View.read_apply, emb12 t j]
  refine Eq.trans ?_ (out12_at m c t (j 0) (j 1))
  exact congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)) (pair_eta j)

theorem mem12 (i : S32768x1536.Idx) : ∃ t : Fin cfg0.N, i ∈ (win0_12.rect t).set := by
  have h0 : (i 0).val < 32768 := (i 0).isLt
  have h1 : (i 1).val < 1536 := (i 1).isLt
  have e0 := congrArg Fin.val (point_coords ⟨(i 0).val / 512, by omega⟩)
  generalize point ⟨(i 0).val / 512, by omega⟩ = t at e0
  refine ⟨t, (Rect.mem_set_unit ..).mpr fun a => ?_⟩
  match a with
  | ⟨0, _⟩ =>
    show cc0_transform_0 (grid0.coords t) 0 * 512 ≤ (i 0).val ∧ (i 0).val < cc0_transform_0 (grid0.coords t) 0 * 512 + 512
    rw [tr_row, show (![(grid0.coords t 0).val, 0] : Fin 2 → ℕ) 0 = (i 0).val / 512 from e0]
    omega
  | ⟨1, _⟩ =>
    show cc0_transform_0 (grid0.coords t) 1 * 1536 ≤ (i 1).val ∧ (i 1).val < cc0_transform_0 (grid0.coords t) 1 * 1536 + 1536
    rw [tr_row, show (![(grid0.coords t 0).val, 0] : Fin 2 → ℕ) 1 = 0 from rfl]
    omega

theorem final12 : (dats m 0 c).arrAt 12 cfg0.N = outX (argH m c) (argN m c) (argW m c) :=
  (dats m 0 c).arrAt_eq_of_cover 12 _ (fun t _ => flushed12_eq m c t) fun i => by
    obtain ⟨t, h⟩ := mem12 i
    refine ⟨t, flush0_12 t, ?_⟩
    show i ∈ ((View.whole main_v38_1).slice (win0_12.rect t)).set
    rw [View.set_slice_whole]
    exact h

theorem emb13 (t : Fin cfg0.N) (j : S512x128.Idx) : (((cfg0.win 13).blk t).view.emb j : S32768x128.Idx) = ix2 (row t (j 0)) (j 1) := by
  funext a
  apply Fin.ext
  match a with
  | ⟨0, _⟩ => show cc0_transform_0 (grid0.coords t) 0 * 512 + 1 * (j 0).val = 512 * (grid0.coords t 0).val + (j 0).val; rw [tr_row]; simp; omega
  | ⟨1, _⟩ => show cc0_transform_0 (grid0.coords t) 1 * 128 + 1 * (j 1).val = (j 1).val; rw [tr_row]; simp

theorem flushed13_eq (t : Fin cfg0.N) : (dats m 0 c).flushed 13 t = ((cfg0.win 13).blk t).view.read (Elt Ideal) (outD (argH m c) (argN m c) (argW m c)) := by
  rw [Value.flushed13]
  funext j
  rw [View.read_apply, emb13 t j]
  refine Eq.trans ?_ (out13_at m c t (j 0) (j 1))
  exact congrArg (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)) (pair_eta j)

theorem mem13 (i : S32768x128.Idx) : ∃ t : Fin cfg0.N, i ∈ (win0_13.rect t).set := by
  have h0 : (i 0).val < 32768 := (i 0).isLt
  have h1 : (i 1).val < 128 := (i 1).isLt
  have e0 := congrArg Fin.val (point_coords ⟨(i 0).val / 512, by omega⟩)
  generalize point ⟨(i 0).val / 512, by omega⟩ = t at e0
  refine ⟨t, (Rect.mem_set_unit ..).mpr fun a => ?_⟩
  match a with
  | ⟨0, _⟩ =>
    show cc0_transform_0 (grid0.coords t) 0 * 512 ≤ (i 0).val ∧ (i 0).val < cc0_transform_0 (grid0.coords t) 0 * 512 + 512
    rw [tr_row, show (![(grid0.coords t 0).val, 0] : Fin 2 → ℕ) 0 = (i 0).val / 512 from e0]
    omega
  | ⟨1, _⟩ =>
    show cc0_transform_0 (grid0.coords t) 1 * 128 ≤ (i 1).val ∧ (i 1).val < cc0_transform_0 (grid0.coords t) 1 * 128 + 128
    rw [tr_row, show (![(grid0.coords t 0).val, 0] : Fin 2 → ℕ) 1 = 0 from rfl]
    omega

theorem final13 : (dats m 0 c).arrAt 13 cfg0.N = outD (argH m c) (argN m c) (argW m c) :=
  (dats m 0 c).arrAt_eq_of_cover 13 _ (fun t _ => flushed13_eq m c t) fun i => by
    obtain ⟨t, h⟩ := mem13 i
    refine ⟨t, flush0_13 t, ?_⟩
    show i ∈ ((View.whole main_v38_2).slice (win0_13.rect t)).set
    rw [View.set_slice_whole]
    exact h

theorem emb14 (t : Fin cfg0.N) (j : S512x1024.Idx) : (((cfg0.win 14).blk t).view.emb j : S32768x1024.Idx) = ix2 (row t (j 0)) (j 1) := by
  funext a
  apply Fin.ext
  match a with
  | ⟨0, _⟩ => show cc0_transform_0 (grid0.coords t) 0 * 512 + 1 * (j 0).val = 512 * (grid0.coords t 0).val + (j 0).val; rw [tr_row]; simp; omega
  | ⟨1, _⟩ => show cc0_transform_0 (grid0.coords t) 1 * 1024 + 1 * (j 1).val = (j 1).val; rw [tr_row]; simp

theorem flushed14_eq (t : Fin cfg0.N) : (dats m 0 c).flushed 14 t = ((cfg0.win 14).blk t).view.read (Elt Ideal) (outQ (argH m c) (argN m c) (argW m c)) := by
  rw [Value.flushed14]
  funext j
  rw [View.read_apply, emb14 t j]
  refine Eq.trans ?_ (out14_at m c t (j 0) (j 1))
  exact congrArg (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)) (pair_eta j)

theorem mem14 (i : S32768x1024.Idx) : ∃ t : Fin cfg0.N, i ∈ (win0_14.rect t).set := by
  have h0 : (i 0).val < 32768 := (i 0).isLt
  have h1 : (i 1).val < 1024 := (i 1).isLt
  have e0 := congrArg Fin.val (point_coords ⟨(i 0).val / 512, by omega⟩)
  generalize point ⟨(i 0).val / 512, by omega⟩ = t at e0
  refine ⟨t, (Rect.mem_set_unit ..).mpr fun a => ?_⟩
  match a with
  | ⟨0, _⟩ =>
    show cc0_transform_0 (grid0.coords t) 0 * 512 ≤ (i 0).val ∧ (i 0).val < cc0_transform_0 (grid0.coords t) 0 * 512 + 512
    rw [tr_row, show (![(grid0.coords t 0).val, 0] : Fin 2 → ℕ) 0 = (i 0).val / 512 from e0]
    omega
  | ⟨1, _⟩ =>
    show cc0_transform_0 (grid0.coords t) 1 * 1024 ≤ (i 1).val ∧ (i 1).val < cc0_transform_0 (grid0.coords t) 1 * 1024 + 1024
    rw [tr_row, show (![(grid0.coords t 0).val, 0] : Fin 2 → ℕ) 1 = 0 from rfl]
    omega

theorem final14 : (dats m 0 c).arrAt 14 cfg0.N = outQ (argH m c) (argN m c) (argW m c) :=
  (dats m 0 c).arrAt_eq_of_cover 14 _ (fun t _ => flushed14_eq m c t) fun i => by
    obtain ⟨t, h⟩ := mem14 i
    refine ⟨t, flush0_14 t, ?_⟩
    show i ∈ ((View.whole main_v38_3).slice (win0_14.rect t)).set
    rw [View.set_slice_whole]
    exact h

theorem emb15 (t : Fin cfg0.N) (j : S512x1024.Idx) : (((cfg0.win 15).blk t).view.emb j : S32768x1024.Idx) = ix2 (row t (j 0)) (j 1) := by
  funext a
  apply Fin.ext
  match a with
  | ⟨0, _⟩ => show cc0_transform_0 (grid0.coords t) 0 * 512 + 1 * (j 0).val = 512 * (grid0.coords t 0).val + (j 0).val; rw [tr_row]; simp; omega
  | ⟨1, _⟩ => show cc0_transform_0 (grid0.coords t) 1 * 1024 + 1 * (j 1).val = (j 1).val; rw [tr_row]; simp

theorem flushed15_eq (t : Fin cfg0.N) : (dats m 0 c).flushed 15 t = ((cfg0.win 15).blk t).view.read (Elt Ideal) (outK (argH m c) (argN m c) (argW m c)) := by
  rw [Value.flushed15]
  funext j
  rw [View.read_apply, emb15 t j]
  refine Eq.trans ?_ (out15_at m c t (j 0) (j 1))
  exact congrArg (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)) (pair_eta j)

theorem mem15 (i : S32768x1024.Idx) : ∃ t : Fin cfg0.N, i ∈ (win0_15.rect t).set := by
  have h0 : (i 0).val < 32768 := (i 0).isLt
  have h1 : (i 1).val < 1024 := (i 1).isLt
  have e0 := congrArg Fin.val (point_coords ⟨(i 0).val / 512, by omega⟩)
  generalize point ⟨(i 0).val / 512, by omega⟩ = t at e0
  refine ⟨t, (Rect.mem_set_unit ..).mpr fun a => ?_⟩
  match a with
  | ⟨0, _⟩ =>
    show cc0_transform_0 (grid0.coords t) 0 * 512 ≤ (i 0).val ∧ (i 0).val < cc0_transform_0 (grid0.coords t) 0 * 512 + 512
    rw [tr_row, show (![(grid0.coords t 0).val, 0] : Fin 2 → ℕ) 0 = (i 0).val / 512 from e0]
    omega
  | ⟨1, _⟩ =>
    show cc0_transform_0 (grid0.coords t) 1 * 1024 ≤ (i 1).val ∧ (i 1).val < cc0_transform_0 (grid0.coords t) 1 * 1024 + 1024
    rw [tr_row, show (![(grid0.coords t 0).val, 0] : Fin 2 → ℕ) 1 = 0 from rfl]
    omega

theorem final15 : (dats m 0 c).arrAt 15 cfg0.N = outK (argH m c) (argN m c) (argW m c) :=
  (dats m 0 c).arrAt_eq_of_cover 15 _ (fun t _ => flushed15_eq m c t) fun i => by
    obtain ⟨t, h⟩ := mem15 i
    refine ⟨t, flush0_15 t, ?_⟩
    show i ∈ ((View.whole main_v38_4).slice (win0_15.rect t)).set
    rw [View.set_slice_whole]
    exact h

theorem emb16 (t : Fin cfg0.N) (j : S512x1024.Idx) : (((cfg0.win 16).blk t).view.emb j : S32768x1024.Idx) = ix2 (row t (j 0)) (j 1) := by
  funext a
  apply Fin.ext
  match a with
  | ⟨0, _⟩ => show cc0_transform_0 (grid0.coords t) 0 * 512 + 1 * (j 0).val = 512 * (grid0.coords t 0).val + (j 0).val; rw [tr_row]; simp; omega
  | ⟨1, _⟩ => show cc0_transform_0 (grid0.coords t) 1 * 1024 + 1 * (j 1).val = (j 1).val; rw [tr_row]; simp

theorem flushed16_eq (t : Fin cfg0.N) : (dats m 0 c).flushed 16 t = ((cfg0.win 16).blk t).view.read (Elt Ideal) (outV (argH m c) (argN m c) (argW m c)) := by
  rw [Value.flushed16]
  funext j
  rw [View.read_apply, emb16 t j]
  refine Eq.trans ?_ (out16_at m c t (j 0) (j 1))
  exact congrArg (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)) (pair_eta j)

theorem mem16 (i : S32768x1024.Idx) : ∃ t : Fin cfg0.N, i ∈ (win0_16.rect t).set := by
  have h0 : (i 0).val < 32768 := (i 0).isLt
  have h1 : (i 1).val < 1024 := (i 1).isLt
  have e0 := congrArg Fin.val (point_coords ⟨(i 0).val / 512, by omega⟩)
  generalize point ⟨(i 0).val / 512, by omega⟩ = t at e0
  refine ⟨t, (Rect.mem_set_unit ..).mpr fun a => ?_⟩
  match a with
  | ⟨0, _⟩ =>
    show cc0_transform_0 (grid0.coords t) 0 * 512 ≤ (i 0).val ∧ (i 0).val < cc0_transform_0 (grid0.coords t) 0 * 512 + 512
    rw [tr_row, show (![(grid0.coords t 0).val, 0] : Fin 2 → ℕ) 0 = (i 0).val / 512 from e0]
    omega
  | ⟨1, _⟩ =>
    show cc0_transform_0 (grid0.coords t) 1 * 1024 ≤ (i 1).val ∧ (i 1).val < cc0_transform_0 (grid0.coords t) 1 * 1024 + 1024
    rw [tr_row, show (![(grid0.coords t 0).val, 0] : Fin 2 → ℕ) 1 = 0 from rfl]
    omega

theorem final16 : (dats m 0 c).arrAt 16 cfg0.N = outV (argH m c) (argN m c) (argW m c) :=
  (dats m 0 c).arrAt_eq_of_cover 16 _ (fun t _ => flushed16_eq m c t) fun i => by
    obtain ⟨t, h⟩ := mem16 i
    refine ⟨t, flush0_16 t, ?_⟩
    show i ∈ ((View.whole main_v38_5).slice (win0_16.rect t)).set
    rw [View.set_slice_whole]
    exact h

theorem emb17 (t : Fin cfg0.N) (j : S512x1024.Idx) : (((cfg0.win 17).blk t).view.emb j : S32768x1024.Idx) = ix2 (row t (j 0)) (j 1) := by
  funext a
  apply Fin.ext
  match a with
  | ⟨0, _⟩ => show cc0_transform_0 (grid0.coords t) 0 * 512 + 1 * (j 0).val = 512 * (grid0.coords t 0).val + (j 0).val; rw [tr_row]; simp; omega
  | ⟨1, _⟩ => show cc0_transform_0 (grid0.coords t) 1 * 1024 + 1 * (j 1).val = (j 1).val; rw [tr_row]; simp

theorem flushed17_eq (t : Fin cfg0.N) : (dats m 0 c).flushed 17 t = ((cfg0.win 17).blk t).view.read (Elt Ideal) (outG (argH m c) (argN m c) (argW m c)) := by
  rw [Value.flushed17]
  funext j
  rw [View.read_apply, emb17 t j]
  refine Eq.trans ?_ (out17_at m c t (j 0) (j 1))
  exact congrArg (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)) (pair_eta j)

theorem mem17 (i : S32768x1024.Idx) : ∃ t : Fin cfg0.N, i ∈ (win0_17.rect t).set := by
  have h0 : (i 0).val < 32768 := (i 0).isLt
  have h1 : (i 1).val < 1024 := (i 1).isLt
  have e0 := congrArg Fin.val (point_coords ⟨(i 0).val / 512, by omega⟩)
  generalize point ⟨(i 0).val / 512, by omega⟩ = t at e0
  refine ⟨t, (Rect.mem_set_unit ..).mpr fun a => ?_⟩
  match a with
  | ⟨0, _⟩ =>
    show cc0_transform_0 (grid0.coords t) 0 * 512 ≤ (i 0).val ∧ (i 0).val < cc0_transform_0 (grid0.coords t) 0 * 512 + 512
    rw [tr_row, show (![(grid0.coords t 0).val, 0] : Fin 2 → ℕ) 0 = (i 0).val / 512 from e0]
    omega
  | ⟨1, _⟩ =>
    show cc0_transform_0 (grid0.coords t) 1 * 1024 ≤ (i 1).val ∧ (i 1).val < cc0_transform_0 (grid0.coords t) 1 * 1024 + 1024
    rw [tr_row, show (![(grid0.coords t 0).val, 0] : Fin 2 → ℕ) 1 = 0 from rfl]
    omega

theorem final17 : (dats m 0 c).arrAt 17 cfg0.N = outG (argH m c) (argN m c) (argW m c) :=
  (dats m 0 c).arrAt_eq_of_cover 17 _ (fun t _ => flushed17_eq m c t) fun i => by
    obtain ⟨t, h⟩ := mem17 i
    refine ⟨t, flush0_17 t, ?_⟩
    show i ∈ ((View.whole main_v38_6).slice (win0_17.rect t)).set
    rw [View.set_slice_whole]
    exact h

end Cert.Kernel4Ideal.Proj0

end
-- ==== Proof.Proj0Ref.lean ====
/- Layer 0's input projection: the reference's seven arrays, read at one element, and the claim. -/
module

public import proofs.«01_k».proof.Defs
public import proofs.«01_k».proof.Proof.Proj0
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Gen.Reference4Ideal.Read
public import Idealize.ShloMosaic.Adequacy
public import Idealize.ShloMosaic.Init

@[expose] public section

set_option maxRecDepth 16384

noncomputable section

namespace Cert.Reference4Ideal.Proj0

open Cert.Reference4Ideal Cert.Reference4Ideal.Gen Cert.Reference4Ideal.Read
open Idealize.ShloMosaic
open Cert.Kernel2Ideal.Proj1 (sg normed proj bat pos)
open Cert.Kernel4Ideal.Proj0 (el turn mate col tab cosV sinV tab_left tab_right outZ outX outD outQ outK outV outG pair_eta)

variable (x0 : Vec Ideal S4x8192x1024 .f32) (x1 : Vec Ideal S1024 .f32) (x2 : Vec Ideal S1024x6672 .f32)

theorem v30_at (b : Fin 4) (i : Fin 8192) (k : Fin 1024) :
    val_main_v30 x0 x1 (ix3 b i k) = normed (fun j => x0 (ix3 b i j)) (fun j => x1 (ix1 j)) k := by
  unfold normed
  pointwise [val_main_v30, val_main_v29, val_main_v28, val_main_v27, val_main_v26, val_main_v25, val_main_v24, val_main_v23, val_main_v22, val_main_v21, val_main_v20, val_main_v19, val_main_v18, val_main_cst_3, val_main_cst_4, val_main_cst_5]

theorem v31_at (b : Fin 4) (i : Fin 8192) (e : Fin 6672) :
    val_main_v31 x0 x1 x2 (ix3 b i e) = proj (fun j => x0 (ix3 b i j)) (fun j => x1 (ix1 j)) (fun k => x2 (ix2 k e)) := by
  rw [val_main_v31_apply]
  refine Finset.sum_congr rfl fun k _ => congrArg₂ (· * ·) ?_ ?_
  · rw [← v30_at]; congr 1; funext a; fin_cases a <;> rfl
  · congr 1; funext a; fin_cases a <;> rfl

theorem el_at (r : Fin 32768) (e : Fin 6672) : val_main_v31 x0 x1 x2 (ix3 (bat r) (pos r) e) = el x0 x1 x2 r e :=
  v31_at x0 x1 x2 (bat r) (pos r) e

theorem v32_at (b : Fin 4) (i : Fin 8192) (e : Fin 1024) : val_main_v32 x0 x1 x2 (ix3 b i e) = val_main_v31 x0 x1 x2 (ix3 b i (col 0 (by decide) e)) := by
  rw [val_main_v32_apply]
  congr 1; funext a; fin_cases a <;> apply Fin.ext <;> simp [col, ix3]

theorem v33_at (b : Fin 4) (i : Fin 8192) (e : Fin 1536) : val_main_v33 x0 x1 x2 (ix3 b i e) = val_main_v31 x0 x1 x2 (ix3 b i (col 1024 (by decide) e)) := by
  rw [val_main_v33_apply]
  congr 1; funext a; fin_cases a <;> apply Fin.ext <;> simp [col, ix3]

theorem v34_at (b : Fin 4) (i : Fin 8192) (e : Fin 16) : val_main_v34 x0 x1 x2 (ix3 b i e) = val_main_v31 x0 x1 x2 (ix3 b i (col 2560 (by decide) e)) := by
  rw [val_main_v34_apply]
  congr 1; funext a; fin_cases a <;> apply Fin.ext <;> simp [col, ix3]

theorem v35_at (b : Fin 4) (i : Fin 8192) (e : Fin 1024) : val_main_v35 x0 x1 x2 (ix3 b i e) = val_main_v31 x0 x1 x2 (ix3 b i (col 2576 (by decide) e)) := by
  rw [val_main_v35_apply]
  congr 1; funext a; fin_cases a <;> apply Fin.ext <;> simp [col, ix3]

theorem v36_at (b : Fin 4) (i : Fin 8192) (e : Fin 1024) : val_main_v36 x0 x1 x2 (ix3 b i e) = val_main_v31 x0 x1 x2 (ix3 b i (col 3600 (by decide) e)) := by
  rw [val_main_v36_apply]
  congr 1; funext a; fin_cases a <;> apply Fin.ext <;> simp [col, ix3]

theorem v37_at (b : Fin 4) (i : Fin 8192) (e : Fin 1024) : val_main_v37 x0 x1 x2 (ix3 b i e) = val_main_v31 x0 x1 x2 (ix3 b i (col 4624 (by decide) e)) := by
  rw [val_main_v37_apply]
  congr 1; funext a; fin_cases a <;> apply Fin.ext <;> simp [col, ix3]

theorem v38_at (b : Fin 4) (i : Fin 8192) (e : Fin 1024) : val_main_v38 x0 x1 x2 (ix3 b i e) = val_main_v31 x0 x1 x2 (ix3 b i (col 5648 (by decide) e)) := by
  rw [val_main_v38_apply]
  congr 1; funext a; fin_cases a <;> apply Fin.ext <;> simp [col, ix3]

theorem v80_at (j : S4x8192x1024.Idx) : val_main_v80 x0 x1 x2 j = val_main_v32 x0 x1 x2 j * sg (val_main_v32 x0 x1 x2 j) := by
  unfold sg
  pointwise [val_main_v80, val_main_call1_v5, val_main_call1_v4, val_main_call1_v3, val_main_call1_v2, val_main_call1_v1, val_main_call1_v0, val_main_call1_cst, val_main_call1_cst_0]

theorem v91_at (j : S4x8192x1024.Idx) : val_main_v91 x0 x1 x2 j = val_main_v38 x0 x1 x2 j * sg (val_main_v38 x0 x1 x2 j) := by
  unfold sg
  pointwise [val_main_v91, val_main_call2_v5, val_main_call2_v4, val_main_call2_v3, val_main_call2_v2, val_main_call2_v1, val_main_call2_v0, val_main_call2_cst, val_main_call2_cst_0]

theorem rows82 (r : Fin 32768) (e : Fin 1024) : idx_main_v82 (ix2 r e) = ix3 (bat r) (pos r) e := by
  funext a
  apply Fin.ext
  match a with
  | ⟨0, _⟩ => show (r.val * 1024 + e.val) / 8388608 = r.val / 8192; omega
  | ⟨1, _⟩ => show (r.val * 1024 + e.val) / 1024 % 8192 = r.val % 8192; omega
  | ⟨2, _⟩ => show (r.val * 1024 + e.val) % 1024 = e.val; omega

theorem rows84 (r : Fin 32768) (e : Fin 1536) : idx_main_v84 (ix2 r e) = ix3 (bat r) (pos r) e := by
  funext a
  apply Fin.ext
  match a with
  | ⟨0, _⟩ => show (r.val * 1536 + e.val) / 12582912 = r.val / 8192; omega
  | ⟨1, _⟩ => show (r.val * 1536 + e.val) / 1536 % 8192 = r.val % 8192; omega
  | ⟨2, _⟩ => show (r.val * 1536 + e.val) % 1536 = e.val; omega

theorem rows85 (r : Fin 32768) (e : Fin 128) : idx_main_v85 (ix2 r e) = ix3 (bat r) (pos r) e := by
  funext a
  apply Fin.ext
  match a with
  | ⟨0, _⟩ => show (r.val * 128 + e.val) / 1048576 = r.val / 8192; omega
  | ⟨1, _⟩ => show (r.val * 128 + e.val) / 128 % 8192 = r.val % 8192; omega
  | ⟨2, _⟩ => show (r.val * 128 + e.val) % 128 = e.val; omega

theorem rows90 (r : Fin 32768) (e : Fin 1024) : idx_main_v90 (ix2 r e) = ix3 (bat r) (pos r) e := by
  funext a
  apply Fin.ext
  match a with
  | ⟨0, _⟩ => show (r.val * 1024 + e.val) / 8388608 = r.val / 8192; omega
  | ⟨1, _⟩ => show (r.val * 1024 + e.val) / 1024 % 8192 = r.val % 8192; omega
  | ⟨2, _⟩ => show (r.val * 1024 + e.val) % 1024 = e.val; omega

theorem rows93 (r : Fin 32768) (e : Fin 1024) : idx_main_v93 (ix2 r e) = ix3 (bat r) (pos r) e := by
  funext a
  apply Fin.ext
  match a with
  | ⟨0, _⟩ => show (r.val * 1024 + e.val) / 8388608 = r.val / 8192; omega
  | ⟨1, _⟩ => show (r.val * 1024 + e.val) / 1024 % 8192 = r.val % 8192; omega
  | ⟨2, _⟩ => show (r.val * 1024 + e.val) % 1024 = e.val; omega

theorem v82_at (r : Fin 32768) (e : Fin 1024) : val_main_v82 x0 x1 x2 (ix2 r e) = outZ x0 x1 x2 (ix2 r e) := by
  rw [val_main_v82_apply, rows82]
  refine (v80_at x0 x1 x2 _).trans ?_
  rw [v32_at, el_at]
  rfl

theorem v84_at (r : Fin 32768) (e : Fin 1536) : val_main_v84 x0 x1 x2 (ix2 r e) = outX x0 x1 x2 (ix2 r e) := by
  rw [val_main_v84_apply, rows84]
  refine (v33_at x0 x1 x2 _ _ _).trans ?_
  rw [el_at]
  rfl

theorem blank_at (i : S_.Idx) : (val_main_call0_v0 (F := Ideal)) i = (0 : EReal) := by
  show ((((0#32 : BitVec 32).toInt : ℝ)) : EReal) = 0
  simp

theorem v85_at (r : Fin 32768) (e : Fin 128) : val_main_v85 x0 x1 x2 (ix2 r e) = outD x0 x1 x2 (ix2 r e) := by
  rw [val_main_v85_apply, rows85]
  unfold val_main_v79 outD
  by_cases he : e.val < 16
  · refine Eq.trans ?_ (dif_pos he).symm
    refine (pad_apply_of_inside _ _ _ _ _ _ _ _ (ix3 (bat r) (pos r) (⟨e.val, he⟩ : Fin 16)) fun a => ?_).trans ?_
    · match a with
      | ⟨0, _⟩ => show (bat r).val = 0 + (bat r).val * (0 + 1); omega
      | ⟨1, _⟩ => show (pos r).val = 0 + (pos r).val * (0 + 1); omega
      | ⟨2, _⟩ => show e.val = 0 + e.val * (0 + 1); omega
    rw [v34_at, el_at]
    rfl
  · refine Eq.trans ?_ (dif_neg he).symm
    refine (pad_apply_of_not_inside _ _ _ _ _ _ _ _ (2 : Fin 3) ?_).trans (blank_at _)
    show ¬ (0 ≤ e.val ∧ (e.val - 0) % (0 + 1) = 0 ∧ (e.val - 0) / (0 + 1) < 16)
    simp
    omega

theorem v90_at (r : Fin 32768) (e : Fin 1024) : val_main_v90 x0 x1 x2 (ix2 r e) = outV x0 x1 x2 (ix2 r e) := by
  rw [val_main_v90_apply, rows90]
  refine (v37_at x0 x1 x2 _ _ _).trans ?_
  rw [el_at]
  rfl

theorem v93_at (r : Fin 32768) (e : Fin 1024) : val_main_v93 x0 x1 x2 (ix2 r e) = outG x0 x1 x2 (ix2 r e) := by
  rw [val_main_v93_apply, rows93]
  refine (v91_at x0 x1 x2 _).trans ?_
  rw [v38_at, el_at]
  rfl

/-! ## The turned queries and keys -/

theorem cos_eq : val_main_v16 (F := Ideal) = cosV := rfl

theorem sin_eq : val_main_v17 (F := Ideal) = sinV := rfl

/-- A head's place and its column, as one column of the row. -/
def flat (a : Fin 8) (d : Fin 2) (l : Fin 64) : Fin 1024 := ⟨(a.val * 2 + d.val) * 64 + l.val, by omega⟩

/-- A column in one half of a head. -/
def lo (l : Fin 32) : Fin 64 := ⟨l.val, by omega⟩
def hi (l : Fin 32) : Fin 64 := ⟨l.val + 32, by omega⟩

/-- A row turned, the half of the head apart. -/
theorem turn_lo (f : Fin 1024 → EReal) (i : Fin 8192) (a : Fin 8) (d : Fin 2) (l : Fin 32) :
    turn f i (flat a d (lo l)) = f (flat a d (lo l)) * cosV (ix2 i l) - f (flat a d (hi l)) * sinV (ix2 i l) := by
  have hl : (flat a d (lo l)).val % 128 % 64 = l.val := by show ((a.val * 2 + d.val) * 64 + l.val) % 128 % 64 = l.val; omega
  have hm : mate (flat a d (lo l)) = flat a d (hi l) := by
    have h : (flat a d (lo l)).val % 64 < 32 := by show ((a.val * 2 + d.val) * 64 + l.val) % 64 < 32; omega
    unfold mate
    rw [dif_pos h]
    apply Fin.ext
    show (a.val * 2 + d.val) * 64 + l.val + 32 = (a.val * 2 + d.val) * 64 + (l.val + 32)
    omega
  have hc : (⟨(flat a d (lo l)).val % 128 % 64, by omega⟩ : Fin 32) = l := Fin.ext hl
  unfold turn
  rw [tab_left _ _ _ _ (by show (flat a d (lo l)).val % 128 % 64 < 32; omega), tab_left _ _ _ _ (by show (flat a d (lo l)).val % 128 % 64 < 32; omega), hm]
  show f (flat a d (lo l)) * cosV (ix2 i (⟨(flat a d (lo l)).val % 128 % 64, by omega⟩ : Fin 32)) + f (flat a d (hi l)) * (-(sinV (ix2 i (⟨(flat a d (lo l)).val % 128 % 64, by omega⟩ : Fin 32)) : EReal)) = _
  rw [hc, mul_neg, ← sub_eq_add_neg]

theorem turn_hi (f : Fin 1024 → EReal) (i : Fin 8192) (a : Fin 8) (d : Fin 2) (l : Fin 32) :
    turn f i (flat a d (hi l)) = f (flat a d (hi l)) * cosV (ix2 i l) + f (flat a d (lo l)) * sinV (ix2 i l) := by
  have hl : (flat a d (hi l)).val % 128 % 64 = l.val + 32 := by show ((a.val * 2 + d.val) * 64 + (l.val + 32)) % 128 % 64 = l.val + 32; omega
  have hm : mate (flat a d (hi l)) = flat a d (lo l) := by
    have h : ¬ (flat a d (hi l)).val % 64 < 32 := by show ¬ ((a.val * 2 + d.val) * 64 + (l.val + 32)) % 64 < 32; omega
    unfold mate
    rw [dif_neg h]
    apply Fin.ext
    show (a.val * 2 + d.val) * 64 + (l.val + 32) - 32 = (a.val * 2 + d.val) * 64 + l.val
    omega
  have hc : (⟨(flat a d (hi l)).val % 128 % 64 - 32, by omega⟩ : Fin 32) = l := Fin.ext (by show (flat a d (hi l)).val % 128 % 64 - 32 = l.val; omega)
  unfold turn
  rw [tab_right _ _ _ _ (by show ¬ (flat a d (hi l)).val % 128 % 64 < 32; omega), tab_right _ _ _ _ (by show ¬ (flat a d (hi l)).val % 128 % 64 < 32; omega), hm]
  show f (flat a d (hi l)) * cosV (ix2 i (⟨(flat a d (hi l)).val % 128 % 64 - 32, by omega⟩ : Fin 32)) + f (flat a d (lo l)) * sinV (ix2 i (⟨(flat a d (hi l)).val % 128 % 64 - 32, by omega⟩ : Fin 32)) = _
  rw [hc]

theorem v39_at (b : Fin 4) (i : Fin 8192) (a : Fin 8) (d : Fin 2) (l : Fin 64) : val_main_v39 x0 x1 x2 (ix5 b i a d l) = val_main_v35 x0 x1 x2 (ix3 b i (flat a d l)) := by
  rw [val_main_v39_apply]
  congr 1
  funext u
  apply Fin.ext
  match u with
  | ⟨0, _⟩ => show ((((b.val * 8192 + i.val) * 8 + a.val) * 2 + d.val) * 64 + l.val) / 8388608 = b.val; omega
  | ⟨1, _⟩ => show ((((b.val * 8192 + i.val) * 8 + a.val) * 2 + d.val) * 64 + l.val) / 1024 % 8192 = i.val; omega
  | ⟨2, _⟩ => show ((((b.val * 8192 + i.val) * 8 + a.val) * 2 + d.val) * 64 + l.val) % 1024 = (a.val * 2 + d.val) * 64 + l.val; omega

theorem v42_at (b : Fin 4) (i : Fin 8192) (a : Fin 8) (d : Fin 2) (l : Fin 32) : val_main_v42 x0 x1 x2 (ix5 b i a d l) = val_main_v35 x0 x1 x2 (ix3 b i (flat a d (lo l))) := by
  rw [val_main_v42_apply, ← v39_at]
  congr 1
  funext u
  apply Fin.ext
  match u with
  | ⟨0, _⟩ => rfl
  | ⟨1, _⟩ => rfl
  | ⟨2, _⟩ => rfl
  | ⟨3, _⟩ => rfl
  | ⟨4, _⟩ => rfl

theorem v43_at (b : Fin 4) (i : Fin 8192) (a : Fin 8) (d : Fin 2) (l : Fin 32) : val_main_v43 x0 x1 x2 (ix5 b i a d l) = val_main_v35 x0 x1 x2 (ix3 b i (flat a d (hi l))) := by
  rw [val_main_v43_apply, ← v39_at]
  congr 1
  funext u
  apply Fin.ext
  match u with
  | ⟨0, _⟩ => rfl
  | ⟨1, _⟩ => rfl
  | ⟨2, _⟩ => rfl
  | ⟨3, _⟩ => rfl
  | ⟨4, _⟩ => show 32 + l.val = l.val + 32; omega

theorem v45_at (b : Fin 4) (i : Fin 8192) (a : Fin 8) (d : Fin 2) (l : Fin 32) : val_main_v45 (F := Ideal) (ix5 b i a d l) = val_main_v16 (ix2 i l) := by
  rw [val_main_v45_apply, val_main_v44_apply, val_main_v40_apply]
  congr 1
  funext u
  match u with
  | ⟨0, _⟩ => rfl
  | ⟨1, _⟩ => rfl

theorem v48_at (b : Fin 4) (i : Fin 8192) (a : Fin 8) (d : Fin 2) (l : Fin 32) : val_main_v48 (F := Ideal) (ix5 b i a d l) = val_main_v17 (ix2 i l) := by
  rw [val_main_v48_apply, val_main_v47_apply, val_main_v41_apply]
  congr 1
  funext u
  match u with
  | ⟨0, _⟩ => rfl
  | ⟨1, _⟩ => rfl

theorem v52_at (b : Fin 4) (i : Fin 8192) (a : Fin 8) (d : Fin 2) (l : Fin 32) : val_main_v52 (F := Ideal) (ix5 b i a d l) = val_main_v16 (ix2 i l) := by
  rw [val_main_v52_apply, val_main_v51_apply, val_main_v40_apply]
  congr 1
  funext u
  match u with
  | ⟨0, _⟩ => rfl
  | ⟨1, _⟩ => rfl

theorem v55_at (b : Fin 4) (i : Fin 8192) (a : Fin 8) (d : Fin 2) (l : Fin 32) : val_main_v55 (F := Ideal) (ix5 b i a d l) = val_main_v17 (ix2 i l) := by
  rw [val_main_v55_apply, val_main_v54_apply, val_main_v41_apply]
  congr 1
  funext u
  match u with
  | ⟨0, _⟩ => rfl
  | ⟨1, _⟩ => rfl

theorem v50_at (b : Fin 4) (i : Fin 8192) (a : Fin 8) (d : Fin 2) (l : Fin 32) :
    val_main_v50 x0 x1 x2 (ix5 b i a d l) = turn (fun e => val_main_v35 x0 x1 x2 (ix3 b i e)) i (flat a d (lo l)) := by
  rw [turn_lo, ← cos_eq, ← sin_eq, ← v45_at b i a d l, ← v48_at b i a d l, ← v42_at, ← v43_at]
  rfl

theorem v57_at (b : Fin 4) (i : Fin 8192) (a : Fin 8) (d : Fin 2) (l : Fin 32) :
    val_main_v57 x0 x1 x2 (ix5 b i a d l) = turn (fun e => val_main_v35 x0 x1 x2 (ix3 b i e)) i (flat a d (hi l)) := by
  rw [turn_hi, ← cos_eq, ← sin_eq, ← v52_at b i a d l, ← v55_at b i a d l, ← v42_at, ← v43_at]
  rfl

theorem v58_at (b : Fin 4) (i : Fin 8192) (a : Fin 8) (d : Fin 2) (l : Fin 64) :
    val_main_v58 x0 x1 x2 (ix5 b i a d l) = turn (fun e => val_main_v35 x0 x1 x2 (ix3 b i e)) i (flat a d l) := by
  unfold val_main_v58
  by_cases h : l.val < 32
  · refine (concatenate_pair_apply_left (t := S4x8192x8x2x64) (s₁ := S4x8192x8x2x32) (s₂ := S4x8192x8x2x32) 4 (val_main_v50 x0 x1 x2) (val_main_v57 x0 x1 x2) concatenates_S4x8192x8x2x32_S4x8192x8x2x32_S4x8192x8x2x64_d4 (ix5 b i a d l) rfl (ix5 b i a d (⟨l.val, h⟩ : Fin 32)) fun u => ?_).trans (v50_at x0 x1 x2 b i a d _)
    match u with
    | ⟨0, _⟩ => rfl
    | ⟨1, _⟩ => rfl
    | ⟨2, _⟩ => rfl
    | ⟨3, _⟩ => rfl
    | ⟨4, _⟩ => rfl
  · refine (concatenate_pair_apply_right (t := S4x8192x8x2x64) (s₁ := S4x8192x8x2x32) (s₂ := S4x8192x8x2x32) 4 (val_main_v50 x0 x1 x2) (val_main_v57 x0 x1 x2) concatenates_S4x8192x8x2x32_S4x8192x8x2x32_S4x8192x8x2x64_d4 (ix5 b i a d l) rfl rfl (ix5 b i a d (⟨l.val - 32, by omega⟩ : Fin 32)) (fun u hu => ?_) ?_).trans ((v57_at x0 x1 x2 b i a d _).trans ?_)
    · match u with
      | ⟨0, _⟩ => rfl
      | ⟨1, _⟩ => rfl
      | ⟨2, _⟩ => rfl
      | ⟨3, _⟩ => rfl
      | ⟨4, _⟩ => exact absurd rfl hu
    · show l.val - 32 + 32 = l.val
      omega
    · rw [show hi (⟨l.val - 32, by omega⟩ : Fin 32) = l from Fin.ext (by show l.val - 32 + 32 = l.val; omega)]

theorem heads86 (r : Fin 32768) (e : Fin 1024) : idx_main_v86 (ix2 r e) = ix5 (bat r) (pos r) (⟨e.val / 128, by omega⟩ : Fin 8) (⟨e.val / 64 % 2, by omega⟩ : Fin 2) (⟨e.val % 64, by omega⟩ : Fin 64) := by
  funext a
  apply Fin.ext
  match a with
  | ⟨0, _⟩ => show (r.val * 1024 + e.val) / 8388608 = r.val / 8192; omega
  | ⟨1, _⟩ => show (r.val * 1024 + e.val) / 1024 % 8192 = r.val % 8192; omega
  | ⟨2, _⟩ => show (r.val * 1024 + e.val) / 128 % 8 = e.val / 128; omega
  | ⟨3, _⟩ => show (r.val * 1024 + e.val) / 64 % 2 = e.val / 64 % 2; omega
  | ⟨4, _⟩ => show (r.val * 1024 + e.val) % 64 = e.val % 64; omega

theorem v86_at (r : Fin 32768) (e : Fin 1024) : val_main_v86 x0 x1 x2 (ix2 r e) = outQ x0 x1 x2 (ix2 r e) := by
  rw [val_main_v86_apply, heads86]
  refine (v58_at x0 x1 x2 _ _ _ _ _).trans ?_
  rw [show flat (⟨e.val / 128, by omega⟩ : Fin 8) (⟨e.val / 64 % 2, by omega⟩ : Fin 2) (⟨e.val % 64, by omega⟩ : Fin 64) = e from
    Fin.ext (by show (e.val / 128 * 2 + e.val / 64 % 2) * 64 + e.val % 64 = e.val; omega)]
  simp only [v35_at, el_at]
  rfl

theorem v59_at (b : Fin 4) (i : Fin 8192) (a : Fin 8) (d : Fin 2) (l : Fin 64) : val_main_v59 x0 x1 x2 (ix5 b i a d l) = val_main_v36 x0 x1 x2 (ix3 b i (flat a d l)) := by
  rw [val_main_v59_apply]
  congr 1
  funext u
  apply Fin.ext
  match u with
  | ⟨0, _⟩ => show ((((b.val * 8192 + i.val) * 8 + a.val) * 2 + d.val) * 64 + l.val) / 8388608 = b.val; omega
  | ⟨1, _⟩ => show ((((b.val * 8192 + i.val) * 8 + a.val) * 2 + d.val) * 64 + l.val) / 1024 % 8192 = i.val; omega
  | ⟨2, _⟩ => show ((((b.val * 8192 + i.val) * 8 + a.val) * 2 + d.val) * 64 + l.val) % 1024 = (a.val * 2 + d.val) * 64 + l.val; omega

theorem v62_at (b : Fin 4) (i : Fin 8192) (a : Fin 8) (d : Fin 2) (l : Fin 32) : val_main_v62 x0 x1 x2 (ix5 b i a d l) = val_main_v36 x0 x1 x2 (ix3 b i (flat a d (lo l))) := by
  rw [val_main_v62_apply, ← v59_at]
  congr 1
  funext u
  apply Fin.ext
  match u with
  | ⟨0, _⟩ => rfl
  | ⟨1, _⟩ => rfl
  | ⟨2, _⟩ => rfl
  | ⟨3, _⟩ => rfl
  | ⟨4, _⟩ => rfl

theorem v63_at (b : Fin 4) (i : Fin 8192) (a : Fin 8) (d : Fin 2) (l : Fin 32) : val_main_v63 x0 x1 x2 (ix5 b i a d l) = val_main_v36 x0 x1 x2 (ix3 b i (flat a d (hi l))) := by
  rw [val_main_v63_apply, ← v59_at]
  congr 1
  funext u
  apply Fin.ext
  match u with
  | ⟨0, _⟩ => rfl
  | ⟨1, _⟩ => rfl
  | ⟨2, _⟩ => rfl
  | ⟨3, _⟩ => rfl
  | ⟨4, _⟩ => show 32 + l.val = l.val + 32; omega

theorem v65_at (b : Fin 4) (i : Fin 8192) (a : Fin 8) (d : Fin 2) (l : Fin 32) : val_main_v65 (F := Ideal) (ix5 b i a d l) = val_main_v16 (ix2 i l) := by
  rw [val_main_v65_apply, val_main_v64_apply, val_main_v60_apply]
  congr 1
  funext u
  match u with
  | ⟨0, _⟩ => rfl
  | ⟨1, _⟩ => rfl

theorem v68_at (b : Fin 4) (i : Fin 8192) (a : Fin 8) (d : Fin 2) (l : Fin 32) : val_main_v68 (F := Ideal) (ix5 b i a d l) = val_main_v17 (ix2 i l) := by
  rw [val_main_v68_apply, val_main_v67_apply, val_main_v61_apply]
  congr 1
  funext u
  match u with
  | ⟨0, _⟩ => rfl
  | ⟨1, _⟩ => rfl

theorem v72_at (b : Fin 4) (i : Fin 8192) (a : Fin 8) (d : Fin 2) (l : Fin 32) : val_main_v72 (F := Ideal) (ix5 b i a d l) = val_main_v16 (ix2 i l) := by
  rw [val_main_v72_apply, val_main_v71_apply, val_main_v60_apply]
  congr 1
  funext u
  match u with
  | ⟨0, _⟩ => rfl
  | ⟨1, _⟩ => rfl

theorem v75_at (b : Fin 4) (i : Fin 8192) (a : Fin 8) (d : Fin 2) (l : Fin 32) : val_main_v75 (F := Ideal) (ix5 b i a d l) = val_main_v17 (ix2 i l) := by
  rw [val_main_v75_apply, val_main_v74_apply, val_main_v61_apply]
  congr 1
  funext u
  match u with
  | ⟨0, _⟩ => rfl
  | ⟨1, _⟩ => rfl

theorem v70_at (b : Fin 4) (i : Fin 8192) (a : Fin 8) (d : Fin 2) (l : Fin 32) :
    val_main_v70 x0 x1 x2 (ix5 b i a d l) = turn (fun e => val_main_v36 x0 x1 x2 (ix3 b i e)) i (flat a d (lo l)) := by
  rw [turn_lo, ← cos_eq, ← sin_eq, ← v65_at b i a d l, ← v68_at b i a d l, ← v62_at, ← v63_at]
  rfl

theorem v77_at (b : Fin 4) (i : Fin 8192) (a : Fin 8) (d : Fin 2) (l : Fin 32) :
    val_main_v77 x0 x1 x2 (ix5 b i a d l) = turn (fun e => val_main_v36 x0 x1 x2 (ix3 b i e)) i (flat a d (hi l)) := by
  rw [turn_hi, ← cos_eq, ← sin_eq, ← v72_at b i a d l, ← v75_at b i a d l, ← v62_at, ← v63_at]
  rfl

theorem v78_at (b : Fin 4) (i : Fin 8192) (a : Fin 8) (d : Fin 2) (l : Fin 64) :
    val_main_v78 x0 x1 x2 (ix5 b i a d l) = turn (fun e => val_main_v36 x0 x1 x2 (ix3 b i e)) i (flat a d l) := by
  unfold val_main_v78
  by_cases h : l.val < 32
  · refine (concatenate_pair_apply_left (t := S4x8192x8x2x64) (s₁ := S4x8192x8x2x32) (s₂ := S4x8192x8x2x32) 4 (val_main_v70 x0 x1 x2) (val_main_v77 x0 x1 x2) concatenates_S4x8192x8x2x32_S4x8192x8x2x32_S4x8192x8x2x64_d4 (ix5 b i a d l) rfl (ix5 b i a d (⟨l.val, h⟩ : Fin 32)) fun u => ?_).trans (v70_at x0 x1 x2 b i a d _)
    match u with
    | ⟨0, _⟩ => rfl
    | ⟨1, _⟩ => rfl
    | ⟨2, _⟩ => rfl
    | ⟨3, _⟩ => rfl
    | ⟨4, _⟩ => rfl
  · refine (concatenate_pair_apply_right (t := S4x8192x8x2x64) (s₁ := S4x8192x8x2x32) (s₂ := S4x8192x8x2x32) 4 (val_main_v70 x0 x1 x2) (val_main_v77 x0 x1 x2) concatenates_S4x8192x8x2x32_S4x8192x8x2x32_S4x8192x8x2x64_d4 (ix5 b i a d l) rfl rfl (ix5 b i a d (⟨l.val - 32, by omega⟩ : Fin 32)) (fun u hu => ?_) ?_).trans ((v77_at x0 x1 x2 b i a d _).trans ?_)
    · match u with
      | ⟨0, _⟩ => rfl
      | ⟨1, _⟩ => rfl
      | ⟨2, _⟩ => rfl
      | ⟨3, _⟩ => rfl
      | ⟨4, _⟩ => exact absurd rfl hu
    · show l.val - 32 + 32 = l.val
      omega
    · rw [show hi (⟨l.val - 32, by omega⟩ : Fin 32) = l from Fin.ext (by show l.val - 32 + 32 = l.val; omega)]

theorem heads88 (r : Fin 32768) (e : Fin 1024) : idx_main_v88 (ix2 r e) = ix5 (bat r) (pos r) (⟨e.val / 128, by omega⟩ : Fin 8) (⟨e.val / 64 % 2, by omega⟩ : Fin 2) (⟨e.val % 64, by omega⟩ : Fin 64) := by
  funext a
  apply Fin.ext
  match a with
  | ⟨0, _⟩ => show (r.val * 1024 + e.val) / 8388608 = r.val / 8192; omega
  | ⟨1, _⟩ => show (r.val * 1024 + e.val) / 1024 % 8192 = r.val % 8192; omega
  | ⟨2, _⟩ => show (r.val * 1024 + e.val) / 128 % 8 = e.val / 128; omega
  | ⟨3, _⟩ => show (r.val * 1024 + e.val) / 64 % 2 = e.val / 64 % 2; omega
  | ⟨4, _⟩ => show (r.val * 1024 + e.val) % 64 = e.val % 64; omega

theorem v88_at (r : Fin 32768) (e : Fin 1024) : val_main_v88 x0 x1 x2 (ix2 r e) = outK x0 x1 x2 (ix2 r e) := by
  rw [val_main_v88_apply, heads88]
  refine (v78_at x0 x1 x2 _ _ _ _ _).trans ?_
  rw [show flat (⟨e.val / 128, by omega⟩ : Fin 8) (⟨e.val / 64 % 2, by omega⟩ : Fin 2) (⟨e.val % 64, by omega⟩ : Fin 64) = e from
    Fin.ext (by show (e.val / 128 * 2 + e.val / 64 % 2) * 64 + e.val % 64 = e.val; omega)]
  simp only [v36_at, el_at]
  rfl

theorem v82_val : val_main_v82 x0 x1 x2 = outZ x0 x1 x2 := by
  funext j
  rw [pair_eta j]
  exact v82_at x0 x1 x2 (j 0) (j 1)

theorem v84_val : val_main_v84 x0 x1 x2 = outX x0 x1 x2 := by
  funext j
  rw [pair_eta j]
  exact v84_at x0 x1 x2 (j 0) (j 1)

theorem v85_val : val_main_v85 x0 x1 x2 = outD x0 x1 x2 := by
  funext j
  rw [pair_eta j]
  exact v85_at x0 x1 x2 (j 0) (j 1)

theorem v86_val : val_main_v86 x0 x1 x2 = outQ x0 x1 x2 := by
  funext j
  rw [pair_eta j]
  exact v86_at x0 x1 x2 (j 0) (j 1)

theorem v88_val : val_main_v88 x0 x1 x2 = outK x0 x1 x2 := by
  funext j
  rw [pair_eta j]
  exact v88_at x0 x1 x2 (j 0) (j 1)

theorem v90_val : val_main_v90 x0 x1 x2 = outV x0 x1 x2 := by
  funext j
  rw [pair_eta j]
  exact v90_at x0 x1 x2 (j 0) (j 1)

theorem v93_val : val_main_v93 x0 x1 x2 = outG x0 x1 x2 := by
  funext j
  rw [pair_eta j]
  exact v93_at x0 x1 x2 (j 0) (j 1)

end Cert.Reference4Ideal.Proj0

namespace Cert.Proof.Proj0

open Idealize.ShloMosaic Idealize.ShloMosaic.TcCoe Idealize.SL.Sem

theorem frame_kernel : Cert.quiescent_Kernel4 := fun m g _ => Cert.Kernel4.Gen.frame m g

theorem frame_ideal : Cert.quiescent_Kernel4Ideal := fun m g _ => Cert.Kernel4Ideal.Gen.frame m g

theorem frame_reference : Cert.quiescent_Reference4Ideal := fun m g _ =>
  (θ_run Cert.Reference4Ideal.defs _ _).mono (fun r h => ⟨fun c => (h c).2.2.2.2.2.2.2,
      Idealize.ShloMosaic.sem_eq_zero_of_no_sems (by decide) r.2⟩)
    (Cert.Reference4Ideal.Value.run (F := Ideal) m g)

theorem preserves : Cert.preserves_Kernel4_Kernel4Ideal := trivial

open Cert.Kernel4Ideal.Proj0 (outZ outX outD outQ outK outV outG argH argN argW final11 final12 final13 final14 final15 final16 final17) in
theorem algebraic : Cert.algebraic_Kernel4Ideal_Reference4Ideal := by
  intro m g m' g' _ hagree
  refine ⟨fun c => outZ (argH m c) (argN m c) (argW m c), fun c => outX (argH m c) (argN m c) (argW m c), fun c => outD (argH m c) (argN m c) (argW m c), fun c => outQ (argH m c) (argN m c) (argW m c), fun c => outK (argH m c) (argN m c) (argW m c), fun c => outV (argH m c) (argN m c) (argW m c), fun c => outG (argH m c) (argN m c) (argW m c),
    (θ_run Cert.Kernel4Ideal.defs _ _).mono (fun _ h c => ⟨(h c).1.trans (final11 m c), (h c).2.1.trans (final12 m c), (h c).2.2.1.trans (final13 m c), (h c).2.2.2.1.trans (final14 m c), (h c).2.2.2.2.1.trans (final15 m c), (h c).2.2.2.2.2.1.trans (final16 m c), (h c).2.2.2.2.2.2.1.trans (final17 m c), (h c).2.2.2.2.2.2.2⟩)
      (Cert.Kernel4Ideal.Value.run_blocks (F := Ideal) m g), ?_⟩
  refine (θ_run Cert.Reference4Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
    (Cert.Reference4Ideal.Value.run (F := Ideal) m' g')
  · rw [Cert.Reference4Ideal.Read.val_main_v82_eq, (hagree c).1, (hagree c).2.1, (hagree c).2.2]
    exact Cert.Reference4Ideal.Proj0.v82_val _ _ _
  · rw [Cert.Reference4Ideal.Read.val_main_v84_eq, (hagree c).1, (hagree c).2.1, (hagree c).2.2]
    exact Cert.Reference4Ideal.Proj0.v84_val _ _ _
  · rw [Cert.Reference4Ideal.Read.val_main_v85_eq, (hagree c).1, (hagree c).2.1, (hagree c).2.2]
    exact Cert.Reference4Ideal.Proj0.v85_val _ _ _
  · rw [Cert.Reference4Ideal.Read.val_main_v86_eq, (hagree c).1, (hagree c).2.1, (hagree c).2.2]
    exact Cert.Reference4Ideal.Proj0.v86_val _ _ _
  · rw [Cert.Reference4Ideal.Read.val_main_v88_eq, (hagree c).1, (hagree c).2.1, (hagree c).2.2]
    exact Cert.Reference4Ideal.Proj0.v88_val _ _ _
  · rw [Cert.Reference4Ideal.Read.val_main_v90_eq, (hagree c).1, (hagree c).2.1, (hagree c).2.2]
    exact Cert.Reference4Ideal.Proj0.v90_val _ _ _
  · rw [Cert.Reference4Ideal.Read.val_main_v93_eq, (hagree c).1, (hagree c).2.1, (hagree c).2.2]
    exact Cert.Reference4Ideal.Proj0.v93_val _ _ _

end Cert.Proof.Proj0

end
-- ==== Proof.lean ====
/- The proof of the certificate's claim: the attention (`Proof/Frames.lean`, `Proof/Algebraic.lean`), layer 1's input
   projection (`Proof/Proj1Ref.lean`), layer 0's output projection (`Proof/Out0Ref.lean`) and its input projection
   (`Proof/Proj0Ref.lean`), behind the witnesses of the facts that the programs state. -/
module

public import proofs.«01_k».proof.Defs
public import proofs.«01_k».proof.Proof.Frames
public import proofs.«01_k».proof.Proof.Algebraic
public import proofs.«01_k».proof.Proof.Proj1Ref
public import proofs.«01_k».proof.Proof.Out0Ref
public import proofs.«01_k».proof.Proof.Proj0Ref
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite_inputs.Gen.facts,
    Attn.frame_kernel, Attn.frame_ideal, fun m g _ => Attn.frame_ideal m g trivial,
    Attn.frame_reference, fun m g _ => Attn.frame_reference m g trivial,
    Proj1.frame_kernel, Proj1.frame_ideal, Proj1.frame_reference,
    Out0.frame_kernel, Out0.frame_ideal, Out0.frame_reference,
    Proj0.frame_kernel, Proj0.frame_ideal, Proj0.frame_reference,
    Attn.preserves, Attn.algebraic, Proj1.preserves, Proj1.algebraic, Out0.preserves, Out0.algebraic,
    Proj0.preserves, Proj0.algebraic⟩

end Cert.Proof

end
